-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_v5_4) = v4 c
          ∧ r.2.mem ((c.tc : Thread Cert.ReferenceIdeal.nD Cert.ReferenceIdeal.τ).loc Cert.ReferenceIdeal.main_v5_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x4608x1536 : Shape := ⟨3, ![6, 4608, 1536]⟩
abbrev S6x1536 : Shape := ⟨2, ![6, 1536]⟩
abbrev S1536x2x1536 : Shape := ⟨3, ![1536, 2, 1536]⟩
abbrev S2x1536 : Shape := ⟨2, ![2, 1536]⟩
abbrev S1536x64 : Shape := ⟨2, ![1536, 64]⟩
abbrev S64 : Shape := ⟨1, ![64]⟩
abbrev S3 : Shape := ⟨1, ![3]⟩
abbrev S3x16x144x128 : Shape := ⟨4, ![3, 16, 144, 128]⟩
abbrev S2x3x4608x1536 : Shape := ⟨4, ![2, 3, 4608, 1536]⟩
abbrev S2x1536x1536 : Shape := ⟨3, ![2, 1536, 1536]⟩
abbrev S64x1536 : Shape := ⟨2, ![64, 1536]⟩
abbrev S64x1 : Shape := ⟨2, ![64, 1]⟩
abbrev S6x1 : Shape := ⟨2, ![6, 1]⟩
abbrev S2x3x1x4608 : Shape := ⟨4, ![2, 3, 1, 4608]⟩
abbrev S2x1x512x1536 : Shape := ⟨4, ![2, 1, 512, 1536]⟩
abbrev S1x16x16x128 : Shape := ⟨4, ![1, 16, 16, 128]⟩
abbrev S2x1x1x512 : Shape := ⟨4, ![2, 1, 1, 512]⟩
abbrev S2x6x1x1536 : Shape := ⟨4, ![2, 6, 1, 1536]⟩
abbrev S272x128 : Shape := ⟨2, ![272, 128]⟩
abbrev S6 : Shape := ⟨1, ![6]⟩
abbrev S1x1536x1536 : Shape := ⟨3, ![1, 1536, 1536]⟩
abbrev S1536x1536 : Shape := ⟨2, ![1536, 1536]⟩
abbrev S1x1536 : Shape := ⟨2, ![1, 1536]⟩
abbrev S1x1x1x1536 : Shape := ⟨4, ![1, 1, 1, 1536]⟩
abbrev S1x1x128x1536 : Shape := ⟨4, ![1, 1, 128, 1536]⟩
abbrev S128x1536 : Shape := ⟨2, ![128, 1536]⟩
abbrev S128 : Shape := ⟨1, ![128]⟩
abbrev S128x1 : Shape := ⟨2, ![128, 1]⟩
abbrev S128x128 : Shape := ⟨2, ![128, 128]⟩
abbrev S1x128 : Shape := ⟨2, ![1, 128]⟩
abbrev S1x512 : Shape := ⟨2, ![1, 512]⟩
abbrev S1x1x1x512 : Shape := ⟨4, ![1, 1, 1, 512]⟩
abbrev S1x1x512x1536 : Shape := ⟨4, ![1, 1, 512, 1536]⟩
abbrev S512x1536 : Shape := ⟨2, ![512, 1536]⟩
abbrev S64x512 : Shape := ⟨2, ![64, 512]⟩
abbrev S1 : Shape := ⟨1, ![1]⟩
abbrev S8x128 : Shape := ⟨2, ![8, 128]⟩
abbrev S8x128x1 : Shape := ⟨3, ![8, 128, 1]⟩
abbrev S16x128 : Shape := ⟨2, ![16, 128]⟩
abbrev S1x1x16x128 : Shape := ⟨4, ![1, 1, 16, 128]⟩

abbrev nBuf : Space → Nat
  | .hbm => 23
  | .vmem => 23
  | .smem => 3
  | _ => 0

abbrev bufTy : (tb : Table) → Fin (tcTables nBuf tb) → BufTy
  | .hbm, ⟨0, _⟩ => ⟨S6x4608x1536, .bf16⟩
  | .hbm, ⟨1, _⟩ => ⟨S6x1536, .bf16⟩
  | .hbm, ⟨2, _⟩ => ⟨S1536x2x1536, .fp8e4m3⟩
  | .hbm, ⟨3, _⟩ => ⟨S2x1536, .f32⟩
  | .hbm, ⟨4, _⟩ => ⟨S2x1536, .f32⟩
  | .hbm, ⟨5, _⟩ => ⟨S1536x64, .fp8e4m3⟩
  | .hbm, ⟨6, _⟩ => ⟨S64, .f32⟩
  | .hbm, ⟨7, _⟩ => ⟨S64, .f32⟩
  | .hbm, ⟨8, _⟩ => ⟨S3, .f32⟩
  | .hbm, ⟨9, _⟩ => ⟨S3, .f32⟩
  | .hbm, ⟨10, _⟩ => ⟨S3, .f32⟩
  | .hbm, ⟨11, _⟩ => ⟨S3x16x144x128, .f32⟩
  | .hbm, ⟨12, _⟩ => ⟨S2x3x4608x1536, .bf16⟩
  | .hbm, ⟨13, _⟩ => ⟨S2x1536x1536, .fp8e4m3⟩
  | .hbm, ⟨14, _⟩ => ⟨S64x1536, .fp8e4m3⟩
  | .hbm, ⟨15, _⟩ => ⟨S64x1, .f32⟩
  | .hbm, ⟨16, _⟩ => ⟨S64x1, .f32⟩
  | .hbm, ⟨17, _⟩ => ⟨S3x16x144x128, .f32⟩
  | .hbm, ⟨18, _⟩ => ⟨S3x16x144x128, .bf16⟩
  | .hbm, ⟨19, _⟩ => ⟨S6x1536, .fp8e4m3⟩
  | .hbm, ⟨20, _⟩ => ⟨S6x1, .f32⟩
  | .hbm, ⟨21, _⟩ => ⟨S2x3x4608x1536, .fp8e4m3⟩
  | .hbm, ⟨22, _⟩ => ⟨S2x3x1x4608, .f32⟩
  | .local _ .vmem, ⟨0, _⟩ => ⟨S2x1x512x1536, .bf16⟩
  | .local _ .vmem, ⟨1, _⟩ => ⟨S2x1x512x1536, .bf16⟩
  | .local _ .vmem, ⟨2, _⟩ => ⟨S6x1536, .bf16⟩
  | .local _ .vmem, ⟨3, _⟩ => ⟨S2x1536x1536, .fp8e4m3⟩
  | .local _ .vmem, ⟨4, _⟩ => ⟨S2x1536, .f32⟩
  | .local _ .vmem, ⟨5, _⟩ => ⟨S2x1536, .f32⟩
  | .local _ .vmem, ⟨6, _⟩ => ⟨S64x1536, .fp8e4m3⟩
  | .local _ .vmem, ⟨7, _⟩ => ⟨S64x1, .f32⟩
  | .local _ .vmem, ⟨8, _⟩ => ⟨S64x1, .f32⟩
  | .local _ .vmem, ⟨9, _⟩ => ⟨S1x16x16x128, .f32⟩
  | .local _ .vmem, ⟨10, _⟩ => ⟨S1x16x16x128, .f32⟩
  | .local _ .vmem, ⟨11, _⟩ => ⟨S1x16x16x128, .f32⟩
  | .local _ .vmem, ⟨12, _⟩ => ⟨S1x16x16x128, .f32⟩
  | .local _ .vmem, ⟨13, _⟩ => ⟨S1x16x16x128, .bf16⟩
  | .local _ .vmem, ⟨14, _⟩ => ⟨S1x16x16x128, .bf16⟩
  | .local _ .vmem, ⟨15, _⟩ => ⟨S6x1536, .fp8e4m3⟩
  | .local _ .vmem, ⟨16, _⟩ => ⟨S6x1, .f32⟩
  | .local _ .vmem, ⟨17, _⟩ => ⟨S2x1x512x1536, .fp8e4m3⟩
  | .local _ .vmem, ⟨18, _⟩ => ⟨S2x1x512x1536, .fp8e4m3⟩
  | .local _ .vmem, ⟨19, _⟩ => ⟨S2x1x1x512, .f32⟩
  | .local _ .vmem, ⟨20, _⟩ => ⟨S2x1x1x512, .f32⟩
  | .local _ .vmem, ⟨21, _⟩ => ⟨S2x6x1x1536, .f32⟩
  | .local _ .vmem, ⟨22, _⟩ => ⟨S272x128, .f32⟩
  | .local _ .smem, ⟨0, _⟩ => ⟨S3, .f32⟩
  | .local _ .smem, ⟨1, _⟩ => ⟨S3, .f32⟩
  | .local _ .smem, ⟨2, _⟩ => ⟨S3, .f32⟩
  | _, _ => ⟨S6x4608x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev main_v5_5 : Ref sig .tc := ⟨.hbm, 22, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg11_0 : Ref sig .tc := ⟨.vmem, 9, rfl⟩
abbrev cc0_stg11_1 : Ref sig .tc := ⟨.vmem, 10, rfl⟩
abbrev cc0_stg12_0 : Ref sig .tc := ⟨.vmem, 11, rfl⟩
abbrev cc0_stg12_1 : Ref sig .tc := ⟨.vmem, 12, rfl⟩
abbrev cc0_stg13_0 : Ref sig .tc := ⟨.vmem, 13, rfl⟩
abbrev cc0_stg13_1 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_scratch0 : Ref sig .tc := ⟨.vmem, 21, rfl⟩
abbrev cc0_scratch1 : Ref sig .tc := ⟨.vmem, 22, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨2, ![3, 9], ![false, false]⟩

def k0_off1 (i : grid0.Coords) (c0_i32_2 : BitVec 32) : Fin 4 → Nat :=
  let c0 : Index := 0#32
  let arg0 : BitVec 32 := BitVec.ofNat 32 (i 0).val
  let v5 : BitVec 32 := Scalar.addi arg0 c0_i32_2
  let v6 : Index := Scalar.indexCast v5
  let c0_3 : Index := 0#32
  let c0_4 : Index := 0#32
  ![0, v6.toNat, 0, 0]
def k0_off2 (i : grid0.Coords) (c0_i32_5 : BitVec 32) : Fin 4 → Nat :=
  let c1 : Index := 1#32
  let arg0 : BitVec 32 := BitVec.ofNat 32 (i 0).val
  let v9 : BitVec 32 := Scalar.addi arg0 c0_i32_5
  let v10 : Index := Scalar.indexCast v9
  let c0_6 : Index := 0#32
  let c0_7 : Index := 0#32
  ![1, v10.toNat, 0, 0]
def k0_off3 (i : grid0.Coords) : Fin 1 → Nat :=
  let arg0 : BitVec 32 := BitVec.ofNat 32 (i 0).val
  let v979 : Index := Scalar.indexCast arg0
  ![v979.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x1x512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S6x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1536x1536 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1536 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x16x16x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x16x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x16x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S6x1536 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S6x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S2x1x512x1536 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S2x1x1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ReferenceIdeal.lean ====
abbrev S6x4608x1536 : Shape := ⟨3, ![6, 4608, 1536]⟩
abbrev S6x1536 : Shape := ⟨2, ![6, 1536]⟩
abbrev S1536x2x1536 : Shape := ⟨3, ![1536, 2, 1536]⟩
abbrev S2x1536 : Shape := ⟨2, ![2, 1536]⟩
abbrev S1536x64 : Shape := ⟨2, ![1536, 64]⟩
abbrev S64 : Shape := ⟨1, ![64]⟩
abbrev S3 : Shape := ⟨1, ![3]⟩
abbrev S3x16x144x128 : Shape := ⟨4, ![3, 16, 144, 128]⟩
abbrev S1x64 : Shape := ⟨2, ![1, 64]⟩
abbrev S3x1x1 : Shape := ⟨3, ![3, 1, 1]⟩
abbrev S6x1 : Shape := ⟨2, ![6, 1]⟩
abbrev S2x3x4608x1536 : Shape := ⟨4, ![2, 3, 4608, 1536]⟩
abbrev S2x3x1x4608 : Shape := ⟨4, ![2, 3, 1, 4608]⟩
abbrev S6 : Shape := ⟨1, ![6]⟩
abbrev S1x254 : Shape := ⟨2, ![1, 254]⟩
abbrev S6x254 : Shape := ⟨2, ![6, 254]⟩
abbrev S1536x1x1536 : Shape := ⟨3, ![1536, 1, 1536]⟩
abbrev S1536x1536 : Shape := ⟨2, ![1536, 1536]⟩
abbrev S1x1536 : Shape := ⟨2, ![1, 1536]⟩
abbrev S6x4608 : Shape := ⟨2, ![6, 4608]⟩
abbrev S6x4608x1 : Shape := ⟨3, ![6, 4608, 1]⟩
abbrev S6x1x1536 : Shape := ⟨3, ![6, 1, 1536]⟩
abbrev S1x1x254 : Shape := ⟨3, ![1, 1, 254]⟩
abbrev S6x4608x254 : Shape := ⟨3, ![6, 4608, 254]⟩
abbrev S27648x1536 : Shape := ⟨2, ![27648, 1536]⟩
abbrev S27648x64 : Shape := ⟨2, ![27648, 64]⟩
abbrev S6x4608x64 : Shape := ⟨3, ![6, 4608, 64]⟩
abbrev S1x1x64 : Shape := ⟨3, ![1, 1, 64]⟩
abbrev S3x4608x64 : Shape := ⟨3, ![3, 4608, 64]⟩
abbrev S3x72x64x2x2x16 : Shape := ⟨6, ![3, 72, 64, 2, 2, 16]⟩
abbrev S3x16x72x2x64x2 : Shape := ⟨6, ![3, 16, 72, 2, 64, 2]⟩
abbrev S3x1x1x1 : Shape := ⟨4, ![3, 1, 1, 1]⟩

abbrev nBuf : Space → Nat
  | .hbm => 23
  | .vmem => 18
  | .smem => 0
  | _ => 0

abbrev bufTy : (tb : Table) → Fin (tcTables nBuf tb) → BufTy
  | .hbm, ⟨0, _⟩ => ⟨S6x4608x1536, .bf16⟩
  | .hbm, ⟨1, _⟩ => ⟨S6x1536, .bf16⟩
  | .hbm, ⟨2, _⟩ => ⟨S1536x2x1536, .fp8e4m3⟩
  | .hbm, ⟨3, _⟩ => ⟨S2x1536, .f32⟩
  | .hbm, ⟨4, _⟩ => ⟨S2x1536, .f32⟩
  | .hbm, ⟨5, _⟩ => ⟨S1536x64, .fp8e4m3⟩
  | .hbm, ⟨6, _⟩ => ⟨S64, .f32⟩
  | .hbm, ⟨7, _⟩ => ⟨S64, .f32⟩
  | .hbm, ⟨8, _⟩ => ⟨S3, .f32⟩
  | .hbm, ⟨9, _⟩ => ⟨S3, .f32⟩
  | .hbm, ⟨10, _⟩ => ⟨S3, .f32⟩
  | .hbm, ⟨11, _⟩ => ⟨S3x16x144x128, .f32⟩
  | .hbm, ⟨12, _⟩ => ⟨S1x64, .f32⟩
  | .hbm, ⟨13, _⟩ => ⟨S1x64, .f32⟩
  | .hbm, ⟨14, _⟩ => ⟨S3x1x1, .f32⟩
  | .hbm, ⟨15, _⟩ => ⟨S3x1x1, .f32⟩
  | .hbm, ⟨16, _⟩ => ⟨S3x1x1, .f32⟩
  | .hbm, ⟨17, _⟩ => ⟨S3x16x144x128, .f32⟩
  | .hbm, ⟨18, _⟩ => ⟨S3x16x144x128, .bf16⟩
  | .hbm, ⟨19, _⟩ => ⟨S6x1536, .fp8e4m3⟩
  | .hbm, ⟨20, _⟩ => ⟨S6x1, .f32⟩
  | .hbm, ⟨21, _⟩ => ⟨S2x3x4608x1536, .fp8e4m3⟩
  | .hbm, ⟨22, _⟩ => ⟨S2x3x1x4608, .f32⟩
  | .local _ .vmem, ⟨0, _⟩ => ⟨S6x4608x1536, .bf16⟩
  | .local _ .vmem, ⟨1, _⟩ => ⟨S6x1536, .bf16⟩
  | .local _ .vmem, ⟨2, _⟩ => ⟨S1536x2x1536, .fp8e4m3⟩
  | .local _ .vmem, ⟨3, _⟩ => ⟨S2x1536, .f32⟩
  | .local _ .vmem, ⟨4, _⟩ => ⟨S2x1536, .f32⟩
  | .local _ .vmem, ⟨5, _⟩ => ⟨S1536x64, .fp8e4m3⟩
  | .local _ .vmem, ⟨6, _⟩ => ⟨S1x64, .f32⟩
  | .local _ .vmem, ⟨7, _⟩ => ⟨S1x64, .f32⟩
  | .local _ .vmem, ⟨8, _⟩ => ⟨S3x1x1, .f32⟩
  | .local _ .vmem, ⟨9, _⟩ => ⟨S3x1x1, .f32⟩
  | .local _ .vmem, ⟨10, _⟩ => ⟨S3x1x1, .f32⟩
  | .local _ .vmem, ⟨11, _⟩ => ⟨S3x16x144x128, .f32⟩
  | .local _ .vmem, ⟨12, _⟩ => ⟨S3x16x144x128, .f32⟩
  | .local _ .vmem, ⟨13, _⟩ => ⟨S3x16x144x128, .bf16⟩
  | .local _ .vmem, ⟨14, _⟩ => ⟨S6x1536, .fp8e4m3⟩
  | .local _ .vmem, ⟨15, _⟩ => ⟨S6x1, .f32⟩
  | .local _ .vmem, ⟨16, _⟩ => ⟨S2x3x4608x1536, .fp8e4m3⟩
  | .local _ .vmem, ⟨17, _⟩ => ⟨S2x3x1x4608, .f32⟩
  | _, _ => ⟨S6x4608x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev main_v5_5 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S6x4608x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x2x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x64 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x16x144x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x16x144x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x16x144x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x1536 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S6x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x3x4608x1536 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x3x1x4608 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Proof.PRuns.lean ====
/- What the runs of the printed kernel's body are stated over: the frame post read at the argument arrays, the branch condition over
   the grid points, where the windows are idle, and the staging memrefs. Nothing is said of what the outputs hold. -/
module

public import proofs.«01_k».proof.Proof.Gen.Kernel.Launch
public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem rframe_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      (Pipeline.RDat.FramePost.arr_in h c 4 rfl).trans ((hA c 4).trans (V_main_arg1 m c)),
      ((h c).2 main_arg2 (Pipeline.mem_restRefs_of main_arg2 (by decide) (by decide))).trans (V_main_arg2 m c),
      (Pipeline.RDat.FramePost.arr_in h c 6 rfl).trans ((hA c 6).trans (V_main_arg3 m c)),
      (Pipeline.RDat.FramePost.arr_in h c 7 rfl).trans ((hA c 7).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 0 rfl).trans ((hA c 0).trans (V_main_arg8 m c)),
      (Pipeline.RDat.FramePost.arr_in h c 1 rfl).trans ((hA c 1).trans (V_main_arg9 m c)),
      (Pipeline.RDat.FramePost.arr_in h c 2 rfl).trans ((hA c 2).trans (V_main_arg10 m c)),
      (Pipeline.RDat.FramePost.arr_in h c 11 rfl).trans ((hA c 11).trans (V_main_arg11 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 27 = 0 :=
  (fun t => by
    have ht : t.val < 27 := Nat.lt_of_lt_of_eq t.isLt N_0
    have e0 : (grid0.coords t 0).val = t.val / 9 % 3 := Pipeline.Grid.coords_val t 0 (by decide) rfl
    have e1 : (grid0.coords t 1).val = t.val / 1 % 9 := Pipeline.Grid.coords_val t 1 (by decide) rfl
    simp only [cond0_0, k0_cond1, e0, e1]
    word_cmp
   : ∀ t : Fin grid0.N, cond0_0 (grid0.coords t) ↔ t.val % 27 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1x512x1536 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x1536 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1536x1536 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x1536 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x1536 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x1536 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x16x16x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x16x16x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x16x16x128 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S6x1536 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S6x1 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S2x1x512x1536 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S2x1x1x512 .f32 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S2x6x1x1536 .f32 := Memref.whole cc0_scratch0
abbrev scM0_1 : Memref sig .tc .vmem S272x128 .f32 := Memref.whole cc0_scratch1
/-- The scratch `arg20` the kernel carries between points, as a view: what it holds is stated through it. -/
abbrev VS0_0 : View sig .tc .vmem S2x6x1x1536 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.PRunA.lean ====
/- The printed kernel's body at the first grid point, run once on any staging memrefs: the pieces it stores, found by the run. -/
module

public import proofs.«01_k».proof.Proof.PRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2128000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (12, 13, 14, 15, 16, 17) at anything, handed back at some contents nothing names. -/
noncomputable def kernelRun0_A (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) :
    { LS0 : List (View.Piece (Elt F) S2x6x1x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LS0) ∗ (∃ d, owns (c : Thread nD τ) arg21 fullShare d)) -∗ K ⟨⟩))
          ⊢ wp frame (wpE (defs₀ (F := F)) Variants.none c none) E (cc0_dit_final i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, fun E K => ?run⟩
  case run =>
    simp only [cc0_dit_final_eq_skeleton]; unfold cc0_dit_final_skel
    simp only [k0_part68_eq_skeleton, k0_part5_eq_skeleton, k0_part1_eq_skeleton, k0_part2_eq_skeleton, k0_part3_eq_skeleton, k0_part4_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part69_eq_skeleton, k0_part65_eq_skeleton, k0_part66_eq_skeleton, k0_part67_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [HS0]; · iexists _; iexact HS0
    iexists _, _; isplitr; swap; · iexact HS1
    ipureintro; rfl

end Cert.Kernel.Gen

end
-- ==== Proof.PRunB.lean ====
/- The printed kernel's body at the grid points after the first, run once on any staging memrefs: the pieces it stores, found by the run. -/
module

public import proofs.«01_k».proof.Proof.PRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1904000 in
/-- What the body's stores leave in each output's staging memref, as pieces (last first) IN CASE B (`scf.if` 0 not taken: points 1, 2, … 26: 26 of 27), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (12, 13, 14, 15, 16, 17) at anything, handed back at some contents nothing names. -/
noncomputable def kernelRun0_B (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : ¬cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (xs0 : Vec F S2x6x1x1536 .f32) :
    { LS0 : List (View.Piece (Elt F) S2x6x1x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs0 ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs0 ∗ (∃ d, owns (c : Thread nD τ) arg21 fullShare d)) -∗ K ⟨⟩))
          ⊢ wp frame (wpE (defs₀ (F := F)) Variants.none c none) E (cc0_dit_final i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], fun E K => ?run⟩
  case run =>
    simp only [cc0_dit_final_eq_skeleton]; unfold cc0_dit_final_skel
    simp only [k0_part68_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part69_eq_skeleton, k0_part65_eq_skeleton, k0_part66_eq_skeleton, k0_part67_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg20.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [HS0]
    · iexists _; isplitr; · ipureintro; exact harg20.read_unread _
      iexact HS0
    iexists _, _; isplitr; swap; · iexact HS1
    ipureintro; rfl

end Cert.Kernel.Gen

end
-- ==== Proof.PFrame.lean ====
/- The printed kernel's pipeline: what the scratch carried between points holds, the proof data (the outputs' contents are not
   stated), the body obligation, the run, and the frame. -/
module

public import proofs.«01_k».proof.Proof.PRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg20`, which the kernel carries between points, cover it: 12 pieces of `S1x1x1x1536` tiling it (Lib/Ring.lean `Piece.tiledL`). -/
theorem scover0_A_0 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (y : S2x6x1x1536.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).1 S1x1x1x1536.size (by sl_kernel_rfl) y

/-- What case A leaves in scratch `arg20`: its pieces read back over junk. -/
def sout0_A_0 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) : Vec F S2x6x1x1536 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).1)

/-- Case B stores nothing into scratch `arg20`: it holds what the point before left. -/
def sout0_B_0 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : ¬cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (xs0 : Vec F S2x6x1x1536 .f32) : Vec F S2x6x1x1536 .f32 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2x6x1x1536 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩)
  | n + 1, hn =>
    if h0 : (n + 1) % 27 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn))

/-- `outsAt0` at a point of case A: that case's contents. -/
theorem outsAt0_A (c : Dev nD) (t : Fin cfg0.N) (h0 : t.val % 27 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 27 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d)) ∗ (∃ r, prngReg c r)) := by
  cases n with
  | zero => exact absurd rfl hz
  | succ n => rfl

/-! ## The pipeline's proof data -/

/-- The output windows this certificate FORGETS (12, 13, 14, 15, 16, 17): nothing reads what the kernel leaves in them, so nothing
    of it is named (Lib/Pipeline/Dat.lean `Dat.toRForget`). -/
def forgets0 : Fin 18 → Bool := fun w => w.val == 12 || w.val == 13 || w.val == 14 || w.val == 15 || w.val == 16 || w.val == 17

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨_ + 18, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d))

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 27 := lt_of_lt_of_eq t.isLt (show cfg0.N = 27 from N_0)
  by_cases h0 : t.val % 27 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    by_cases hz : t.val = 0
    · rw [PhiS_castSucc m c t, PhiS_zero m c _ _ hz, PhiA0_eq]
      rw [outsAt0_A m c t h0]
      unfold sout0_A_0
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_A c (grid0.coords t) _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [HS0]; · iexact HS0
      isplitl [HS1]; · iexact HS1
      iintro ⟨H0, H1, H2, H3, H4, H5, H6, H7, H8, H9, H10, H11, H12, H13, H14, H15, H16, H17, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    · exfalso; have hN : t.val < 27 := lt_of_lt_of_eq t.isLt (show cfg0.N = 27 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    by_cases hz : t.val = 0
    · exfalso; have hN : t.val < 27 := lt_of_lt_of_eq t.isLt (show cfg0.N = 27 from N_0); omega
    · rw [PhiS_castSucc m c t, PhiS_pos m c _ _ hz]
      rw [outsAt0_B m c t h0]
      unfold sout0_B_0
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [HS0]; · iexact HS0
      isplitl [HS1]; · iexact HS1
      iintro ⟨H0, H1, H2, H3, H4, H5, H6, H7, H8, H9, H10, H11, H12, H13, H14, H15, H16, H17, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 27 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 12, 13, 14, 15, 16, 17) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  rframe_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel.Gen

end
-- ==== Proof.KRuns.lean ====
/- What the runs of the kernel's body are stated over: the branch conditions over the grid points, where the windows are
   idle, the staging memrefs, and the arrays as the region finds them. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1080000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      ((h c).1 4).trans (((dats 0 c).arrAt_in 4 rfl _).trans ((hA c 4).trans (V_main_arg1 m c))),
      ((h c).2 main_arg2 (Pipeline.mem_restRefs_of main_arg2 (by decide) (by decide))).trans (V_main_arg2 m c),
      ((h c).1 6).trans (((dats 0 c).arrAt_in 6 rfl _).trans ((hA c 6).trans (V_main_arg3 m c))),
      ((h c).1 7).trans (((dats 0 c).arrAt_in 7 rfl _).trans ((hA c 7).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 0).trans (((dats 0 c).arrAt_in 0 rfl _).trans ((hA c 0).trans (V_main_arg8 m c))),
      ((h c).1 1).trans (((dats 0 c).arrAt_in 1 rfl _).trans ((hA c 1).trans (V_main_arg9 m c))),
      ((h c).1 2).trans (((dats 0 c).arrAt_in 2 rfl _).trans ((hA c 2).trans (V_main_arg10 m c))),
      ((h c).1 11).trans (((dats 0 c).arrAt_in 11 rfl _).trans ((hA c 11).trans (V_main_arg11 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 27 = 0 :=
  (fun t => by
    have ht : t.val < 27 := Nat.lt_of_lt_of_eq t.isLt N_0
    have e0 : (grid0.coords t 0).val = t.val / 9 % 3 := Pipeline.Grid.coords_val t 0 (by decide) rfl
    have e1 : (grid0.coords t 1).val = t.val / 1 % 9 := Pipeline.Grid.coords_val t 1 (by decide) rfl
    simp only [cond0_0, k0_cond1, e0, e1]
    word_cmp
   : ∀ t : Fin grid0.N, cond0_0 (grid0.coords t) ↔ t.val % 27 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an output stored at every point, under no condition). -/
theorem liveAt0_12 : ∀ t : Fin cfg0.N, cfg0.idle 12 (grid0.coords t) = false := fun _ => rfl
/-- Window 13 is never idle (an output stored at every point, under no condition). -/
theorem liveAt0_13 : ∀ t : Fin cfg0.N, cfg0.idle 13 (grid0.coords t) = false := fun _ => rfl
/-- Window 16 is never idle (an output stored at every point, under no condition). -/
theorem liveAt0_16 : ∀ t : Fin cfg0.N, cfg0.idle 16 (grid0.coords t) = false := fun _ => rfl
/-- Window 17 is never idle (an output stored at every point, under no condition). -/
theorem liveAt0_17 : ∀ t : Fin cfg0.N, cfg0.idle 17 (grid0.coords t) = false := fun _ => rfl
/-- Whether output 14's buffer is FRESH at each position `1 ‥ N` — holds nothing the body stored since the region's entry or the
    last write-back (written back at the point before, or idle there and fresh before it) —, as a bitmask the classifier
    computed, bit `n` for position `n + 1`; position 0 is fresh. `freshTab0_14_step` checks it against the configuration's own
    step point by point and Lib/Pipeline/TableIdle.lean `Cfg.fresh_tab` makes it `Cfg.fresh` (`fresh0_14_eq`). -/
def freshTab0_14 : ℕ → Bool
  | 0 => true
  | n + 1 => (0x4000000 : ℕ).testBit n
theorem freshTab0_14_step : ∀ t : Fin cfg0.N,
    freshTab0_14 (t.val + 1) = ((cfg0.win 14).flush t || (cfg0.idle 14 (cfg0.grid.coords t) && freshTab0_14 t.val)) := by decide +kernel
theorem fresh0_14_eq (t : Fin cfg0.N) : cfg0.fresh 14 t.val = freshTab0_14 t.val :=
  Pipeline.Cfg.fresh_tab cfg0 14 freshTab0_14 rfl freshTab0_14_step t.val (Nat.le_of_lt t.isLt)
/-- At the points of case A the printed configuration (`Cfg.idle`) calls output 14 live: the case stores into it. -/
theorem liveAt0_14_A : ∀ t : Fin cfg0.N, cond0_0 (grid0.coords t) → cfg0.idle 14 (grid0.coords t) = false := by decide +kernel
/-- At the points of case B the printed configuration (`Cfg.idle`) calls output 14 idle: the case stores nothing into it. -/
theorem idleAt0_14_B : ∀ t : Fin cfg0.N, ¬cond0_0 (grid0.coords t) → cfg0.idle 14 (grid0.coords t) = true := by decide +kernel
/-- At the points of case B, which keeps output 14's prior contents (reads it before covering, or covers it in part), the
    window's buffer is not FRESH: something was stored into it since the region's entry or its last write-back, idle points
    between or not (Lib/Pipeline/TableIdle.lean `Cfg.fresh`, by the table `freshTab0_14`). -/
theorem notFresh0_14_B : ∀ t : Fin cfg0.N, ¬cond0_0 (grid0.coords t) → cfg0.fresh 14 t.val = false := by
  intro t; rw [fresh0_14_eq t]; revert t; decide +kernel
/-- Whether output 15's buffer is FRESH at each position `1 ‥ N` — holds nothing the body stored since the region's entry or the
    last write-back (written back at the point before, or idle there and fresh before it) —, as a bitmask the classifier
    computed, bit `n` for position `n + 1`; position 0 is fresh. `freshTab0_15_step` checks it against the configuration's own
    step point by point and Lib/Pipeline/TableIdle.lean `Cfg.fresh_tab` makes it `Cfg.fresh` (`fresh0_15_eq`). -/
def freshTab0_15 : ℕ → Bool
  | 0 => true
  | n + 1 => (0x4000000 : ℕ).testBit n
theorem freshTab0_15_step : ∀ t : Fin cfg0.N,
    freshTab0_15 (t.val + 1) = ((cfg0.win 15).flush t || (cfg0.idle 15 (cfg0.grid.coords t) && freshTab0_15 t.val)) := by decide +kernel
theorem fresh0_15_eq (t : Fin cfg0.N) : cfg0.fresh 15 t.val = freshTab0_15 t.val :=
  Pipeline.Cfg.fresh_tab cfg0 15 freshTab0_15 rfl freshTab0_15_step t.val (Nat.le_of_lt t.isLt)
/-- At the points of case A the printed configuration (`Cfg.idle`) calls output 15 live: the case stores into it. -/
theorem liveAt0_15_A : ∀ t : Fin cfg0.N, cond0_0 (grid0.coords t) → cfg0.idle 15 (grid0.coords t) = false := by decide +kernel
/-- At the points of case B the printed configuration (`Cfg.idle`) calls output 15 idle: the case stores nothing into it. -/
theorem idleAt0_15_B : ∀ t : Fin cfg0.N, ¬cond0_0 (grid0.coords t) → cfg0.idle 15 (grid0.coords t) = true := by decide +kernel
/-- At the points of case B, which keeps output 15's prior contents (reads it before covering, or covers it in part), the
    window's buffer is not FRESH: something was stored into it since the region's entry or its last write-back, idle points
    between or not (Lib/Pipeline/TableIdle.lean `Cfg.fresh`, by the table `freshTab0_15`). -/
theorem notFresh0_15_B : ∀ t : Fin cfg0.N, ¬cond0_0 (grid0.coords t) → cfg0.fresh 15 t.val = false := by
  intro t; rw [fresh0_15_eq t]; revert t; decide +kernel

/-! ## The kernel body on any staging memrefs: a subtype the run finds -/

/-- One staging buffer of output window 12, through which its contents are stated (`View.read_writes_of_cover`: the
    choice does not matter). -/
abbrev VO0_12 : View sig .tc .vmem S1x16x16x128 .f32 := (Memref.whole cc0_stg12_0 : Memref sig .tc .vmem S1x16x16x128 .f32).view
/-- One staging buffer of output window 13, through which its contents are stated (`View.read_writes_of_cover`: the
    choice does not matter). -/
abbrev VO0_13 : View sig .tc .vmem S1x16x16x128 .bf16 := (Memref.whole cc0_stg13_0 : Memref sig .tc .vmem S1x16x16x128 .bf16).view
/-- One staging buffer of output window 14, through which its contents are stated (`View.read_writes_of_cover`: the
    choice does not matter). -/
abbrev VO0_14 : View sig .tc .vmem S6x1536 .fp8e4m3 := (Memref.whole cc0_stg14_0 : Memref sig .tc .vmem S6x1536 .fp8e4m3).view
/-- One staging buffer of output window 15, through which its contents are stated (`View.read_writes_of_cover`: the
    choice does not matter). -/
abbrev VO0_15 : View sig .tc .vmem S6x1 .f32 := (Memref.whole cc0_stg15_0 : Memref sig .tc .vmem S6x1 .f32).view
/-- One staging buffer of output window 16, through which its contents are stated (`View.read_writes_of_cover`: the
    choice does not matter). -/
abbrev VO0_16 : View sig .tc .vmem S2x1x512x1536 .fp8e4m3 := (Memref.whole cc0_stg16_0 : Memref sig .tc .vmem S2x1x512x1536 .fp8e4m3).view
/-- One staging buffer of output window 17, through which its contents are stated (`View.read_writes_of_cover`: the
    choice does not matter). -/
abbrev VO0_17 : View sig .tc .vmem S2x1x1x512 .f32 := (Memref.whole cc0_stg17_0 : Memref sig .tc .vmem S2x1x1x512 .f32).view
/-- Each window's current staging memref at point `t`, spelled as the pipeline passes it (`bodyAt0`), and its wholeness. -/
abbrev ms0_0 (t : Fin cfg0.N) : Memref sig .tc .smem S3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1x512x1536 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x1536 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1536x1536 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x1536 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x1536 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x1536 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x16x16x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x16x16x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x16x16x128 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S6x1536 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S6x1 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S2x1x512x1536 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S2x1x1x512 .f32 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S2x6x1x1536 .f32 := Memref.whole cc0_scratch0
abbrev scM0_1 : Memref sig .tc .vmem S272x128 .f32 := Memref.whole cc0_scratch1
/-- The scratch `arg20` the kernel carries between points, as a view: what it holds is stated through it. -/
abbrev VS0_0 : View sig .tc .vmem S2x6x1x1536 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.KRunA.lean ====
/- The kernel's body at the first grid point, run once on any staging memrefs: the pieces it stores, found by the run. -/
module

public import proofs.«01_k».proof.Proof.KRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2128000 in set_option sl_exec.stridedRows true in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) :
    Σ' (L12 : List (View.Piece (Elt F) S1x16x16x128 .f32)), Σ' (L13 : List (View.Piece (Elt F) S1x16x16x128 .bf16)), Σ' (L14 : List (View.Piece (Elt F) S6x1536 .fp8e4m3)), Σ' (L15 : List (View.Piece (Elt F) S6x1 .f32)), Σ' (L16 : List (View.Piece (Elt F) S2x1x512x1536 .fp8e4m3)), Σ' (L17 : List (View.Piece (Elt F) S2x1x1x512 .f32)), { LS0 : List (View.Piece (Elt F) S2x6x1x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f LS0) ∗ (∃ d, owns (c : Thread nD τ) arg21 fullShare d)) -∗ K ⟨⟩))
          ⊢ wp frame (wpE (defs₀ (F := F)) Variants.none c none) E (cc0_dit_final i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, fun E K => ?run⟩
  case run =>
    simp only [cc0_dit_final_eq_skeleton]; unfold cc0_dit_final_skel
    simp only [k0_part68_eq_skeleton, k0_part5_eq_skeleton, k0_part1_eq_skeleton, k0_part2_eq_skeleton, k0_part3_eq_skeleton, k0_part4_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part69_eq_skeleton, k0_part65_eq_skeleton, k0_part66_eq_skeleton, k0_part67_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HS0]; · iexists _; iexact HS0
    iexists _, _; isplitr; swap; · iexact HS1
    ipureintro; rfl

end Cert.KernelIdeal.Gen

end
-- ==== Proof.KRunB.lean ====
/- The kernel's body at every later grid point, run once on any staging memrefs: the pieces it stores, found by the run. -/
module

public import proofs.«01_k».proof.Proof.KRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1904000 in set_option sl_exec.stridedRows true in
/-- What the body's stores leave in each output's staging memref, as pieces (last first) IN CASE B (`scf.if` 0 not taken: points 1, 2, … 26: 26 of 27), WITH the
    proof that on whole staging memrefs — the inputs' at their contents, the outputs it reads before covering (14, 15) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : ¬cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (xo14 : Vec F S6x1536 .fp8e4m3) (xo15 : Vec F S6x1 .f32) (xs0 : Vec F S2x6x1x1536 .f32) :
    Σ' (L12 : List (View.Piece (Elt F) S1x16x16x128 .f32)), Σ' (L13 : List (View.Piece (Elt F) S1x16x16x128 .bf16)), Σ' (L14 : List (View.Piece (Elt F) S6x1536 .fp8e4m3)), Σ' (L15 : List (View.Piece (Elt F) S6x1 .f32)), Σ' (L16 : List (View.Piece (Elt F) S2x1x512x1536 .fp8e4m3)), Σ' (L17 : List (View.Piece (Elt F) S2x1x1x512 .f32)), { LS0 : List (View.Piece (Elt F) S2x6x1x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ owns (c : Thread nD τ) arg16 fullShare xo14 ∗ owns (c : Thread nD τ) arg17 fullShare xo15 ∗ (∃ d, owns (c : Thread nD τ) arg18 fullShare d) ∗ (∃ d, owns (c : Thread nD τ) arg19 fullShare d) ∗ owns (c : Thread nD τ) arg20 fullShare xs0 ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ owns (c : Thread nD τ) arg16 fullShare xo14 ∗ owns (c : Thread nD τ) arg17 fullShare xo15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ owns (c : Thread nD τ) arg20 fullShare xs0 ∗ (∃ d, owns (c : Thread nD τ) arg21 fullShare d)) -∗ K ⟨⟩))
          ⊢ wp frame (wpE (defs₀ (F := F)) Variants.none c none) E (cc0_dit_final i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, [], [], ?_, ?_, [], fun E K => ?run⟩
  case run =>
    simp only [cc0_dit_final_eq_skeleton]; unfold cc0_dit_final_skel
    simp only [k0_part68_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part69_eq_skeleton, k0_part65_eq_skeleton, k0_part66_eq_skeleton, k0_part67_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%d16, %f16, -, H16⟩, ⟨%d17, %f17, -, H17⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg16.eq_unread hf14; obtain rfl := harg17.eq_unread hf15; obtain rfl := harg20.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [HS0]
    · iexists _; isplitr; · ipureintro; exact harg20.read_unread _
      iexact HS0
    iexists _, _; isplitr; swap; · iexact HS1
    ipureintro; rfl

end Cert.KernelIdeal.Gen

end
-- ==== Proof.KShuf.lean ====
/- The interleave of a block's velocities: 32 strided stores put the 64 channels of 512 positions into sixteen planes of 16
   rows by 128 lanes (17 rows apart), and the loads of the planes read them back. -/
module

public import proofs.«01_k».proof.Proof.KRunA
public import proofs.«01_k».proof.Proof.KRunB
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic

/-- Where row `y 0` of the staging buffer, lane `y 1`, comes from. -/
def shufG (v : FVec Ideal S64x512 .f32) (y : S272x128.Idx) : EReal :=
  v (ix2 ⟨(32 * ((y 0).val % 17 % 2) + 16 * ((y 1).val % 2) + (y 0).val / 17) % 64, Nat.mod_lt _ (by decide)⟩
    ⟨(128 * ((y 0).val % 17 / 4) + 64 * ((y 0).val % 17 / 2 % 2) + (y 1).val / 2) % 512, Nat.mod_lt _ (by decide)⟩)

theorem shuf_piece (v : FVec Ideal S64x512 .f32) (par : IVec S8x128 1) (idx : IVec S8x128 32) (g : Nat) (hg : g ≤ 64)
    (hp : ∀ (a : Fin 8) (l : Fin 128), par (ix2 a l) = BitVec.ofBool (decide (l.val % 2 = 0)))
    (hi : ∀ (a : Fin 8) (l : Fin 128), idx (ix2 a l) = BitVec.ofNat 32 (g + l.val / 2))
    (a b col : Nat) (ha : S64x512.Slices ![a, col] S8x128) (hb : S64x512.Slices ![b, col] S8x128)
    (x : S8x128.Idx) (y : S64x512.Idx) (h0 : (y 0).val = (if (x 1).val % 2 = 0 then a else b) + (x 0).val)
    (h1 : (y 1).val = col + g + (x 1).val / 2) :
    shapeCast S8x128 (select par (dynamicGather 1 (extractStridedSlice S8x128 ![a, col] v ha) idx)
      (dynamicGather 1 (extractStridedSlice S8x128 ![b, col] v hb) idx)) shapeCasts_S8x128_S8x128 x = v y := by
  pointwise
  have hl : (x 1).val < 128 := (x 1).isLt
  have e1 : par x = BitVec.ofBool (decide ((x 1).val % 2 = 0)) := by
    have := hp (x 0) (x 1); rwa [← eq_ix2 x] at this
  have e2 : idx x = BitVec.ofNat 32 (g + (x 1).val / 2) := by
    have := hi (x 0) (x 1); rwa [← eq_ix2 x] at this
  have e3 : (idx x).toNat % 128 = g + (x 1).val / 2 := by
    rw [e2, BitVec.toNat_ofNat]; omega
  rw [e1, eq_ix2 y]
  by_cases hc : (x 1).val % 2 = 0
  · rw [if_pos hc] at h0
    rw [decide_eq_true hc]
    refine congrArg v (congrArg₂ _ (Fin.ext ?_) (Fin.ext ?_))
    · exact h0.symm
    · show col + (idx x).toNat % 128 = _
      omega
  · rw [if_neg hc] at h0
    rw [decide_eq_false hc]
    refine congrArg v (congrArg₂ _ (Fin.ext ?_) (Fin.ext ?_))
    · exact h0.symm
    · show col + (idx x).toNat % 128 = _
      omega

theorem piece_ok (v : FVec Ideal S64x512 .f32) (par : IVec S8x128 1) (idx : IVec S8x128 32) (q r o a b col g : Nat)
    (hp : ∀ (a : Fin 8) (l : Fin 128), par (ix2 a l) = BitVec.ofBool (decide (l.val % 2 = 0)))
    (hi : ∀ (a : Fin 8) (l : Fin 128), idx (ix2 a l) = BitVec.ofNat 32 (g + l.val / 2))
    (hn : q < 2 ∧ r < 16 ∧ o = 136 * q + r ∧ a = 32 * (r % 2) + 8 * q ∧ b = a + 16 ∧ col = 128 * (r / 4) ∧ g = 64 * (r / 2 % 2))
    (ha : S64x512.Slices ![a, col] S8x128) (hb : S64x512.Slices ![b, col] S8x128)
    (inb : ∀ d, S8x128.size d = 0 ∨ (![o, 0] : Fin 2 → Nat) d + (![17, 1] : Fin 2 → Nat) d * (S8x128.size d - 1) < S272x128.size d)
    (sp : ∀ d, 0 < (![17, 1] : Fin 2 → Nat) d) (x : S8x128.Idx) :
    shapeCast S8x128 (select par (dynamicGather 1 (extractStridedSlice S8x128 ![a, col] v ha) idx)
      (dynamicGather 1 (extractStridedSlice S8x128 ![b, col] v hb) idx)) shapeCasts_S8x128_S8x128 x
      = shufG v ((⟨⟨![o, 0], S8x128.size, ![17, 1], inb⟩, sp⟩ : Rect S272x128).emb x) := by
  obtain ⟨h1, h2, h3, h4, h5, h6, h7⟩ := hn
  have hx0 : (x 0).val < 8 := (x 0).isLt
  have hx1 : (x 1).val < 128 := (x 1).isLt
  have y0 : (((⟨⟨![o, 0], S8x128.size, ![17, 1], inb⟩, sp⟩ : Rect S272x128).emb x) 0).val = o + 17 * (x 0).val := rfl
  have y1 : (((⟨⟨![o, 0], S8x128.size, ![17, 1], inb⟩, sp⟩ : Rect S272x128).emb x) 1).val = 0 + 1 * (x 1).val := rfl
  have d1 : (o + 17 * (x 0).val) / 17 = 8 * q + (x 0).val := by omega
  have d2 : (o + 17 * (x 0).val) % 17 = r := by omega
  have d3 : 0 + 1 * (x 1).val = (x 1).val := by omega
  refine shuf_piece v par idx g (by omega) hp hi a b col ha hb x _ ?_ ?_
  · show (_ : Nat) % 64 = _
    rw [y0, y1, d1, d2, d3]
    split_ifs <;> omega
  · show (_ : Nat) % 512 = _
    rw [y0, y1, d2, d3]
    omega

/-- The rows a store covers. -/
abbrev srect (q : Fin 2) (r : Fin 16) : Rect S272x128 :=
  ⟨⟨![136 * q.val + r.val, 0], S8x128.size, ![17, 1], by revert q r; decide +kernel⟩, spos_17_1⟩

theorem srect_mem (ch r : Fin 16) (l : Fin 128) (y : S272x128.Idx) (h0 : (y 0).val = 17 * ch.val + r.val) (h1 : (y 1).val = l.val) :
    y ∈ (srect ⟨ch.val / 8, by omega⟩ r).set := by
  have e : y = (srect ⟨ch.val / 8, by omega⟩ r).emb (show S8x128.Idx from ix2 (n0 := 8) (n1 := 128) ⟨ch.val % 8, by omega⟩ l) := by
    funext d
    refine Fin.ext ?_
    match d with
    | ⟨0, _⟩ => show (y 0).val = 136 * (ch.val / 8) + r.val + 17 * (ch.val % 8); omega
    | ⟨1, _⟩ => show (y 1).val = 0 + 1 * l.val; omega
  rw [e]
  exact LoadRect.idx_mem _ _

/-- The order of the stores, last first. -/
def sorder : List (Fin 2 × Fin 16) :=
  [(1, 15), (0, 15), (1, 14), (0, 14), (1, 13), (0, 13), (1, 12), (0, 12), (1, 11), (0, 11), (1, 10), (0, 10), (1, 9), (0, 9), (1, 8), (0, 8), (1, 7), (0, 7), (1, 6), (0, 6), (1, 5), (0, 5), (1, 4), (0, 4), (1, 3), (0, 3), (1, 2), (0, 2), (1, 1), (0, 1), (1, 0), (0, 0)]

theorem sorder_mem : ∀ (q : Fin 2) (r : Fin 16), (q, r) ∈ sorder := by decide

theorem lane0_B : ∀ (a : Fin 8) (l : Fin 128), kernelRun0_B.sl.v1019 (ix2 a l) = BitVec.ofNat 32 (0 + l.val / 2) := by decide +kernel

theorem lane1_B : ∀ (a : Fin 8) (l : Fin 128), kernelRun0_B.sl.v1205 (ix2 a l) = BitVec.ofNat 32 (64 + l.val / 2) := by decide +kernel

theorem lane2_B : ∀ (a : Fin 8) (l : Fin 128), kernelRun0_B.sl.v1391 (ix2 a l) = BitVec.ofNat 32 (0 + l.val / 2) := by decide +kernel

theorem par_B : ∀ (a : Fin 8) (l : Fin 128), cmpi .eq kernelRun0_B.sl.v1045 kernelRun0_B.sl.v1004 (ix2 a l) = BitVec.ofBool (decide (l.val % 2 = 0)) := by decide +kernel

theorem pieces_B (c : Dev nD) (i : grid0.Coords) (arg2 : Memref sig .tc .smem S3 .f32) (harg2 : arg2.IsWhole) (arg5 : Memref sig .tc .vmem S2x1x512x1536 .bf16) (harg5 : arg5.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg18 : Memref sig .tc .vmem S2x1x512x1536 .fp8e4m3) (arg20 : Memref sig .tc .vmem S2x6x1x1536 .f32) (harg20 : arg20.IsWhole) (x0 : Vec Ideal S3 .f32) (x3 : Vec Ideal S2x1x512x1536 .bf16) (x8 : Vec Ideal S64x1536 .fp8e4m3) (x9 : Vec Ideal S64x1 .f32) (x10 : Vec Ideal S64x1 .f32) (xs0 : Vec Ideal S2x6x1x1536 .f32) :
    View.PiecesOf (shufG (kernelRun0_B.sl.r_64 c i arg2 harg2 arg5 harg5 arg10 harg10 arg11 harg11 arg12 harg12 arg18 arg20 harg20 x0 x3 x8 x9 x10 xs0)) (kernelRun0_B.sl.HS1_32 c i arg2 harg2 arg5 harg5 arg10 harg10 arg11 harg11 arg12 harg12 arg18 arg20 harg20 x0 x3 x8 x9 x10 xs0) :=
  And.intro (fun x => piece_ok _ _ _ 1 15 151 40 56 384 64 par_B lane1_B (by decide) _ _ _ _ x) <|
  And.intro (fun x => piece_ok _ _ _ 0 15 15 32 48 384 64 par_B lane1_B (by decide) _ _ _ _ x) <|
  And.intro (fun x => piece_ok _ _ _ 1 14 150 8 24 384 64 par_B lane1_B (by decide) _ _ _ _ x) <|
  And.intro (fun x => piece_ok _ _ _ 0 14 14 0 16 384 64 par_B lane1_B (by decide) _ _ _ _ x) <|
  And.intro (fun x => piece_ok _ _ _ 1 13 149 40 56 384 0 par_B lane2_B (by decide) _ _ _ _ x) <|
  And.intro (fun x => piece_ok _ _ _ 0 13 13 32 48 384 0 par_B lane2_B (by decide) _ _ _ _ x) <|
  And.intro (fun x => piece_ok _ _ _ 1 12 148 8 24 384 0 par_B lane2_B (by decide) _ _ _ _ x) <|
  And.intro (fun x => piece_ok _ _ _ 0 12 12 0 16 384 0 par_B lane2_B (by decide) _ _ _ _ x) <|
  And.intro (fun x => piece_ok _ _ _ 1 11 147 40 56 256 64 par_B lane1_B (by decide) _ _ _ _ x) <|
  And.intro (fun x => piece_ok _ _ _ 0 11 11 32 48 256 64 par_B lane1_B (by decide) _ _ _ _ x) <|
  And.intro (fun x => piece_ok _ _ _ 1 10 146 8 24 256 64 par_B lane1_B (by decide) _ _ _ _ x) <|
  And.intro (fun x => piece_ok _ _ _ 0 10 10 0 16 256 64 par_B lane1_B (by decide) _ _ _ _ x) <|
  And.intro (fun x => piece_ok _ _ _ 1 9 145 40 56 256 0 par_B lane2_B (by decide) _ _ _ _ x) <|
  And.intro (fun x => piece_ok _ _ _ 0 9 9 32 48 256 0 par_B lane2_B (by decide) _ _ _ _ x) <|
  And.intro (fun x => piece_ok _ _ _ 1 8 144 8 24 256 0 par_B lane2_B (by decide) _ _ _ _ x) <|
  And.intro (fun x => piece_ok _ _ _ 0 8 8 0 16 256 0 par_B lane2_B (by decide) _ _ _ _ x) <|
  And.intro (fun x => piece_ok _ _ _ 1 7 143 40 56 128 64 par_B lane1_B (by decide) _ _ _ _ x) <|
  And.intro (fun x => piece_ok _ _ _ 0 7 7 32 48 128 64 par_B lane1_B (by decide) _ _ _ _ x) <|
  And.intro (fun x => piece_ok _ _ _ 1 6 142 8 24 128 64 par_B lane1_B (by decide) _ _ _ _ x) <|
  And.intro (fun x => piece_ok _ _ _ 0 6 6 0 16 128 64 par_B lane1_B (by decide) _ _ _ _ x) <|
  And.intro (fun x => piece_ok _ _ _ 1 5 141 40 56 128 0 par_B lane2_B (by decide) _ _ _ _ x) <|
  And.intro (fun x => piece_ok _ _ _ 0 5 5 32 48 128 0 par_B lane2_B (by decide) _ _ _ _ x) <|
  And.intro (fun x => piece_ok _ _ _ 1 4 140 8 24 128 0 par_B lane2_B (by decide) _ _ _ _ x) <|
  And.intro (fun x => piece_ok _ _ _ 0 4 4 0 16 128 0 par_B lane2_B (by decide) _ _ _ _ x) <|
  And.intro (fun x => piece_ok _ _ _ 1 3 139 40 56 0 64 par_B lane1_B (by decide) _ _ _ _ x) <|
  And.intro (fun x => piece_ok _ _ _ 0 3 3 32 48 0 64 par_B lane1_B (by decide) _ _ _ _ x) <|
  And.intro (fun x => piece_ok _ _ _ 1 2 138 8 24 0 64 par_B lane1_B (by decide) _ _ _ _ x) <|
  And.intro (fun x => piece_ok _ _ _ 0 2 2 0 16 0 64 par_B lane1_B (by decide) _ _ _ _ x) <|
  And.intro (fun x => piece_ok _ _ _ 1 1 137 40 56 0 0 par_B lane0_B (by decide) _ _ _ _ x) <|
  And.intro (fun x => piece_ok _ _ _ 0 1 1 32 48 0 0 par_B lane0_B (by decide) _ _ _ _ x) <|
  And.intro (fun x => piece_ok _ _ _ 1 0 136 8 24 0 0 par_B lane0_B (by decide) _ _ _ _ x) <|
  And.intro (fun x => piece_ok _ _ _ 0 0 0 0 16 0 0 par_B lane0_B (by decide) _ _ _ _ x) <|
  trivial

theorem rects_B (c : Dev nD) (i : grid0.Coords) (arg2 : Memref sig .tc .smem S3 .f32) (harg2 : arg2.IsWhole) (arg5 : Memref sig .tc .vmem S2x1x512x1536 .bf16) (harg5 : arg5.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg18 : Memref sig .tc .vmem S2x1x512x1536 .fp8e4m3) (arg20 : Memref sig .tc .vmem S2x6x1x1536 .f32) (harg20 : arg20.IsWhole) (x0 : Vec Ideal S3 .f32) (x3 : Vec Ideal S2x1x512x1536 .bf16) (x8 : Vec Ideal S64x1536 .fp8e4m3) (x9 : Vec Ideal S64x1 .f32) (x10 : Vec Ideal S64x1 .f32) (xs0 : Vec Ideal S2x6x1x1536 .f32) :
    (kernelRun0_B.sl.HS1_32 c i arg2 harg2 arg5 harg5 arg10 harg10 arg11 harg11 arg12 harg12 arg18 arg20 harg20 x0 x3 x8 x9 x10 xs0).map (fun p => p.1) = sorder.map (fun p => srect p.1 p.2) := rfl

/-- A plane read back. -/
theorem read_B (c : Dev nD) (i : grid0.Coords) (arg2 : Memref sig .tc .smem S3 .f32) (harg2 : arg2.IsWhole) (arg5 : Memref sig .tc .vmem S2x1x512x1536 .bf16) (harg5 : arg5.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg18 : Memref sig .tc .vmem S2x1x512x1536 .fp8e4m3) (arg20 : Memref sig .tc .vmem S2x6x1x1536 .f32) (harg20 : arg20.IsWhole) (x0 : Vec Ideal S3 .f32) (x3 : Vec Ideal S2x1x512x1536 .bf16) (x8 : Vec Ideal S64x1536 .fp8e4m3) (x9 : Vec Ideal S64x1 .f32) (x10 : Vec Ideal S64x1 .f32) (xs0 : Vec Ideal S2x6x1x1536 .f32) (arg21 : Memref sig .tc .vmem S272x128 .f32)
    (ch : Fin 16) (o : Nat) (ho : o = 17 * ch.val) (inb : ∀ a : Fin 2, (![o, 0] : Fin 2 → Nat) a + (![16, 128] : Fin 2 → Nat) a ≤ S272x128.size a) (x : S16x128.Idx) :
    arg21.view.readCov (kernelRun0_B.sl.HS1_32 c i arg2 harg2 arg5 harg5 arg10 harg10 arg11 harg11 arg12 harg12 arg18 arg20 harg20 x0 x3 x8 x9 x10 xs0) (Rect.unit (s := S272x128) ![o, 0] ![16, 128] inb).toLoadRect x
      = shufG (kernelRun0_B.sl.r_64 c i arg2 harg2 arg5 harg5 arg10 harg10 arg11 harg11 arg12 harg12 arg18 arg20 harg20 x0 x3 x8 x9 x10 xs0) (ix2 ⟨17 * ch.val + (x 0).val, by have : (x 0).val < 16 := (x 0).isLt; omega⟩ (x 1)) := by
  subst ho
  have hx0 : (x 0).val < 16 := (x 0).isLt
  have hc : ∀ z : S16x128.Idx, ∃ p ∈ kernelRun0_B.sl.HS1_32 c i arg2 harg2 arg5 harg5 arg10 harg10 arg11 harg11 arg12 harg12 arg18 arg20 harg20 x0 x3 x8 x9 x10 xs0, (Rect.unit (s := S272x128) ![17 * ch.val, 0] ![16, 128] inb).emb z ∈ p.1.set := by
    intro z
    have hz0 : (z 0).val < 16 := (z 0).isLt
    have hm := List.mem_map_of_mem (f := fun p : Fin 2 × Fin 16 => srect p.1 p.2) (sorder_mem ⟨ch.val / 8, by omega⟩ ⟨(z 0).val, hz0⟩)
    rw [← rects_B c i arg2 harg2 arg5 harg5 arg10 harg10 arg11 harg11 arg12 harg12 arg18 arg20 harg20 x0 x3 x8 x9 x10 xs0] at hm
    obtain ⟨p, hp, e⟩ := List.mem_map.mp hm
    refine ⟨p, hp, ?_⟩
    rw [e]
    exact srect_mem ch ⟨(z 0).val, hz0⟩ (z 1) _ (show 17 * ch.val + 1 * (z 0).val = 17 * ch.val + (z 0).val by omega) (show 0 + 1 * (z 1).val = (z 1).val by omega)
  refine (congrFun (View.readCov_eq_canon arg21.view (kernelRun0_B.sl.HS1_32 c i arg2 harg2 arg5 harg5 arg10 harg10 arg11 harg11 arg12 harg12 arg18 arg20 harg20 x0 x3 x8 x9 x10 xs0) (Rect.unit (s := S272x128) ![17 * ch.val, 0] ![16, 128] inb) hc) x).trans ?_
  have e : (Rect.unit (s := S272x128) ![17 * ch.val, 0] ![16, 128] inb).emb x
      = (ix2 ⟨17 * ch.val + (x 0).val, by omega⟩ (x 1) : S272x128.Idx) := by
    funext d
    refine Fin.ext ?_
    match d with
    | ⟨0, _⟩ => show 17 * ch.val + 1 * (x 0).val = 17 * ch.val + (x 0).val; omega
    | ⟨1, _⟩ => show 0 + 1 * (x 1).val = (x 1).val; omega
  rw [← e]
  have := View.canon_append_of_piecesOf (shufG (kernelRun0_B.sl.r_64 c i arg2 harg2 arg5 harg5 arg10 harg10 arg11 harg11 arg12 harg12 arg18 arg20 harg20 x0 x3 x8 x9 x10 xs0)) [] (kernelRun0_B.sl.HS1_32 c i arg2 harg2 arg5 harg5 arg10 harg10 arg11 harg11 arg12 harg12 arg18 arg20 harg20 x0 x3 x8 x9 x10 xs0) (pieces_B c i arg2 harg2 arg5 harg5 arg10 harg10 arg11 harg11 arg12 harg12 arg18 arg20 harg20 x0 x3 x8 x9 x10 xs0) _ (hc x)
  rw [List.append_nil] at this
  exact this

theorem lane0_A : ∀ (a : Fin 8) (l : Fin 128), kernelRun0_A.sl.v1019 (ix2 a l) = BitVec.ofNat 32 (0 + l.val / 2) := by decide +kernel

theorem lane1_A : ∀ (a : Fin 8) (l : Fin 128), kernelRun0_A.sl.v1205 (ix2 a l) = BitVec.ofNat 32 (64 + l.val / 2) := by decide +kernel

theorem lane2_A : ∀ (a : Fin 8) (l : Fin 128), kernelRun0_A.sl.v1391 (ix2 a l) = BitVec.ofNat 32 (0 + l.val / 2) := by decide +kernel

theorem par_A : ∀ (a : Fin 8) (l : Fin 128), cmpi .eq kernelRun0_A.sl.v1045 kernelRun0_A.sl.v1004 (ix2 a l) = BitVec.ofBool (decide (l.val % 2 = 0)) := by decide +kernel

theorem pieces_A (c : Dev nD) (i : grid0.Coords) (arg2 : Memref sig .tc .smem S3 .f32) (harg2 : arg2.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg18 : Memref sig .tc .vmem S2x1x512x1536 .fp8e4m3) (arg20 : Memref sig .tc .vmem S2x6x1x1536 .f32) (x0 : Vec Ideal S3 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (x8 : Vec Ideal S64x1536 .fp8e4m3) (x9 : Vec Ideal S64x1 .f32) (x10 : Vec Ideal S64x1 .f32) :
    View.PiecesOf (shufG (kernelRun0_A.sl.r_73 c i arg2 harg2 arg5 harg5 arg6 harg6 arg7 harg7 arg8 harg8 arg9 harg9 arg10 harg10 arg11 harg11 arg12 harg12 arg18 arg20 x0 x3 x4 x5 x6 x7 x8 x9 x10)) (kernelRun0_A.sl.HS1_32 c i arg2 harg2 arg5 harg5 arg6 harg6 arg7 harg7 arg8 harg8 arg9 harg9 arg10 harg10 arg11 harg11 arg12 harg12 arg18 arg20 x0 x3 x4 x5 x6 x7 x8 x9 x10) :=
  And.intro (fun x => piece_ok _ _ _ 1 15 151 40 56 384 64 par_A lane1_A (by decide) _ _ _ _ x) <|
  And.intro (fun x => piece_ok _ _ _ 0 15 15 32 48 384 64 par_A lane1_A (by decide) _ _ _ _ x) <|
  And.intro (fun x => piece_ok _ _ _ 1 14 150 8 24 384 64 par_A lane1_A (by decide) _ _ _ _ x) <|
  And.intro (fun x => piece_ok _ _ _ 0 14 14 0 16 384 64 par_A lane1_A (by decide) _ _ _ _ x) <|
  And.intro (fun x => piece_ok _ _ _ 1 13 149 40 56 384 0 par_A lane2_A (by decide) _ _ _ _ x) <|
  And.intro (fun x => piece_ok _ _ _ 0 13 13 32 48 384 0 par_A lane2_A (by decide) _ _ _ _ x) <|
  And.intro (fun x => piece_ok _ _ _ 1 12 148 8 24 384 0 par_A lane2_A (by decide) _ _ _ _ x) <|
  And.intro (fun x => piece_ok _ _ _ 0 12 12 0 16 384 0 par_A lane2_A (by decide) _ _ _ _ x) <|
  And.intro (fun x => piece_ok _ _ _ 1 11 147 40 56 256 64 par_A lane1_A (by decide) _ _ _ _ x) <|
  And.intro (fun x => piece_ok _ _ _ 0 11 11 32 48 256 64 par_A lane1_A (by decide) _ _ _ _ x) <|
  And.intro (fun x => piece_ok _ _ _ 1 10 146 8 24 256 64 par_A lane1_A (by decide) _ _ _ _ x) <|
  And.intro (fun x => piece_ok _ _ _ 0 10 10 0 16 256 64 par_A lane1_A (by decide) _ _ _ _ x) <|
  And.intro (fun x => piece_ok _ _ _ 1 9 145 40 56 256 0 par_A lane2_A (by decide) _ _ _ _ x) <|
  And.intro (fun x => piece_ok _ _ _ 0 9 9 32 48 256 0 par_A lane2_A (by decide) _ _ _ _ x) <|
  And.intro (fun x => piece_ok _ _ _ 1 8 144 8 24 256 0 par_A lane2_A (by decide) _ _ _ _ x) <|
  And.intro (fun x => piece_ok _ _ _ 0 8 8 0 16 256 0 par_A lane2_A (by decide) _ _ _ _ x) <|
  And.intro (fun x => piece_ok _ _ _ 1 7 143 40 56 128 64 par_A lane1_A (by decide) _ _ _ _ x) <|
  And.intro (fun x => piece_ok _ _ _ 0 7 7 32 48 128 64 par_A lane1_A (by decide) _ _ _ _ x) <|
  And.intro (fun x => piece_ok _ _ _ 1 6 142 8 24 128 64 par_A lane1_A (by decide) _ _ _ _ x) <|
  And.intro (fun x => piece_ok _ _ _ 0 6 6 0 16 128 64 par_A lane1_A (by decide) _ _ _ _ x) <|
  And.intro (fun x => piece_ok _ _ _ 1 5 141 40 56 128 0 par_A lane2_A (by decide) _ _ _ _ x) <|
  And.intro (fun x => piece_ok _ _ _ 0 5 5 32 48 128 0 par_A lane2_A (by decide) _ _ _ _ x) <|
  And.intro (fun x => piece_ok _ _ _ 1 4 140 8 24 128 0 par_A lane2_A (by decide) _ _ _ _ x) <|
  And.intro (fun x => piece_ok _ _ _ 0 4 4 0 16 128 0 par_A lane2_A (by decide) _ _ _ _ x) <|
  And.intro (fun x => piece_ok _ _ _ 1 3 139 40 56 0 64 par_A lane1_A (by decide) _ _ _ _ x) <|
  And.intro (fun x => piece_ok _ _ _ 0 3 3 32 48 0 64 par_A lane1_A (by decide) _ _ _ _ x) <|
  And.intro (fun x => piece_ok _ _ _ 1 2 138 8 24 0 64 par_A lane1_A (by decide) _ _ _ _ x) <|
  And.intro (fun x => piece_ok _ _ _ 0 2 2 0 16 0 64 par_A lane1_A (by decide) _ _ _ _ x) <|
  And.intro (fun x => piece_ok _ _ _ 1 1 137 40 56 0 0 par_A lane0_A (by decide) _ _ _ _ x) <|
  And.intro (fun x => piece_ok _ _ _ 0 1 1 32 48 0 0 par_A lane0_A (by decide) _ _ _ _ x) <|
  And.intro (fun x => piece_ok _ _ _ 1 0 136 8 24 0 0 par_A lane0_A (by decide) _ _ _ _ x) <|
  And.intro (fun x => piece_ok _ _ _ 0 0 0 0 16 0 0 par_A lane0_A (by decide) _ _ _ _ x) <|
  trivial

theorem rects_A (c : Dev nD) (i : grid0.Coords) (arg2 : Memref sig .tc .smem S3 .f32) (harg2 : arg2.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg18 : Memref sig .tc .vmem S2x1x512x1536 .fp8e4m3) (arg20 : Memref sig .tc .vmem S2x6x1x1536 .f32) (x0 : Vec Ideal S3 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (x8 : Vec Ideal S64x1536 .fp8e4m3) (x9 : Vec Ideal S64x1 .f32) (x10 : Vec Ideal S64x1 .f32) :
    (kernelRun0_A.sl.HS1_32 c i arg2 harg2 arg5 harg5 arg6 harg6 arg7 harg7 arg8 harg8 arg9 harg9 arg10 harg10 arg11 harg11 arg12 harg12 arg18 arg20 x0 x3 x4 x5 x6 x7 x8 x9 x10).map (fun p => p.1) = sorder.map (fun p => srect p.1 p.2) := rfl

/-- A plane read back. -/
theorem read_A (c : Dev nD) (i : grid0.Coords) (arg2 : Memref sig .tc .smem S3 .f32) (harg2 : arg2.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg18 : Memref sig .tc .vmem S2x1x512x1536 .fp8e4m3) (arg20 : Memref sig .tc .vmem S2x6x1x1536 .f32) (x0 : Vec Ideal S3 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (x8 : Vec Ideal S64x1536 .fp8e4m3) (x9 : Vec Ideal S64x1 .f32) (x10 : Vec Ideal S64x1 .f32) (arg21 : Memref sig .tc .vmem S272x128 .f32)
    (ch : Fin 16) (o : Nat) (ho : o = 17 * ch.val) (inb : ∀ a : Fin 2, (![o, 0] : Fin 2 → Nat) a + (![16, 128] : Fin 2 → Nat) a ≤ S272x128.size a) (x : S16x128.Idx) :
    arg21.view.readCov (kernelRun0_A.sl.HS1_32 c i arg2 harg2 arg5 harg5 arg6 harg6 arg7 harg7 arg8 harg8 arg9 harg9 arg10 harg10 arg11 harg11 arg12 harg12 arg18 arg20 x0 x3 x4 x5 x6 x7 x8 x9 x10) (Rect.unit (s := S272x128) ![o, 0] ![16, 128] inb).toLoadRect x
      = shufG (kernelRun0_A.sl.r_73 c i arg2 harg2 arg5 harg5 arg6 harg6 arg7 harg7 arg8 harg8 arg9 harg9 arg10 harg10 arg11 harg11 arg12 harg12 arg18 arg20 x0 x3 x4 x5 x6 x7 x8 x9 x10) (ix2 ⟨17 * ch.val + (x 0).val, by have : (x 0).val < 16 := (x 0).isLt; omega⟩ (x 1)) := by
  subst ho
  have hx0 : (x 0).val < 16 := (x 0).isLt
  have hc : ∀ z : S16x128.Idx, ∃ p ∈ kernelRun0_A.sl.HS1_32 c i arg2 harg2 arg5 harg5 arg6 harg6 arg7 harg7 arg8 harg8 arg9 harg9 arg10 harg10 arg11 harg11 arg12 harg12 arg18 arg20 x0 x3 x4 x5 x6 x7 x8 x9 x10, (Rect.unit (s := S272x128) ![17 * ch.val, 0] ![16, 128] inb).emb z ∈ p.1.set := by
    intro z
    have hz0 : (z 0).val < 16 := (z 0).isLt
    have hm := List.mem_map_of_mem (f := fun p : Fin 2 × Fin 16 => srect p.1 p.2) (sorder_mem ⟨ch.val / 8, by omega⟩ ⟨(z 0).val, hz0⟩)
    rw [← rects_A c i arg2 harg2 arg5 harg5 arg6 harg6 arg7 harg7 arg8 harg8 arg9 harg9 arg10 harg10 arg11 harg11 arg12 harg12 arg18 arg20 x0 x3 x4 x5 x6 x7 x8 x9 x10] at hm
    obtain ⟨p, hp, e⟩ := List.mem_map.mp hm
    refine ⟨p, hp, ?_⟩
    rw [e]
    exact srect_mem ch ⟨(z 0).val, hz0⟩ (z 1) _ (show 17 * ch.val + 1 * (z 0).val = 17 * ch.val + (z 0).val by omega) (show 0 + 1 * (z 1).val = (z 1).val by omega)
  refine (congrFun (View.readCov_eq_canon arg21.view (kernelRun0_A.sl.HS1_32 c i arg2 harg2 arg5 harg5 arg6 harg6 arg7 harg7 arg8 harg8 arg9 harg9 arg10 harg10 arg11 harg11 arg12 harg12 arg18 arg20 x0 x3 x4 x5 x6 x7 x8 x9 x10) (Rect.unit (s := S272x128) ![17 * ch.val, 0] ![16, 128] inb) hc) x).trans ?_
  have e : (Rect.unit (s := S272x128) ![17 * ch.val, 0] ![16, 128] inb).emb x
      = (ix2 ⟨17 * ch.val + (x 0).val, by omega⟩ (x 1) : S272x128.Idx) := by
    funext d
    refine Fin.ext ?_
    match d with
    | ⟨0, _⟩ => show 17 * ch.val + 1 * (x 0).val = 17 * ch.val + (x 0).val; omega
    | ⟨1, _⟩ => show 0 + 1 * (x 1).val = (x 1).val; omega
  rw [← e]
  have := View.canon_append_of_piecesOf (shufG (kernelRun0_A.sl.r_73 c i arg2 harg2 arg5 harg5 arg6 harg6 arg7 harg7 arg8 harg8 arg9 harg9 arg10 harg10 arg11 harg11 arg12 harg12 arg18 arg20 x0 x3 x4 x5 x6 x7 x8 x9 x10)) [] (kernelRun0_A.sl.HS1_32 c i arg2 harg2 arg5 harg5 arg6 harg6 arg7 harg7 arg8 harg8 arg9 harg9 arg10 harg10 arg11 harg11 arg12 harg12 arg18 arg20 x0 x3 x4 x5 x6 x7 x8 x9 x10) (pieces_A c i arg2 harg2 arg5 harg5 arg6 harg6 arg7 harg7 arg8 harg8 arg9 harg9 arg10 harg10 arg11 harg11 arg12 harg12 arg18 arg20 x0 x3 x4 x5 x6 x7 x8 x9 x10) _ (hc x)
  rw [List.append_nil] at this
  exact this

end Cert.KernelIdeal.Gen

end
-- ==== Proof.Quant.lean ====
module

public import Idealize.ShloMosaic.Lib.ValueIdx
public import Idealize.ShloMosaic.Lib.Pointwise
public import Mathlib.Data.BitVec

/-! # One row's quantiser, as a function of one extended real

The kernel reads the exponent field of `v` (the row's largest magnitude over 448) by bisection over the
powers of two; the reference counts the powers of two that are at most `v`. Here both are functions of
the one number `v`, and the scales and inverse scales they build are equal at every `v`. -/

@[expose] public section

noncomputable section

namespace Quant

open Idealize.ShloMosaic

/-- The power of two whose exponent field is `c`. -/
def T (c : Nat) : EReal := Ideal.ofBits .f32 (BitVec.ofNat 32 c * 8388608#32)

/-- One step of the kernel's bisection. -/
def bisStep (v : EReal) (k s : BitVec 32) : BitVec 32 :=
  Scalar.select (Ideal.cmp .oge v (Ideal.ofBits .f32 ((k + s) * 8388608#32))) (k + s) k

/-- The kernel's exponent field of `v`, in place. -/
def field (v : EReal) : BitVec 32 :=
  bisStep v (bisStep v (bisStep v (bisStep v (bisStep v (bisStep v (bisStep v (bisStep v 0#32 128#32) 64#32) 32#32) 16#32) 8#32) 4#32) 2#32) 1#32
    * 8388608#32

/-- Whether the kernel leaves the row alone. -/
def plain (v : EReal) : BitVec 1 := Scalar.cmpi .eq (field v) 0#32 ||| Scalar.cmpi .eq (field v) 2139095040#32

def kScale (v : EReal) : EReal :=
  Scalar.select (plain v) (Ideal.ofBits .f32 0x3F800000#32) (Ideal.ofBits .f32 (field v + 8388608#32))

def kInv (v : EReal) : EReal :=
  Scalar.select (plain v) (Ideal.ofBits .f32 0x3F800000#32) (Ideal.ofBits .f32 (2122317824#32 - field v))

/-- The reference's count of the powers of two at most `v`. -/
def count (v : EReal) : BitVec 32 :=
  ∑ j : Fin 254, (Ideal.cmp .ole (Ideal.exp2 ((((BitVec.ofNat 32 j.val).toInt : ℝ) : EReal) - Ideal.ofBits .f32 0x42FC0000#32)) v).setWidth 32

def one (v : EReal) : BitVec 1 :=
  Ideal.cmp .olt v (Ideal.ofBits .f32 0x00800000#32) ||| ((BitVec.ofBool (decide (v = ⊤ ∨ v = ⊥)) ^^^ 1#1) ^^^ 1#1)

def rScale (v : EReal) : EReal :=
  Scalar.select (one v) (Ideal.ofBits .f32 0x3F800000#32) (Ideal.ofBits .f32 ((count v - 126#32 + 127#32) <<< (23#32).toNat))

def rInv (v : EReal) : EReal :=
  Scalar.select (one v) (Ideal.ofBits .f32 0x3F800000#32) (Ideal.ofBits .f32 ((127#32 - (count v - 126#32)) <<< (23#32).toNat))

/-! ## The thresholds -/

theorem fieldBits : ∀ c : Fin 256, ((BitVec.ofNat 32 c.val * 8388608#32).extractLsb' 31 1 == 1#1) = false
    ∧ ((BitVec.ofNat 32 c.val * 8388608#32).extractLsb' 23 8).toNat = c.val
    ∧ ((BitVec.ofNat 32 c.val * 8388608#32).extractLsb' 0 23).toNat = 0 := by decide +kernel

theorem T_eq {c : Nat} (h1 : 1 ≤ c) (h2 : c ≤ 254) : T c = (((2 : ℝ) ^ ((c : Int) - 127) : ℝ) : EReal) := by
  obtain ⟨hs, he, hf⟩ := fieldBits ⟨c, by omega⟩
  simp only at hs he hf
  unfold T Ideal.ofBits Ideal.ieee
  simp only [Nat.reduceAdd, hs, he, hf]
  rw [if_neg (by omega), if_neg (by omega)]
  congr 1
  have : ((c : Int) - 127) = 23 + ((c : Int) - (2 ^ (8 - 1) - 1) - 23) := by norm_num
  rw [this, zpow_add₀ (by norm_num)]
  norm_num

theorem T_top : T 255 = ⊤ := by
  obtain ⟨hs, he, hf⟩ := fieldBits ⟨255, by omega⟩
  simp only at hs he hf
  unfold T Ideal.ofBits Ideal.ieee
  simp only [Nat.reduceAdd, hs, he, hf]
  simp

theorem T_mono {a b : Nat} (h1 : 1 ≤ a) (h : a ≤ b) (h2 : b ≤ 255) : T a ≤ T b := by
  rcases Nat.lt_or_ge b 255 with hb | hb
  · rw [T_eq h1 (by omega), T_eq (by omega) (by omega)]
    exact EReal.coe_le_coe_iff.mpr (zpow_le_zpow_right₀ (by norm_num) (by omega))
  · obtain rfl : b = 255 := by omega
    rw [T_top]; exact le_top

/-- The largest exponent field whose power of two is at most `v`, zero when none is. -/
theorem threshold (v : EReal) : ∃ N ≤ 255, ∀ c, 1 ≤ c → c ≤ 255 → (T c ≤ v ↔ c ≤ N) := by
  classical
  let p : Nat → Prop := fun c => c = 0 ∨ T c ≤ v
  refine ⟨Nat.findGreatest p 255, Nat.findGreatest_le _, fun c h1 h2 => ⟨fun h => Nat.le_findGreatest h2 (.inr h), fun h => ?_⟩⟩
  have hp : p (Nat.findGreatest p 255) := Nat.findGreatest_spec (P := p) (Nat.zero_le 255) (.inl rfl)
  rcases hp with h0 | h0
  · omega
  · exact le_trans (T_mono h1 h (Nat.findGreatest_le _)) h0

theorem step {v : EReal} {N : Nat} (hN : ∀ c, 1 ≤ c → c ≤ 255 → (T c ≤ v ↔ c ≤ N)) {k : BitVec 32} (s : Nat) (hs : 1 ≤ s)
    (h : ∃ K, k = BitVec.ofNat 32 K ∧ K ≤ N ∧ N < K + 2 * s ∧ K + 2 * s ≤ 256) :
    ∃ K, bisStep v k (BitVec.ofNat 32 s) = BitVec.ofNat 32 K ∧ K ≤ N ∧ N < K + s ∧ K + s ≤ 256 := by
  obtain ⟨K, rfl, h1, h2, h3⟩ := h
  have e : BitVec.ofNat 32 K + BitVec.ofNat 32 s = BitVec.ofNat 32 (K + s) := (BitVec.ofNat_add ..).symm
  unfold bisStep Scalar.select Ideal.cmp
  rw [e]
  have := hN (K + s) (by omega) (by omega)
  unfold T at this
  by_cases hc : K + s ≤ N
  · refine ⟨K + s, ?_, by omega, by omega, by omega⟩
    simp [this.mpr hc]
  · refine ⟨K, ?_, by omega, by omega, by omega⟩
    simp [mt this.mp hc]

theorem field_eq {v : EReal} {N : Nat} (h255 : N ≤ 255) (hN : ∀ c, 1 ≤ c → c ≤ 255 → (T c ≤ v ↔ c ≤ N)) :
    field v = BitVec.ofNat 32 N * 8388608#32 := by
  obtain ⟨K, hk, h1, h2, -⟩ := step hN 1 (by omega) (step hN 2 (by omega) (step hN 4 (by omega) (step hN 8 (by omega)
    (step hN 16 (by omega) (step hN 32 (by omega) (step hN 64 (by omega) (step hN 128 (by omega)
      ⟨0, rfl, by omega, by omega, by omega⟩)))))))
  obtain rfl : K = N := by omega
  unfold field
  rw [← hk]

theorem pow_eq (j : Fin 254) :
    Ideal.exp2 ((((BitVec.ofNat 32 j.val).toInt : ℝ) : EReal) - Ideal.ofBits .f32 0x42FC0000#32) = T (j.val + 1) := by
  have h126 : Ideal.ofBits .f32 0x42FC0000#32 = ((126 : ℝ) : EReal) := by
    simp [Ideal.ofBits, Ideal.ieee, -EReal.coe_mul]; norm_num
  have hj : (BitVec.ofNat 32 j.val).toInt = (j.val : Int) := by
    have := j.isLt
    rw [BitVec.toInt_eq_toNat_cond, BitVec.toNat_ofNat, Nat.mod_eq_of_lt (by omega), if_pos (by omega)]
  rw [h126, hj, T_eq (by omega) (by omega), ← EReal.coe_sub]
  show ((Real.rpow 2 _ : ℝ) : EReal) = _
  congr 1
  show (2 : ℝ) ^ (_ : ℝ) = _
  rw [← Real.rpow_intCast]
  congr 1
  push_cast
  ring

theorem count_eq {v : EReal} {N : Nat} (hN : ∀ c, 1 ≤ c → c ≤ 255 → (T c ≤ v ↔ c ≤ N)) :
    count v = BitVec.ofNat 32 (min N 254) := by
  unfold count
  have e : ∀ j : Fin 254, (Ideal.cmp .ole (Ideal.exp2 ((((BitVec.ofNat 32 j.val).toInt : ℝ) : EReal) - Ideal.ofBits .f32 0x42FC0000#32)) v).setWidth 32
      = BitVec.ofNat 32 (if j.val < N then 1 else 0) := by
    intro j
    rw [pow_eq]
    unfold Ideal.cmp
    have := hN (j.val + 1) (by omega) (by omega)
    by_cases hc : j.val < N
    · simp [this.mpr hc, hc]
    · simp [mt this.mp (by omega), hc]
  rw [Finset.sum_congr rfl fun j _ => e j]
  have hcast : ∀ (f : Fin 254 → Nat), ∑ j, BitVec.ofNat 32 (f j) = BitVec.ofNat 32 (∑ j, f j) := by
    intro f
    induction (Finset.univ : Finset (Fin 254)) using Finset.induction_on with
    | empty => rfl
    | insert a s ha ih => rw [Finset.sum_insert ha, Finset.sum_insert ha, ih, BitVec.ofNat_add]
  rw [hcast]
  refine congrArg (BitVec.ofNat 32) ?_
  rw [Fin.sum_univ_eq_sum_range (fun j => if j < N then 1 else 0) 254, Finset.sum_ite, Finset.sum_const_zero, add_zero,
    Finset.sum_const, smul_eq_mul, mul_one]
  rw [show (Finset.range 254).filter (fun x => x < N) = Finset.range (min N 254) by ext x; simp; omega, Finset.card_range]

/-! ## The two quantisers agree -/

theorem words : ∀ M : Fin 254,
    (Scalar.cmpi .eq (BitVec.ofNat 32 (M.val + 1) * 8388608#32) 0#32 ||| Scalar.cmpi .eq (BitVec.ofNat 32 (M.val + 1) * 8388608#32) 2139095040#32) = 0#1
    ∧ BitVec.ofNat 32 (M.val + 1) * 8388608#32 + 8388608#32 = (BitVec.ofNat 32 (min (M.val + 1) 254) - 126#32 + 127#32) <<< (23#32).toNat
    ∧ 2122317824#32 - BitVec.ofNat 32 (M.val + 1) * 8388608#32 = (127#32 - (BitVec.ofNat 32 (min (M.val + 1) 254) - 126#32)) <<< (23#32).toNat := by
  decide +kernel

theorem plain_or (v : EReal) : (plain v = 1#1 ∧ one v = 1#1) ∨
    (plain v = 0#1 ∧ one v = 0#1 ∧ field v + 8388608#32 = (count v - 126#32 + 127#32) <<< (23#32).toNat
      ∧ 2122317824#32 - field v = (127#32 - (count v - 126#32)) <<< (23#32).toNat) := by
  obtain ⟨N, h255, hN⟩ := threshold v
  have hf := field_eq h255 hN
  have hc := count_eq hN
  have h1 : Ideal.ofBits .f32 0x00800000#32 = T 1 := rfl
  have hone := hN 1 (by omega) (by omega)
  have htop := hN 255 (by omega) (by omega)
  rw [T_top, top_le_iff] at htop
  unfold plain one
  rw [hf, hc, h1]
  rcases Nat.eq_zero_or_pos N with h0 | h0
  · left
    subst h0
    refine ⟨by decide, ?_⟩
    have : v < T 1 := not_le.mp (mt hone.mp (by omega))
    unfold Ideal.cmp
    simp only [this, decide_true]
    generalize (BitVec.ofBool (decide (v = ⊤ ∨ v = ⊥)) ^^^ 1#1) ^^^ 1#1 = w
    revert w; decide
  rcases Nat.lt_or_ge N 255 with h2 | h2
  · right
    obtain ⟨a, b, c⟩ := words ⟨N - 1, by omega⟩
    simp only [Nat.sub_add_cancel h0] at a b c
    refine ⟨a, ?_, b, c⟩
    have hle : T 1 ≤ v := hone.mpr h0
    have hnt : v ≠ ⊤ := mt htop.mp (by omega)
    have hnb : v ≠ ⊥ := by
      rintro rfl
      rw [T_eq (by omega) (by omega), le_bot_iff] at hle
      exact EReal.coe_ne_bot _ hle
    unfold Ideal.cmp
    simp [not_lt.mpr hle, hnt, hnb]
  · left
    obtain rfl : N = 255 := by omega
    refine ⟨by decide, ?_⟩
    have : v = ⊤ := htop.mpr (by omega)
    subst this
    simp only [true_or, decide_true]
    generalize Ideal.cmp _ _ _ = w
    revert w; decide

theorem scale_eq (v : EReal) : kScale v = rScale v := by
  unfold kScale rScale Scalar.select
  rcases plain_or v with ⟨a, b⟩ | ⟨a, b, c, d⟩ <;> simp [a, b, *]

theorem inv_eq (v : EReal) : kInv v = rInv v := by
  unfold kInv rInv Scalar.select
  rcases plain_or v with ⟨a, b⟩ | ⟨a, b, c, d⟩ <;> simp [a, b, *]

end Quant
-- ==== Proof.Model.lean ====
/- The kernel's row quantiser, chunk by chunk: every chunk of 128 rows is the same function of the shift, the gain and the
   chunk, and over the extended reals its codes and scales are those of one row at a time. -/
module

public import proofs.«01_k».proof.Proof.Gen.KernelIdeal.Skeleton
public import proofs.«01_k».proof.Proof.Quant
public import Idealize.ShloMosaic.Lib.Pipeline.ValueKit

@[expose] public section

set_option maxRecDepth 16384

noncomputable section

namespace Quant

open Idealize.ShloMosaic

/-- The mean of a row. -/
def mean (x : Fin 1536 → EReal) : EReal := Ideal.div (∑ k, x k) (Ideal.ofBits .f32 1153433600#32)

/-- A row less its mean. -/
def cent (x : Fin 1536 → EReal) (k : Fin 1536) : EReal := x k - mean x

/-- A row normalised, gained and shifted. -/
def hval (s g x : Fin 1536 → EReal) (k : Fin 1536) : EReal :=
  cent x k * Ideal.rsqrt (mean (fun k => cent x k * cent x k) + Ideal.ofBits .f32 897988541#32) * g k + s k

/-- A row's largest magnitude times 1/448. -/
def amax (h : Fin 1536 → EReal) : EReal :=
  Finset.fold max (Ideal.ofBits .f32 4286578688#32) (fun k => FloatOps.absf (F := Ideal) (φ := .f32) (h k)) Finset.univ * Ideal.ofBits .f32 991054117#32

/-- A row's codes: times the inverse scale, clipped at 448. -/
def code (h : Fin 1536 → EReal) (k : Fin 1536) : EReal :=
  min (Ideal.ofBits .f32 1138753536#32) (max (Ideal.ofBits .f32 3286237184#32) (h k * kInv (amax h)))

end Quant

namespace Cert.KernelIdeal.Gen

open Idealize.ShloMosaic Idealize.ShloMosaic.TcCoe Idealize.ShloMosaic.Tactic

variable {F : FTy → Type} [FloatOps F]

/-- A chunk's codes. -/
def mcodes (s g : Vec F S1x1x1x1536 .f32) (x : Vec F S1x1x128x1536 .bf16) : FVec F S1x1x128x1536 .fp8e4m3 :=
  k0_pay35 (k0_pay26 s g x) (k0_pay28 (k0_pay27 s g x)) (k0_pay29 (k0_pay27 s g x)) (k0_pay30 (k0_pay27 s g x)) (k0_pay31 (k0_pay27 s g x))

/-- A chunk's scales, as a row. -/
def mrow (s g : Vec F S1x1x1x1536 .f32) (x : Vec F S1x1x128x1536 .bf16) : FVec F S1x128 .f32 :=
  k0_pay37 (k0_pay36 (k0_pay28 (k0_pay27 s g x)) (k0_pay29 (k0_pay27 s g x)) (k0_pay30 (k0_pay27 s g x)) (k0_pay31 (k0_pay27 s g x)))

/-- Four chunks' scales. -/
def mrows (s g : Vec F S1x1x1x1536 .f32) (x0 x1 x2 x3 : Vec F S1x1x128x1536 .bf16) : FVec F S1x512 .f32 :=
  concatenate S1x512 1 [⟨S1x128, mrow s g x0⟩, ⟨S1x128, mrow s g x1⟩, ⟨S1x128, mrow s g x2⟩, ⟨S1x128, mrow s g x3⟩] concatenates_S1x128_S1x128_S1x128_S1x128_S1x512_d1

/-! ## Every chunk is that function -/

theorem codes7 (s g : Vec F S1x1x1x1536 .f32) (x : Vec F S1x1x128x1536 .bf16) :
    k0_pay120 (k0_pay119 (k0_pay111 (k0_pay74 s) (k0_pay110 (k0_pay75 g) x)) (k0_pay112 (k0_pay74 s) (k0_pay110 (k0_pay75 g) x)) (k0_pay113 (k0_pay74 s) (k0_pay110 (k0_pay75 g) x)) (k0_pay114 (k0_pay74 s) (k0_pay110 (k0_pay75 g) x)) 8388608#32) = mcodes s g x := rfl
theorem codes6 (s g : Vec F S1x1x1x1536 .f32) (x : Vec F S1x1x128x1536 .bf16) :
    k0_pay108 (k0_pay100 (k0_pay74 s) (k0_pay75 g) (k0_pay99 x)) (k0_pay105 (k0_pay101 (k0_pay74 s) (k0_pay75 g) (k0_pay99 x)) (k0_pay102 (k0_pay74 s) (k0_pay75 g) (k0_pay99 x)) (k0_pay103 (k0_pay74 s) (k0_pay75 g) (k0_pay99 x)) (k0_pay104 (k0_pay74 s) (k0_pay75 g) (k0_pay99 x))) (k0_pay106 (k0_pay101 (k0_pay74 s) (k0_pay75 g) (k0_pay99 x)) (k0_pay102 (k0_pay74 s) (k0_pay75 g) (k0_pay99 x)) (k0_pay103 (k0_pay74 s) (k0_pay75 g) (k0_pay99 x)) (k0_pay104 (k0_pay74 s) (k0_pay75 g) (k0_pay99 x))) k0_pay107 = mcodes s g x := rfl
theorem codes5 (s g : Vec F S1x1x1x1536 .f32) (x : Vec F S1x1x128x1536 .bf16) :
    k0_pay97 (k0_pay88 (k0_pay74 s) (k0_pay75 g) x) (k0_pay89 (k0_pay74 s) (k0_pay75 g) x) (k0_pay91 (k0_pay89 (k0_pay74 s) (k0_pay75 g) x) k0_pay90 128#32) (k0_pay92 (k0_pay89 (k0_pay74 s) (k0_pay75 g) x) k0_pay90 128#32) (k0_pay93 (k0_pay89 (k0_pay74 s) (k0_pay75 g) x) k0_pay90 128#32) = mcodes s g x := rfl
theorem codes4 (s g : Vec F S1x1x1x1536 .f32) (x : Vec F S1x1x128x1536 .bf16) :
    k0_pay86 (k0_pay85 (k0_pay78 (k0_pay74 s) (k0_pay75 g) (k0_pay76 x) (k0_pay77 x)) (k0_pay79 (k0_pay74 s) (k0_pay75 g) (k0_pay76 x) (k0_pay77 x)) (k0_pay80 (k0_pay74 s) (k0_pay75 g) (k0_pay76 x) (k0_pay77 x)) 8#32) (FloatOps.ofBits FTy.f32 3286237184#32) = mcodes s g x := rfl
theorem codes3 (s g : Vec F S1x1x1x1536 .f32) (x : Vec F S1x1x128x1536 .bf16) :
    k0_pay70 (k0_pay62 (k0_pay24 s) (k0_pay25 g) x) (k0_pay63 (k0_pay24 s) (k0_pay25 g) x) (k0_pay66 (k0_pay63 (k0_pay24 s) (k0_pay25 g) x) k0_pay64 k0_pay65 8388608#32) 1#32 = mcodes s g x := rfl
theorem codes2 (s g : Vec F S1x1x1x1536 .f32) (x : Vec F S1x1x128x1536 .bf16) :
    k0_pay60 (FloatOps.ofBits FTy.f32 1138753536#32) (k0_pay59 (k0_pay51 (k0_pay24 s) (k0_pay25 g) (k0_pay48 x) (k0_pay49 x) k0_pay50) (k0_pay52 (k0_pay24 s) (k0_pay25 g) (k0_pay48 x) (k0_pay49 x) k0_pay50) (k0_pay53 (k0_pay24 s) (k0_pay25 g) (k0_pay48 x) (k0_pay49 x) k0_pay50) (k0_pay54 (k0_pay24 s) (k0_pay25 g) (k0_pay48 x) (k0_pay49 x) k0_pay50) 8388608#32) = mcodes s g x := rfl
theorem codes1 (s g : Vec F S1x1x1x1536 .f32) (x : Vec F S1x1x128x1536 .bf16) :
    k0_pay46 (k0_pay38 (k0_pay24 s) (k0_pay25 g) x) (k0_pay43 (k0_pay39 (k0_pay24 s) (k0_pay25 g) x) (k0_pay40 (k0_pay24 s) (k0_pay25 g) x) (k0_pay41 (k0_pay24 s) (k0_pay25 g) x) (k0_pay42 (k0_pay24 s) (k0_pay25 g) x)) 0#32 = mcodes s g x := rfl

theorem scales0 (s g : Vec F S1x1x1x1536 .f32) (x0 x1 x2 x3 : Vec F S1x1x128x1536 .bf16) :
    k0_pay71 (k0_pay37 (k0_pay36 (k0_pay28 (k0_pay27 s g x0)) (k0_pay29 (k0_pay27 s g x0)) (k0_pay30 (k0_pay27 s g x0)) (k0_pay31 (k0_pay27 s g x0)))) (k0_pay47 (k0_pay43 (k0_pay39 (k0_pay24 s) (k0_pay25 g) x1) (k0_pay40 (k0_pay24 s) (k0_pay25 g) x1) (k0_pay41 (k0_pay24 s) (k0_pay25 g) x1) (k0_pay42 (k0_pay24 s) (k0_pay25 g) x1)) 0#32) (k0_pay61 (k0_pay58 (k0_pay52 (k0_pay24 s) (k0_pay25 g) (k0_pay48 x2) (k0_pay49 x2) k0_pay50) (k0_pay53 (k0_pay24 s) (k0_pay25 g) (k0_pay48 x2) (k0_pay49 x2) k0_pay50) (k0_pay54 (k0_pay24 s) (k0_pay25 g) (k0_pay48 x2) (k0_pay49 x2) k0_pay50) 8388608#32)) (k0_pay63 (k0_pay24 s) (k0_pay25 g) x3) (k0_pay66 (k0_pay63 (k0_pay24 s) (k0_pay25 g) x3) k0_pay64 k0_pay65 8388608#32) 1#32 = mrows s g x0 x1 x2 x3 := rfl

theorem scales1 (s g : Vec F S1x1x1x1536 .f32) (x0 x1 x2 x3 : Vec F S1x1x128x1536 .bf16) :
    k0_pay121 (k0_pay87 (k0_pay84 (k0_pay79 (k0_pay74 s) (k0_pay75 g) (k0_pay76 x0) (k0_pay77 x0)) (k0_pay80 (k0_pay74 s) (k0_pay75 g) (k0_pay76 x0) (k0_pay77 x0)) 8#32)) (k0_pay98 (k0_pay89 (k0_pay74 s) (k0_pay75 g) x1) (k0_pay91 (k0_pay89 (k0_pay74 s) (k0_pay75 g) x1) k0_pay90 128#32) (k0_pay92 (k0_pay89 (k0_pay74 s) (k0_pay75 g) x1) k0_pay90 128#32) (k0_pay93 (k0_pay89 (k0_pay74 s) (k0_pay75 g) x1) k0_pay90 128#32)) (k0_pay109 (k0_pay105 (k0_pay101 (k0_pay74 s) (k0_pay75 g) (k0_pay99 x2)) (k0_pay102 (k0_pay74 s) (k0_pay75 g) (k0_pay99 x2)) (k0_pay103 (k0_pay74 s) (k0_pay75 g) (k0_pay99 x2)) (k0_pay104 (k0_pay74 s) (k0_pay75 g) (k0_pay99 x2))) (k0_pay106 (k0_pay101 (k0_pay74 s) (k0_pay75 g) (k0_pay99 x2)) (k0_pay102 (k0_pay74 s) (k0_pay75 g) (k0_pay99 x2)) (k0_pay103 (k0_pay74 s) (k0_pay75 g) (k0_pay99 x2)) (k0_pay104 (k0_pay74 s) (k0_pay75 g) (k0_pay99 x2))) k0_pay107 8388608#32) (k0_pay118 (k0_pay112 (k0_pay74 s) (k0_pay110 (k0_pay75 g) x3)) (k0_pay113 (k0_pay74 s) (k0_pay110 (k0_pay75 g) x3)) (k0_pay114 (k0_pay74 s) (k0_pay110 (k0_pay75 g) x3)) 8388608#32) = mrows s g x0 x1 x2 x3 := rfl

/-! ## A chunk over the extended reals -/

def vbis (v : FVec F S128x1 .f32) (k : IVec S128x1 32) (s : BitVec 32) : IVec S128x1 32 :=
  select (cmpf .oge v (bitcastToFloat .f32 (muli (addi k (broadcast S128x1 s)) (broadcast S128x1 8388608#32)))) (addi k (broadcast S128x1 s)) k

theorem vbis_fold (v : FVec F S128x1 .f32) (k : IVec S128x1 32) (s : BitVec 32) :
  select (cmpf .oge v (bitcastToFloat .f32 (muli (addi k (broadcast S128x1 s)) (broadcast S128x1 8388608#32)))) (addi k (broadcast S128x1 s)) k = vbis v k s := rfl

theorem vbis_apply (v : FVec Ideal S128x1 .f32) (k : IVec S128x1 32) (s : BitVec 32) (j : S128x1.Idx) :
  vbis v k s j = Quant.bisStep (v j) (k j) s := by
  unfold vbis Quant.bisStep
  have hm : ∀ a b : BitVec 32, a * b = IntOp.muli a b := fun _ _ => rfl
  have ha : ∀ a b : BitVec 32, a + b = IntOp.addi a b := fun _ _ => rfl
  rw [ValueIdx.select_apply, ValueIdx.cmpf_apply, bitcastToFloat_apply, muli_apply, addi_apply]
  have e1 : IntOp.muli (IntOp.addi (k j) (broadcast S128x1 s j)) (broadcast S128x1 8388608#32 j) = (k j + s) * 8388608#32 := by
    show IntOp.muli (IntOp.addi (k j) s) 8388608#32 = _
    rw [← ha, ← hm]
  have e2 : IntOp.addi (k j) (broadcast S128x1 s j) = k j + s := by rw [ha]; rfl
  rw [e1, e2, Ideal.cmpf_def]
  rfl

def vfield (v : FVec F S128x1 .f32) : IVec S128x1 32 :=
  muli (vbis v (vbis v (vbis v (vbis v (vbis v (vbis v (vbis v (vbis v (broadcast S128x1 0#32) 128#32) 64#32) 32#32) 16#32) 8#32) 4#32) 2#32) 1#32) (broadcast S128x1 8388608#32)

theorem vfield_apply (v : FVec Ideal S128x1 .f32) (j : S128x1.Idx) : vfield v j = Quant.field (v j) := by
  show IntOp.muli (vbis _ _ _ j) _ = _
  rw [vbis_apply, vbis_apply, vbis_apply, vbis_apply, vbis_apply, vbis_apply, vbis_apply, vbis_apply]
  rfl

theorem fieldpay (w : FVec F S128x1536 .f32) :
  k0_pay32 (k0_pay28 w) (k0_pay29 w) (k0_pay30 w) (k0_pay31 w) = vfield (k0_pay28 w) := by
  unfold k0_pay32 k0_pay31 k0_pay30 k0_pay29
  simp only [vbis_fold]
  rfl

theorem plainpay (w : FVec Ideal S128x1536 .f32) (j : S128x1.Idx) :
  k0_pay33 (k0_pay28 w) (k0_pay29 w) (k0_pay30 w) (k0_pay31 w) j = Quant.plain (k0_pay28 w j) := by
  unfold k0_pay33
  rw [fieldpay]
  unfold Quant.plain
  rw [← vfield_apply]
  rfl

theorem scalepay (w : FVec Ideal S128x1536 .f32) (j : S128x1.Idx) :
  k0_pay36 (k0_pay28 w) (k0_pay29 w) (k0_pay30 w) (k0_pay31 w) j = Quant.kScale (k0_pay28 w j) := by
  unfold k0_pay36
  rw [shapeCast_self, fieldpay]
  unfold Quant.kScale
  rw [← plainpay, ← vfield_apply]
  rfl

theorem h_apply (s g : Vec Ideal S1x1x1x1536 .f32) (x : Vec Ideal S1x1x128x1536 .bf16) (j : S128x1536.Idx) :
    k0_pay26 s g x j = Quant.hval (fun k => s (ix4 0 0 0 k)) (fun k => g (ix4 0 0 0 k)) (fun k => x (ix4 0 0 (j 0) k)) (j 1) := by
  unfold k0_pay26 k0_pay25 k0_pay24
  pointwise
  rfl

theorem amax_apply (s g : Vec Ideal S1x1x1x1536 .f32) (x : Vec Ideal S1x1x128x1536 .bf16) (j : S128x1.Idx) :
    k0_pay28 (k0_pay27 s g x) j
      = Quant.amax (Quant.hval (fun k => s (ix4 0 0 0 k)) (fun k => g (ix4 0 0 0 k)) (fun k => x (ix4 0 0 (j 0) k))) := by
  unfold k0_pay28 k0_pay27
  pointwise
  simp only [h_apply]
  rfl

theorem mcodes_apply (s g : Vec Ideal S1x1x1x1536 .f32) (x : Vec Ideal S1x1x128x1536 .bf16) (j : S1x1x128x1536.Idx) :
    mcodes s g x j
      = Quant.code (Quant.hval (fun k => s (ix4 0 0 0 k)) (fun k => g (ix4 0 0 0 k)) (fun k => x (ix4 0 0 (j 2) k))) (j 3) := by
  unfold mcodes k0_pay35
  rw [fieldpay]
  pointwise
  simp only [plainpay, vfield_apply, amax_apply, h_apply]
  rfl

theorem mrow_apply (s g : Vec Ideal S1x1x1x1536 .f32) (x : Vec Ideal S1x1x128x1536 .bf16) (j : S1x128.Idx) :
    mrow s g x j
      = Quant.kScale (Quant.amax (Quant.hval (fun k => s (ix4 0 0 0 k)) (fun k => g (ix4 0 0 0 k)) (fun k => x (ix4 0 0 (j 1) k)))) := by
  unfold mrow k0_pay37
  pointwise
  rw [scalepay, amax_apply]
  rfl

theorem mrows_apply (s g : Vec Ideal S1x1x1x1536 .f32) (x0 x1 x2 x3 : Vec Ideal S1x1x128x1536 .bf16) (X : Fin 512 → Fin 1536 → EReal)
    (h0 : ∀ (r : Fin 128) k, x0 (ix4 0 0 r k) = X ⟨r.val, by omega⟩ k)
    (h1 : ∀ (r : Fin 128) k, x1 (ix4 0 0 r k) = X ⟨128 + r.val, by omega⟩ k)
    (h2 : ∀ (r : Fin 128) k, x2 (ix4 0 0 r k) = X ⟨256 + r.val, by omega⟩ k)
    (h3 : ∀ (r : Fin 128) k, x3 (ix4 0 0 r k) = X ⟨384 + r.val, by omega⟩ k) (j : S1x512.Idx) :
    mrows s g x0 x1 x2 x3 j = Quant.kScale (Quant.amax (Quant.hval (fun k => s (ix4 0 0 0 k)) (fun k => g (ix4 0 0 0 k)) (X (j 1)))) := by
  unfold mrows
  pointwise
  simp only [mrow_apply]
  have hj : (j 1).val < 512 := (j 1).isLt
  by_cases c0 : (j 1).val < 128
  · rw [dif_pos c0]
    exact congrArg (fun Z => Quant.kScale (Quant.amax (Quant.hval _ _ Z))) (funext fun k =>
      (h0 ⟨(j 1).val, c0⟩ k).trans (congrFun (congrArg X (Fin.ext (show (j 1).val = (j 1).val by omega))) k))
  rw [dif_neg c0]
  by_cases c1 : (j 1).val - 128 < 128
  · rw [dif_pos c1]
    exact congrArg (fun Z => Quant.kScale (Quant.amax (Quant.hval _ _ Z))) (funext fun k =>
      (h1 ⟨(j 1).val - 128, c1⟩ k).trans (congrFun (congrArg X (Fin.ext (show 128 + ((j 1).val - 128) = (j 1).val by omega))) k))
  rw [dif_neg c1]
  by_cases c2 : (j 1).val - 128 - 128 < 128
  · rw [dif_pos c2]
    exact congrArg (fun Z => Quant.kScale (Quant.amax (Quant.hval _ _ Z))) (funext fun k =>
      (h2 ⟨(j 1).val - 128 - 128, c2⟩ k).trans (congrFun (congrArg X (Fin.ext (show 256 + ((j 1).val - 128 - 128) = (j 1).val by omega))) k))
  rw [dif_neg c2]
  exact congrArg (fun Z => Quant.kScale (Quant.amax (Quant.hval _ _ Z))) (funext fun k =>
      (h3 ⟨(j 1).val - 128 - 128 - 128, by omega⟩ k).trans (congrFun (congrArg X (Fin.ext (show 384 + ((j 1).val - 128 - 128 - 128) = (j 1).val by omega))) k))

end Cert.KernelIdeal.Gen
-- ==== Proof.KVel.lean ====
/- The codes a block stores, their scales, and the velocity of each channel and position computed from them. -/
module

public import proofs.«01_k».proof.Proof.KRunA
public import proofs.«01_k».proof.Proof.KRunB
public import proofs.«01_k».proof.Proof.Model
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic

/-- Row `p` of half `h` of a block, normalised with that half's gain and shift. -/
def hrow (s0 g0 s1 g1 : Vec Ideal S1x1x1x1536 .f32) (x : Vec Ideal S2x1x512x1536 .bf16) (h : Fin 2) (p : Fin 512) : Fin 1536 → EReal :=
  Quant.hval (fun k => if h.val = 0 then s0 (ix4 0 0 0 k) else s1 (ix4 0 0 0 k))
    (fun k => if h.val = 0 then g0 (ix4 0 0 0 k) else g1 (ix4 0 0 0 k)) (fun k => x (ix4 h 0 p k))

/-- The codes of a block. -/
def xcG (s0 g0 s1 g1 : Vec Ideal S1x1x1x1536 .f32) (x : Vec Ideal S2x1x512x1536 .bf16) (y : S2x1x512x1536.Idx) : EReal :=
  Quant.code (hrow s0 g0 s1 g1 x (y 0) (y 2)) (y 3)

/-- The scale of a row. -/
def xsG (s0 g0 s1 g1 : Vec Ideal S1x1x1x1536 .f32) (x : Vec Ideal S2x1x512x1536 .bf16) (h : Fin 2) (p : Fin 512) : EReal :=
  Quant.kScale (Quant.amax (hrow s0 g0 s1 g1 x h p))

/-- One half's output of the final layer. -/
def linG (s0 g0 s1 g1 : Vec Ideal S1x1x1x1536 .f32) (x : Vec Ideal S2x1x512x1536 .bf16) (w : Vec Ideal S64x1536 .fp8e4m3)
    (ws bo : Vec Ideal S64x1 .f32) (h : Fin 2) (c : Fin 64) (p : Fin 512) : EReal :=
  (∑ k : Fin 1536, w (ix2 c k) * Quant.code (hrow s0 g0 s1 g1 x h p) k) * xsG s0 g0 s1 g1 x h p * ws (ix2 c 0) + bo (ix2 c 0)

/-- The guided velocity of a channel and position. -/
def velG (s0 g0 s1 g1 : Vec Ideal S1x1x1x1536 .f32) (x : Vec Ideal S2x1x512x1536 .bf16) (w : Vec Ideal S64x1536 .fp8e4m3)
    (ws bo : Vec Ideal S64x1 .f32) (gd : EReal) (y : S64x512.Idx) : EReal :=
  linG s0 g0 s1 g1 x w ws bo 1 (y 0) (y 1) + gd * (linG s0 g0 s1 g1 x w ws bo 0 (y 0) (y 1) - linG s0 g0 s1 g1 x w ws bo 1 (y 0) (y 1))

theorem load_chunk {arg5 : Memref sig .tc .vmem S2x1x512x1536 .bf16} (harg5 : arg5.IsWhole) (x3 : Vec Ideal S2x1x512x1536 .bf16)
    (off : Fin 4 → Nat) (inb : ∀ a : Fin 4, off a + (![1, 1, 128, 1536] : Fin 4 → Nat) a ≤ S2x1x512x1536.size a) (h : Fin 2) (o : Fin 4)
    (e : off = ![h.val, 0, 128 * o.val, 0]) (r : Fin 128) (k : Fin 1536) :
    View.readAt (Elt Ideal) arg5.view (Rect.unit (s := S2x1x512x1536) off ![1, 1, 128, 1536] inb).toLoadRect (harg5.unread x3) (ix4 0 0 r k)
      = x3 (ix4 h 0 ⟨128 * o.val + r.val, by omega⟩ k) := by
  rw [View.readAt_eq_ld, Memref.IsWhole.read_unread]
  subst e
  refine congrArg x3 (funext fun d => Fin.ext ?_)
  match d with
  | ⟨0, _⟩ => show h.val + 1 * 0 = h.val; omega
  | ⟨1, _⟩ => rfl
  | ⟨2, _⟩ => show 128 * o.val + 1 * r.val = 128 * o.val + r.val; omega
  | ⟨3, _⟩ => show 0 + 1 * k.val = k.val; omega

theorem piece16 (s0 g0 s1 g1 s g : Vec Ideal S1x1x1x1536 .f32)
    {arg5 : Memref sig .tc .vmem S2x1x512x1536 .bf16} (harg5 : arg5.IsWhole) (x3 : Vec Ideal S2x1x512x1536 .bf16)
    (off : Fin 4 → Nat) (inb : ∀ a : Fin 4, off a + (![1, 1, 128, 1536] : Fin 4 → Nat) a ≤ S2x1x512x1536.size a) (h : Fin 2) (o : Fin 4)
    (e : off = ![h.val, 0, 128 * o.val, 0]) (hs : s = if h.val = 0 then s0 else s1) (hg : g = if h.val = 0 then g0 else g1)
    (j : S1x1x128x1536.Idx) :
    mcodes s g (View.readAt (Elt Ideal) arg5.view (Rect.unit (s := S2x1x512x1536) off ![1, 1, 128, 1536] inb).toLoadRect (harg5.unread x3)) j
      = xcG s0 g0 s1 g1 x3 ((Rect.unit (s := S2x1x512x1536) off ![1, 1, 128, 1536] inb).emb j) := by
  have hj0 : (j 0).val < 1 := (j 0).isLt
  have hj2 : (j 2).val < 128 := (j 2).isLt
  have e0 : (((Rect.unit (s := S2x1x512x1536) off ![1, 1, 128, 1536] inb).emb j) 0) = h := by
    subst e; exact Fin.ext (show h.val + 1 * (j 0).val = h.val by omega)
  have e2 : (((Rect.unit (s := S2x1x512x1536) off ![1, 1, 128, 1536] inb).emb j) 2) = (⟨128 * o.val + (j 2).val, by omega⟩ : Fin 512) := by
    subst e; exact Fin.ext (show 128 * o.val + 1 * (j 2).val = _ by show _ = 128 * o.val + (j 2).val; omega)
  have e3 : (((Rect.unit (s := S2x1x512x1536) off ![1, 1, 128, 1536] inb).emb j) 3) = j 3 := by
    subst e; exact Fin.ext (show 0 + 1 * (j 3).val = (j 3).val by omega)
  rw [mcodes_apply]
  unfold xcG hrow
  rw [e0, e2, e3]
  have hx : (fun k => View.readAt (Elt Ideal) arg5.view (Rect.unit (s := S2x1x512x1536) off ![1, 1, 128, 1536] inb).toLoadRect (harg5.unread x3) (ix4 0 0 (j 2) k))
      = fun k => x3 (ix4 h 0 ⟨128 * o.val + (j 2).val, by omega⟩ k) := funext fun k => load_chunk harg5 x3 off inb h o e (j 2) k
  rw [hx, hs, hg]
  split_ifs <;> rfl

/-- The rows a store of codes covers. -/
abbrev crect (h : Fin 2) (o : Fin 4) : Rect S2x1x512x1536 :=
  Rect.unit ![h.val, 0, 128 * o.val, 0] ![1, 1, 128, 1536] (by revert h o; decide +kernel)

theorem crect_mem (h : Fin 2) (p : Fin 512) (k : Fin 1536) (y : S2x1x512x1536.Idx) (h0 : (y 0).val = h.val) (h2 : (y 2).val = p.val)
    (h3 : (y 3).val = k.val) : y ∈ (crect h ⟨p.val / 128, by omega⟩).set := by
  have e : y = (crect h ⟨p.val / 128, by omega⟩).emb (show S1x1x128x1536.Idx from ix4 0 0 (⟨p.val % 128, by omega⟩ : Fin 128) k) := by
    funext d
    refine Fin.ext ?_
    match d with
    | ⟨0, _⟩ => show (y 0).val = h.val + 1 * 0; omega
    | ⟨1, _⟩ => have : (y 1).val < 1 := (y 1).isLt; show (y 1).val = 0 + 1 * 0; omega
    | ⟨2, _⟩ => show (y 2).val = 128 * (p.val / 128) + 1 * (p.val % 128); omega
    | ⟨3, _⟩ => show (y 3).val = 0 + 1 * k.val; omega
  have hm := LoadRect.idx_mem (crect h ⟨p.val / 128, by omega⟩).toLoadRect (show S1x1x128x1536.Idx from ix4 0 0 (⟨p.val % 128, by omega⟩ : Fin 128) k)
  exact (congrArg (fun z => z ∈ (crect h ⟨p.val / 128, by omega⟩).set) e).mpr hm

def corder4 : List (Fin 2 × Fin 4) := [(0, 3), (0, 2), (0, 1), (0, 0)]
def corder8 : List (Fin 2 × Fin 4) := (1, 3) :: (1, 2) :: (1, 1) :: (1, 0) :: corder4

theorem corder4_mem : ∀ o : Fin 4, ((0 : Fin 2), o) ∈ corder4 := by decide
theorem corder8_mem : ∀ (h : Fin 2) (o : Fin 4), (h, o) ∈ corder8 := by decide

theorem pay73_apply (sc : FVec Ideal S1x512 .f32) (w : Vec Ideal S64x1536 .fp8e4m3) (xc : Vec Ideal S1x1x512x1536 .fp8e4m3) (ws bo : Vec Ideal S64x1 .f32)
    (y : S64x512.Idx) :
    k0_pay73 sc w xc ws bo y = (∑ k : Fin 1536, w (ix2 (y 0) k) * xc (ix4 0 0 (y 1) k)) * sc (ix2 0 (y 1)) * ws (ix2 (y 0) 0) + bo (ix2 (y 0) 0) := by
  unfold k0_pay73
  pointwise

theorem pay123_eq (v : FVec Ideal S64x512 .f32) (a b c : FVec Ideal S1x128 .f32) (d : FVec Ideal S128x1 .f32) (w : Vec Ideal S64x1536 .fp8e4m3)
    (xc : Vec Ideal S1x1x512x1536 .fp8e4m3) (ws bo : Vec Ideal S64x1 .f32) (gd : EReal) (y : S64x512.Idx) :
    k0_pay123 v a b c d w xc ws bo gd y
      = k0_pay73 (k0_pay121 a b c d) w xc ws bo y + gd * (v y - k0_pay73 (k0_pay121 a b c d) w xc ws bo y) := rfl

theorem rows_eq (s0 g0 s1 g1 s g : Vec Ideal S1x1x1x1536 .f32)
    {arg5 : Memref sig .tc .vmem S2x1x512x1536 .bf16} (harg5 : arg5.IsWhole) (x3 : Vec Ideal S2x1x512x1536 .bf16)
    (h : Fin 2) (hs : s = if h.val = 0 then s0 else s1) (hg : g = if h.val = 0 then g0 else g1)
    (o0 o1 o2 o3 : Fin 4 → Nat) (i0 : ∀ a : Fin 4, o0 a + (![1, 1, 128, 1536] : Fin 4 → Nat) a ≤ S2x1x512x1536.size a)
    (i1 : ∀ a : Fin 4, o1 a + (![1, 1, 128, 1536] : Fin 4 → Nat) a ≤ S2x1x512x1536.size a)
    (i2 : ∀ a : Fin 4, o2 a + (![1, 1, 128, 1536] : Fin 4 → Nat) a ≤ S2x1x512x1536.size a)
    (i3 : ∀ a : Fin 4, o3 a + (![1, 1, 128, 1536] : Fin 4 → Nat) a ≤ S2x1x512x1536.size a)
    (e0 : o0 = ![h.val, 0, 128 * (0 : Fin 4).val, 0]) (e1 : o1 = ![h.val, 0, 128 * (1 : Fin 4).val, 0])
    (e2 : o2 = ![h.val, 0, 128 * (2 : Fin 4).val, 0]) (e3 : o3 = ![h.val, 0, 128 * (3 : Fin 4).val, 0])
    (sc : FVec Ideal S1x512 .f32)
    (hsc : sc = mrows s g (View.readAt (Elt Ideal) arg5.view (Rect.unit (s := S2x1x512x1536) o0 ![1, 1, 128, 1536] i0).toLoadRect (harg5.unread x3))
      (View.readAt (Elt Ideal) arg5.view (Rect.unit (s := S2x1x512x1536) o1 ![1, 1, 128, 1536] i1).toLoadRect (harg5.unread x3))
      (View.readAt (Elt Ideal) arg5.view (Rect.unit (s := S2x1x512x1536) o2 ![1, 1, 128, 1536] i2).toLoadRect (harg5.unread x3))
      (View.readAt (Elt Ideal) arg5.view (Rect.unit (s := S2x1x512x1536) o3 ![1, 1, 128, 1536] i3).toLoadRect (harg5.unread x3)))
    (p : Fin 512) : sc (ix2 0 p) = xsG s0 g0 s1 g1 x3 h p := by
  rw [hsc, mrows_apply s g _ _ _ _ (fun p k => x3 (ix4 h 0 p k)) (fun r k => ?_) (fun r k => ?_) (fun r k => ?_) (fun r k => ?_)]
  · unfold xsG hrow
    rw [hs, hg]
    split_ifs <;> rfl
  · rw [load_chunk harg5 x3 o0 i0 h 0 e0 r k]; exact congrArg x3 (congrArg (fun p => ix4 h 0 p k) (Fin.ext (show 128 * 0 + r.val = r.val by omega)))
  · rw [load_chunk harg5 x3 o1 i1 h 1 e1 r k]; rfl
  · rw [load_chunk harg5 x3 o2 i2 h 2 e2 r k]; rfl
  · rw [load_chunk harg5 x3 o3 i3 h 3 e3 r k]; rfl

theorem lin_eq (s0 g0 s1 g1 s g : Vec Ideal S1x1x1x1536 .f32)
    {arg5 : Memref sig .tc .vmem S2x1x512x1536 .bf16} (harg5 : arg5.IsWhole) (x3 : Vec Ideal S2x1x512x1536 .bf16)
    {arg10 : Memref sig .tc .vmem S64x1536 .fp8e4m3} (harg10 : arg10.IsWhole) (x8 : Vec Ideal S64x1536 .fp8e4m3)
    {arg11 : Memref sig .tc .vmem S64x1 .f32} (harg11 : arg11.IsWhole) (x9 : Vec Ideal S64x1 .f32)
    {arg12 : Memref sig .tc .vmem S64x1 .f32} (harg12 : arg12.IsWhole) (x10 : Vec Ideal S64x1 .f32)
    (h : Fin 2) (hs : s = if h.val = 0 then s0 else s1) (hg : g = if h.val = 0 then g0 else g1)
    (o0 o1 o2 o3 : Fin 4 → Nat) (i0 : ∀ a : Fin 4, o0 a + (![1, 1, 128, 1536] : Fin 4 → Nat) a ≤ S2x1x512x1536.size a)
    (i1 : ∀ a : Fin 4, o1 a + (![1, 1, 128, 1536] : Fin 4 → Nat) a ≤ S2x1x512x1536.size a)
    (i2 : ∀ a : Fin 4, o2 a + (![1, 1, 128, 1536] : Fin 4 → Nat) a ≤ S2x1x512x1536.size a)
    (i3 : ∀ a : Fin 4, o3 a + (![1, 1, 128, 1536] : Fin 4 → Nat) a ≤ S2x1x512x1536.size a)
    (e0 : o0 = ![h.val, 0, 128 * (0 : Fin 4).val, 0]) (e1 : o1 = ![h.val, 0, 128 * (1 : Fin 4).val, 0])
    (e2 : o2 = ![h.val, 0, 128 * (2 : Fin 4).val, 0]) (e3 : o3 = ![h.val, 0, 128 * (3 : Fin 4).val, 0])
    (xc : Vec Ideal S1x1x512x1536 .fp8e4m3) (hc : ∀ z, xc z = Quant.code (hrow s0 g0 s1 g1 x3 h (z 2)) (z 3))
    (sc : FVec Ideal S1x512 .f32)
    (hsc : sc = mrows s g (View.readAt (Elt Ideal) arg5.view (Rect.unit (s := S2x1x512x1536) o0 ![1, 1, 128, 1536] i0).toLoadRect (harg5.unread x3))
      (View.readAt (Elt Ideal) arg5.view (Rect.unit (s := S2x1x512x1536) o1 ![1, 1, 128, 1536] i1).toLoadRect (harg5.unread x3))
      (View.readAt (Elt Ideal) arg5.view (Rect.unit (s := S2x1x512x1536) o2 ![1, 1, 128, 1536] i2).toLoadRect (harg5.unread x3))
      (View.readAt (Elt Ideal) arg5.view (Rect.unit (s := S2x1x512x1536) o3 ![1, 1, 128, 1536] i3).toLoadRect (harg5.unread x3)))
    (y : S64x512.Idx) :
    k0_pay73 sc (View.readAt (Elt Ideal) arg10.view (Rect.unit ![0, 0] S64x1536.size inb_S64x1536_S64x1536_0_0).toLoadRect (harg10.unread x8)) xc
      (View.readAt (Elt Ideal) arg11.view (Rect.unit ![0, 0] S64x1.size inb_S64x1_S64x1_0_0).toLoadRect (harg11.unread x9))
      (View.readAt (Elt Ideal) arg12.view (Rect.unit ![0, 0] S64x1.size inb_S64x1_S64x1_0_0).toLoadRect (harg12.unread x10)) y
      = linG s0 g0 s1 g1 x3 x8 x9 x10 h (y 0) (y 1) := by
  have hsc' : sc (ix2 0 (y 1)) = xsG s0 g0 s1 g1 x3 h (y 1) :=
    rows_eq s0 g0 s1 g1 s g harg5 x3 h hs hg o0 o1 o2 o3 i0 i1 i2 i3 e0 e1 e2 e3 sc hsc (y 1)
  rw [pay73_apply, View.readAt_eq_ld, View.readAt_eq_ld, View.readAt_eq_ld, Memref.IsWhole.read_unread, Memref.IsWhole.read_unread, Memref.IsWhole.read_unread,
    View.ld_unit_zero (by decide), View.ld_unit_zero (by decide), View.ld_unit_zero (by decide), hsc']
  simp only [hc]
  rfl

/-- The codes stored, in case B. -/
theorem codes_B (c : Dev nD) (i : grid0.Coords) (arg5 : Memref sig .tc .vmem S2x1x512x1536 .bf16) (harg5 : arg5.IsWhole) (arg20 : Memref sig .tc .vmem S2x6x1x1536 .f32) (harg20 : arg20.IsWhole) (x3 : Vec Ideal S2x1x512x1536 .bf16) (xs0 : Vec Ideal S2x6x1x1536 .f32) :
    View.PiecesOf (xcG (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) x3) (kernelRun0_B.sl.H16_8 c i arg5 harg5 arg20 harg20 x3 xs0) :=
  And.intro (fun x => (congrFun (codes7 (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) (View.readAt (Elt Ideal) arg5.view (Rect.unit (s := S2x1x512x1536) ![1, 0, 384, 0] S1x1x128x1536.size inb_S2x1x512x1536_S1x1x128x1536_1_0_384_0).toLoadRect (harg5.unread x3))) x).trans (piece16 _ _ _ _ _ _ harg5 x3 _ _ 1 3 rfl rfl rfl x)) <|
  And.intro (fun x => (congrFun (codes6 (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) (View.readAt (Elt Ideal) arg5.view (Rect.unit (s := S2x1x512x1536) ![1, 0, 256, 0] S1x1x128x1536.size inb_S2x1x512x1536_S1x1x128x1536_1_0_256_0).toLoadRect (harg5.unread x3))) x).trans (piece16 _ _ _ _ _ _ harg5 x3 _ _ 1 2 rfl rfl rfl x)) <|
  And.intro (fun x => (congrFun (codes5 (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) (View.readAt (Elt Ideal) arg5.view (Rect.unit (s := S2x1x512x1536) ![1, 0, 128, 0] S1x1x128x1536.size inb_S2x1x512x1536_S1x1x128x1536_1_0_128_0).toLoadRect (harg5.unread x3))) x).trans (piece16 _ _ _ _ _ _ harg5 x3 _ _ 1 1 rfl rfl rfl x)) <|
  And.intro (fun x => (congrFun (codes4 (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) (View.readAt (Elt Ideal) arg5.view (Rect.unit (s := S2x1x512x1536) ![1, 0, 0, 0] S1x1x128x1536.size inb_S2x1x512x1536_S1x1x128x1536_1_0_0_0).toLoadRect (harg5.unread x3))) x).trans (piece16 _ _ _ _ _ _ harg5 x3 _ _ 1 0 rfl rfl rfl x)) <|
  And.intro (fun x => (congrFun (codes3 (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) (View.readAt (Elt Ideal) arg5.view (Rect.unit (s := S2x1x512x1536) ![0, 0, 384, 0] S1x1x128x1536.size inb_S2x1x512x1536_S1x1x128x1536_0_0_384_0).toLoadRect (harg5.unread x3))) x).trans (piece16 _ _ _ _ _ _ harg5 x3 _ _ 0 3 rfl rfl rfl x)) <|
  And.intro (fun x => (congrFun (codes2 (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) (View.readAt (Elt Ideal) arg5.view (Rect.unit (s := S2x1x512x1536) ![0, 0, 256, 0] S1x1x128x1536.size inb_S2x1x512x1536_S1x1x128x1536_0_0_256_0).toLoadRect (harg5.unread x3))) x).trans (piece16 _ _ _ _ _ _ harg5 x3 _ _ 0 2 rfl rfl rfl x)) <|
  And.intro (fun x => (congrFun (codes1 (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) (View.readAt (Elt Ideal) arg5.view (Rect.unit (s := S2x1x512x1536) ![0, 0, 128, 0] S1x1x128x1536.size inb_S2x1x512x1536_S1x1x128x1536_0_0_128_0).toLoadRect (harg5.unread x3))) x).trans (piece16 _ _ _ _ _ _ harg5 x3 _ _ 0 1 rfl rfl rfl x)) <|
  And.intro (fun x => (piece16 _ _ _ _ _ _ harg5 x3 _ _ 0 0 rfl rfl rfl x)) <|
  trivial

theorem crects_B_H16_4 (c : Dev nD) (i : grid0.Coords) (arg5 : Memref sig .tc .vmem S2x1x512x1536 .bf16) (harg5 : arg5.IsWhole) (arg20 : Memref sig .tc .vmem S2x6x1x1536 .f32) (harg20 : arg20.IsWhole) (x3 : Vec Ideal S2x1x512x1536 .bf16) (xs0 : Vec Ideal S2x6x1x1536 .f32) : (kernelRun0_B.sl.H16_4 c i arg5 harg5 arg20 harg20 x3 xs0).map (fun p => p.1) = corder4.map (fun p => crect p.1 p.2) := rfl

theorem crects_B_H16_8 (c : Dev nD) (i : grid0.Coords) (arg5 : Memref sig .tc .vmem S2x1x512x1536 .bf16) (harg5 : arg5.IsWhole) (arg20 : Memref sig .tc .vmem S2x6x1x1536 .f32) (harg20 : arg20.IsWhole) (x3 : Vec Ideal S2x1x512x1536 .bf16) (xs0 : Vec Ideal S2x6x1x1536 .f32) : (kernelRun0_B.sl.H16_8 c i arg5 harg5 arg20 harg20 x3 xs0).map (fun p => p.1) = corder8.map (fun p => crect p.1 p.2) := rfl

theorem codes4_B (c : Dev nD) (i : grid0.Coords) (arg5 : Memref sig .tc .vmem S2x1x512x1536 .bf16) (harg5 : arg5.IsWhole) (arg20 : Memref sig .tc .vmem S2x6x1x1536 .f32) (harg20 : arg20.IsWhole) (x3 : Vec Ideal S2x1x512x1536 .bf16) (xs0 : Vec Ideal S2x6x1x1536 .f32) :
    View.PiecesOf (xcG (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) x3) (kernelRun0_B.sl.H16_4 c i arg5 harg5 arg20 harg20 x3 xs0) := (codes_B c i arg5 harg5 arg20 harg20 x3 xs0).2.2.2.2

theorem v479_B (c : Dev nD) (i : grid0.Coords) (arg5 : Memref sig .tc .vmem S2x1x512x1536 .bf16) (harg5 : arg5.IsWhole) (arg18 : Memref sig .tc .vmem S2x1x512x1536 .fp8e4m3) (arg20 : Memref sig .tc .vmem S2x6x1x1536 .f32) (harg20 : arg20.IsWhole) (x3 : Vec Ideal S2x1x512x1536 .bf16) (xs0 : Vec Ideal S2x6x1x1536 .f32) (z : S1x1x512x1536.Idx) :
    kernelRun0_B.sl.v479 c i arg5 harg5 arg18 arg20 harg20 x3 xs0 z = Quant.code (hrow (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) x3 0 (z 2)) (z 3) := by
  have hc : ∀ z : S1x1x512x1536.Idx, ∃ p ∈ kernelRun0_B.sl.H16_4 c i arg5 harg5 arg20 harg20 x3 xs0, (Rect.unit (s := S2x1x512x1536) ![0, 0, 0, 0] ![1, 1, 512, 1536] inb_S2x1x512x1536_S1x1x512x1536_0_0_0_0).emb z ∈ p.1.set := by
    intro z
    have hz0 : (z 0).val < 1 := (z 0).isLt
    have hz2 : (z 2).val < 512 := (z 2).isLt
    have hm := List.mem_map_of_mem (f := fun p : Fin 2 × Fin 4 => crect p.1 p.2) (corder4_mem ⟨(z 2).val / 128, by omega⟩)
    rw [← crects_B_H16_4 c i arg5 harg5 arg20 harg20 x3 xs0] at hm
    obtain ⟨p, hp, e⟩ := List.mem_map.mp hm
    refine ⟨p, hp, ?_⟩
    rw [e]
    exact crect_mem 0 (z 2) (z 3) _ (show 0 + 1 * (z 0).val = 0 by omega) (show 0 + 1 * (z 2).val = (z 2).val by omega) (show 0 + 1 * (z 3).val = (z 3).val by omega)
  refine (congrFun (View.readCov_eq_canon arg18.view (kernelRun0_B.sl.H16_4 c i arg5 harg5 arg20 harg20 x3 xs0) (Rect.unit (s := S2x1x512x1536) ![0, 0, 0, 0] ![1, 1, 512, 1536] inb_S2x1x512x1536_S1x1x512x1536_0_0_0_0) hc) z).trans ?_
  have := View.canon_append_of_piecesOf (xcG (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) x3) [] (kernelRun0_B.sl.H16_4 c i arg5 harg5 arg20 harg20 x3 xs0) (codes4_B c i arg5 harg5 arg20 harg20 x3 xs0) _ (hc z)
  rw [List.append_nil] at this
  refine this.trans ?_
  have hz0 : (z 0).val < 1 := (z 0).isLt
  unfold xcG
  have e0 : ((Rect.unit (s := S2x1x512x1536) ![0, 0, 0, 0] ![1, 1, 512, 1536] inb_S2x1x512x1536_S1x1x512x1536_0_0_0_0).emb z) 0 = (0 : Fin 2) := Fin.ext (show 0 + 1 * (z 0).val = 0 by omega)
  have e2 : ((Rect.unit (s := S2x1x512x1536) ![0, 0, 0, 0] ![1, 1, 512, 1536] inb_S2x1x512x1536_S1x1x512x1536_0_0_0_0).emb z) 2 = z 2 := Fin.ext (show 0 + 1 * (z 2).val = (z 2).val by omega)
  have e3 : ((Rect.unit (s := S2x1x512x1536) ![0, 0, 0, 0] ![1, 1, 512, 1536] inb_S2x1x512x1536_S1x1x512x1536_0_0_0_0).emb z) 3 = z 3 := Fin.ext (show 0 + 1 * (z 3).val = (z 3).val by omega)
  exact congr (congrArg _ (congr (congrArg _ e0) e2)) e3

theorem v966_B (c : Dev nD) (i : grid0.Coords) (arg5 : Memref sig .tc .vmem S2x1x512x1536 .bf16) (harg5 : arg5.IsWhole) (arg18 : Memref sig .tc .vmem S2x1x512x1536 .fp8e4m3) (arg20 : Memref sig .tc .vmem S2x6x1x1536 .f32) (harg20 : arg20.IsWhole) (x3 : Vec Ideal S2x1x512x1536 .bf16) (xs0 : Vec Ideal S2x6x1x1536 .f32) (z : S1x1x512x1536.Idx) :
    kernelRun0_B.sl.v966 c i arg5 harg5 arg18 arg20 harg20 x3 xs0 z = Quant.code (hrow (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) x3 1 (z 2)) (z 3) := by
  have hc : ∀ z : S1x1x512x1536.Idx, ∃ p ∈ kernelRun0_B.sl.H16_8 c i arg5 harg5 arg20 harg20 x3 xs0, (Rect.unit (s := S2x1x512x1536) ![1, 0, 0, 0] ![1, 1, 512, 1536] inb_S2x1x512x1536_S1x1x512x1536_1_0_0_0).emb z ∈ p.1.set := by
    intro z
    have hz0 : (z 0).val < 1 := (z 0).isLt
    have hz2 : (z 2).val < 512 := (z 2).isLt
    have hm := List.mem_map_of_mem (f := fun p : Fin 2 × Fin 4 => crect p.1 p.2) (corder8_mem 1 ⟨(z 2).val / 128, by omega⟩)
    rw [← crects_B_H16_8 c i arg5 harg5 arg20 harg20 x3 xs0] at hm
    obtain ⟨p, hp, e⟩ := List.mem_map.mp hm
    refine ⟨p, hp, ?_⟩
    rw [e]
    exact crect_mem 1 (z 2) (z 3) _ (show 1 + 1 * (z 0).val = 1 by omega) (show 0 + 1 * (z 2).val = (z 2).val by omega) (show 0 + 1 * (z 3).val = (z 3).val by omega)
  refine (congrFun (View.readCov_eq_canon arg18.view (kernelRun0_B.sl.H16_8 c i arg5 harg5 arg20 harg20 x3 xs0) (Rect.unit (s := S2x1x512x1536) ![1, 0, 0, 0] ![1, 1, 512, 1536] inb_S2x1x512x1536_S1x1x512x1536_1_0_0_0) hc) z).trans ?_
  have := View.canon_append_of_piecesOf (xcG (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) x3) [] (kernelRun0_B.sl.H16_8 c i arg5 harg5 arg20 harg20 x3 xs0) (codes_B c i arg5 harg5 arg20 harg20 x3 xs0) _ (hc z)
  rw [List.append_nil] at this
  refine this.trans ?_
  have hz0 : (z 0).val < 1 := (z 0).isLt
  unfold xcG
  have e0 : ((Rect.unit (s := S2x1x512x1536) ![1, 0, 0, 0] ![1, 1, 512, 1536] inb_S2x1x512x1536_S1x1x512x1536_1_0_0_0).emb z) 0 = (1 : Fin 2) := Fin.ext (show 1 + 1 * (z 0).val = 1 by omega)
  have e2 : ((Rect.unit (s := S2x1x512x1536) ![1, 0, 0, 0] ![1, 1, 512, 1536] inb_S2x1x512x1536_S1x1x512x1536_1_0_0_0).emb z) 2 = z 2 := Fin.ext (show 0 + 1 * (z 2).val = (z 2).val by omega)
  have e3 : ((Rect.unit (s := S2x1x512x1536) ![1, 0, 0, 0] ![1, 1, 512, 1536] inb_S2x1x512x1536_S1x1x512x1536_1_0_0_0).emb z) 3 = z 3 := Fin.ext (show 0 + 1 * (z 3).val = (z 3).val by omega)
  exact congr (congrArg _ (congr (congrArg _ e0) e2)) e3

theorem sc0_B (c : Dev nD) (i : grid0.Coords) (arg5 : Memref sig .tc .vmem S2x1x512x1536 .bf16) (harg5 : arg5.IsWhole) (arg20 : Memref sig .tc .vmem S2x6x1x1536 .f32) (harg20 : arg20.IsWhole) (x3 : Vec Ideal S2x1x512x1536 .bf16) (xs0 : Vec Ideal S2x6x1x1536 .f32) : kernelRun0_B.sl.r_29 c i arg5 harg5 arg20 harg20 x3 xs0 = mrows (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) (View.readAt (Elt Ideal) arg5.view (Rect.unit (s := S2x1x512x1536) ![0, 0, 0, 0] S1x1x128x1536.size inb_S2x1x512x1536_S1x1x128x1536_0_0_0_0).toLoadRect (harg5.unread x3)) (View.readAt (Elt Ideal) arg5.view (Rect.unit (s := S2x1x512x1536) ![0, 0, 128, 0] S1x1x128x1536.size inb_S2x1x512x1536_S1x1x128x1536_0_0_128_0).toLoadRect (harg5.unread x3)) (View.readAt (Elt Ideal) arg5.view (Rect.unit (s := S2x1x512x1536) ![0, 0, 256, 0] S1x1x128x1536.size inb_S2x1x512x1536_S1x1x128x1536_0_0_256_0).toLoadRect (harg5.unread x3)) (View.readAt (Elt Ideal) arg5.view (Rect.unit (s := S2x1x512x1536) ![0, 0, 384, 0] S1x1x128x1536.size inb_S2x1x512x1536_S1x1x128x1536_0_0_384_0).toLoadRect (harg5.unread x3)) := scales0 _ _ _ _ _ _

theorem sc1_B (c : Dev nD) (i : grid0.Coords) (arg5 : Memref sig .tc .vmem S2x1x512x1536 .bf16) (harg5 : arg5.IsWhole) (arg20 : Memref sig .tc .vmem S2x6x1x1536 .f32) (harg20 : arg20.IsWhole) (x3 : Vec Ideal S2x1x512x1536 .bf16) (xs0 : Vec Ideal S2x6x1x1536 .f32) : k0_pay121 (kernelRun0_B.sl.r_40 c i arg5 harg5 arg20 harg20 x3 xs0) (kernelRun0_B.sl.r_46 c i arg5 harg5 arg20 harg20 x3 xs0) (kernelRun0_B.sl.r_55 c i arg5 harg5 arg20 harg20 x3 xs0) (kernelRun0_B.sl.r_61 c i arg5 harg5 arg20 harg20 x3 xs0) = mrows (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) (View.readAt (Elt Ideal) arg5.view (Rect.unit (s := S2x1x512x1536) ![1, 0, 0, 0] S1x1x128x1536.size inb_S2x1x512x1536_S1x1x128x1536_1_0_0_0).toLoadRect (harg5.unread x3)) (View.readAt (Elt Ideal) arg5.view (Rect.unit (s := S2x1x512x1536) ![1, 0, 128, 0] S1x1x128x1536.size inb_S2x1x512x1536_S1x1x128x1536_1_0_128_0).toLoadRect (harg5.unread x3)) (View.readAt (Elt Ideal) arg5.view (Rect.unit (s := S2x1x512x1536) ![1, 0, 256, 0] S1x1x128x1536.size inb_S2x1x512x1536_S1x1x128x1536_1_0_256_0).toLoadRect (harg5.unread x3)) (View.readAt (Elt Ideal) arg5.view (Rect.unit (s := S2x1x512x1536) ![1, 0, 384, 0] S1x1x128x1536.size inb_S2x1x512x1536_S1x1x128x1536_1_0_384_0).toLoadRect (harg5.unread x3)) :=
  scales1 (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) (View.readAt (Elt Ideal) arg5.view (Rect.unit (s := S2x1x512x1536) ![1, 0, 0, 0] S1x1x128x1536.size inb_S2x1x512x1536_S1x1x128x1536_1_0_0_0).toLoadRect (harg5.unread x3)) (View.readAt (Elt Ideal) arg5.view (Rect.unit (s := S2x1x512x1536) ![1, 0, 128, 0] S1x1x128x1536.size inb_S2x1x512x1536_S1x1x128x1536_1_0_128_0).toLoadRect (harg5.unread x3)) (View.readAt (Elt Ideal) arg5.view (Rect.unit (s := S2x1x512x1536) ![1, 0, 256, 0] S1x1x128x1536.size inb_S2x1x512x1536_S1x1x128x1536_1_0_256_0).toLoadRect (harg5.unread x3)) (View.readAt (Elt Ideal) arg5.view (Rect.unit (s := S2x1x512x1536) ![1, 0, 384, 0] S1x1x128x1536.size inb_S2x1x512x1536_S1x1x128x1536_1_0_384_0).toLoadRect (harg5.unread x3))

/-- The velocities, in case B. -/
theorem vel_B (c : Dev nD) (i : grid0.Coords) (arg2 : Memref sig .tc .smem S3 .f32) (harg2 : arg2.IsWhole) (arg5 : Memref sig .tc .vmem S2x1x512x1536 .bf16) (harg5 : arg5.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg18 : Memref sig .tc .vmem S2x1x512x1536 .fp8e4m3) (arg20 : Memref sig .tc .vmem S2x6x1x1536 .f32) (harg20 : arg20.IsWhole) (x0 : Vec Ideal S3 .f32) (x3 : Vec Ideal S2x1x512x1536 .bf16) (x8 : Vec Ideal S64x1536 .fp8e4m3) (x9 : Vec Ideal S64x1 .f32) (x10 : Vec Ideal S64x1 .f32) (xs0 : Vec Ideal S2x6x1x1536 .f32) (y : S64x512.Idx) :
    kernelRun0_B.sl.r_64 c i arg2 harg2 arg5 harg5 arg10 harg10 arg11 harg11 arg12 harg12 arg18 arg20 harg20 x0 x3 x8 x9 x10 xs0 y = velG (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) x3 x8 x9 x10 (kernelRun0_B.sl.r_63 c i arg2 harg2 x0) y := by
  refine (pay123_eq _ _ _ _ _ _ _ _ _ _ y).trans ?_
  have l1 := lin_eq (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) harg5 x3 harg10 x8 harg11 x9 harg12 x10 1 rfl rfl _ _ _ _ _ _ _ _ rfl rfl rfl rfl _ (v966_B c i arg5 harg5 arg18 arg20 harg20 x3 xs0) _ (sc1_B c i arg5 harg5 arg20 harg20 x3 xs0) y
  have l0 := lin_eq (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) harg5 x3 harg10 x8 harg11 x9 harg12 x10 0 rfl rfl _ _ _ _ _ _ _ _ rfl rfl rfl rfl _ (v479_B c i arg5 harg5 arg18 arg20 harg20 x3 xs0) _ (sc0_B c i arg5 harg5 arg20 harg20 x3 xs0) y
  exact congr (congrArg _ l1) (congrArg _ (congr (congrArg _ l0) l1))

/-- The codes stored, in case A. -/
theorem codes_A (c : Dev nD) (i : grid0.Coords) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg20 : Memref sig .tc .vmem S2x6x1x1536 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) :
    View.PiecesOf (xcG (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) x3) (kernelRun0_A.sl.H16_8 c i arg5 harg5 arg6 harg6 arg7 harg7 arg8 harg8 arg9 harg9 arg20 x3 x4 x5 x6 x7) :=
  And.intro (fun x => (congrFun (codes7 (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) (View.readAt (Elt Ideal) arg5.view (Rect.unit (s := S2x1x512x1536) ![1, 0, 384, 0] S1x1x128x1536.size inb_S2x1x512x1536_S1x1x128x1536_1_0_384_0).toLoadRect (harg5.unread x3))) x).trans (piece16 _ _ _ _ _ _ harg5 x3 _ _ 1 3 rfl rfl rfl x)) <|
  And.intro (fun x => (congrFun (codes6 (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) (View.readAt (Elt Ideal) arg5.view (Rect.unit (s := S2x1x512x1536) ![1, 0, 256, 0] S1x1x128x1536.size inb_S2x1x512x1536_S1x1x128x1536_1_0_256_0).toLoadRect (harg5.unread x3))) x).trans (piece16 _ _ _ _ _ _ harg5 x3 _ _ 1 2 rfl rfl rfl x)) <|
  And.intro (fun x => (congrFun (codes5 (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) (View.readAt (Elt Ideal) arg5.view (Rect.unit (s := S2x1x512x1536) ![1, 0, 128, 0] S1x1x128x1536.size inb_S2x1x512x1536_S1x1x128x1536_1_0_128_0).toLoadRect (harg5.unread x3))) x).trans (piece16 _ _ _ _ _ _ harg5 x3 _ _ 1 1 rfl rfl rfl x)) <|
  And.intro (fun x => (congrFun (codes4 (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) (View.readAt (Elt Ideal) arg5.view (Rect.unit (s := S2x1x512x1536) ![1, 0, 0, 0] S1x1x128x1536.size inb_S2x1x512x1536_S1x1x128x1536_1_0_0_0).toLoadRect (harg5.unread x3))) x).trans (piece16 _ _ _ _ _ _ harg5 x3 _ _ 1 0 rfl rfl rfl x)) <|
  And.intro (fun x => (congrFun (codes3 (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) (View.readAt (Elt Ideal) arg5.view (Rect.unit (s := S2x1x512x1536) ![0, 0, 384, 0] S1x1x128x1536.size inb_S2x1x512x1536_S1x1x128x1536_0_0_384_0).toLoadRect (harg5.unread x3))) x).trans (piece16 _ _ _ _ _ _ harg5 x3 _ _ 0 3 rfl rfl rfl x)) <|
  And.intro (fun x => (congrFun (codes2 (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) (View.readAt (Elt Ideal) arg5.view (Rect.unit (s := S2x1x512x1536) ![0, 0, 256, 0] S1x1x128x1536.size inb_S2x1x512x1536_S1x1x128x1536_0_0_256_0).toLoadRect (harg5.unread x3))) x).trans (piece16 _ _ _ _ _ _ harg5 x3 _ _ 0 2 rfl rfl rfl x)) <|
  And.intro (fun x => (congrFun (codes1 (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) (View.readAt (Elt Ideal) arg5.view (Rect.unit (s := S2x1x512x1536) ![0, 0, 128, 0] S1x1x128x1536.size inb_S2x1x512x1536_S1x1x128x1536_0_0_128_0).toLoadRect (harg5.unread x3))) x).trans (piece16 _ _ _ _ _ _ harg5 x3 _ _ 0 1 rfl rfl rfl x)) <|
  And.intro (fun x => (piece16 _ _ _ _ _ _ harg5 x3 _ _ 0 0 rfl rfl rfl x)) <|
  trivial

theorem crects_A_H16_4 (c : Dev nD) (i : grid0.Coords) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg20 : Memref sig .tc .vmem S2x6x1x1536 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) : (kernelRun0_A.sl.H16_4 c i arg5 harg5 arg6 harg6 arg7 harg7 arg8 harg8 arg9 harg9 arg20 x3 x4 x5 x6 x7).map (fun p => p.1) = corder4.map (fun p => crect p.1 p.2) := rfl

theorem crects_A_H16_8 (c : Dev nD) (i : grid0.Coords) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg20 : Memref sig .tc .vmem S2x6x1x1536 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) : (kernelRun0_A.sl.H16_8 c i arg5 harg5 arg6 harg6 arg7 harg7 arg8 harg8 arg9 harg9 arg20 x3 x4 x5 x6 x7).map (fun p => p.1) = corder8.map (fun p => crect p.1 p.2) := rfl

theorem codes4_A (c : Dev nD) (i : grid0.Coords) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg20 : Memref sig .tc .vmem S2x6x1x1536 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) :
    View.PiecesOf (xcG (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) x3) (kernelRun0_A.sl.H16_4 c i arg5 harg5 arg6 harg6 arg7 harg7 arg8 harg8 arg9 harg9 arg20 x3 x4 x5 x6 x7) := (codes_A c i arg5 harg5 arg6 harg6 arg7 harg7 arg8 harg8 arg9 harg9 arg20 x3 x4 x5 x6 x7).2.2.2.2

theorem v479_A (c : Dev nD) (i : grid0.Coords) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg18 : Memref sig .tc .vmem S2x1x512x1536 .fp8e4m3) (arg20 : Memref sig .tc .vmem S2x6x1x1536 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (z : S1x1x512x1536.Idx) :
    kernelRun0_A.sl.v479 c i arg5 harg5 arg6 harg6 arg7 harg7 arg8 harg8 arg9 harg9 arg18 arg20 x3 x4 x5 x6 x7 z = Quant.code (hrow (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) x3 0 (z 2)) (z 3) := by
  have hc : ∀ z : S1x1x512x1536.Idx, ∃ p ∈ kernelRun0_A.sl.H16_4 c i arg5 harg5 arg6 harg6 arg7 harg7 arg8 harg8 arg9 harg9 arg20 x3 x4 x5 x6 x7, (Rect.unit (s := S2x1x512x1536) ![0, 0, 0, 0] ![1, 1, 512, 1536] inb_S2x1x512x1536_S1x1x512x1536_0_0_0_0).emb z ∈ p.1.set := by
    intro z
    have hz0 : (z 0).val < 1 := (z 0).isLt
    have hz2 : (z 2).val < 512 := (z 2).isLt
    have hm := List.mem_map_of_mem (f := fun p : Fin 2 × Fin 4 => crect p.1 p.2) (corder4_mem ⟨(z 2).val / 128, by omega⟩)
    rw [← crects_A_H16_4 c i arg5 harg5 arg6 harg6 arg7 harg7 arg8 harg8 arg9 harg9 arg20 x3 x4 x5 x6 x7] at hm
    obtain ⟨p, hp, e⟩ := List.mem_map.mp hm
    refine ⟨p, hp, ?_⟩
    rw [e]
    exact crect_mem 0 (z 2) (z 3) _ (show 0 + 1 * (z 0).val = 0 by omega) (show 0 + 1 * (z 2).val = (z 2).val by omega) (show 0 + 1 * (z 3).val = (z 3).val by omega)
  refine (congrFun (View.readCov_eq_canon arg18.view (kernelRun0_A.sl.H16_4 c i arg5 harg5 arg6 harg6 arg7 harg7 arg8 harg8 arg9 harg9 arg20 x3 x4 x5 x6 x7) (Rect.unit (s := S2x1x512x1536) ![0, 0, 0, 0] ![1, 1, 512, 1536] inb_S2x1x512x1536_S1x1x512x1536_0_0_0_0) hc) z).trans ?_
  have := View.canon_append_of_piecesOf (xcG (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) x3) [] (kernelRun0_A.sl.H16_4 c i arg5 harg5 arg6 harg6 arg7 harg7 arg8 harg8 arg9 harg9 arg20 x3 x4 x5 x6 x7) (codes4_A c i arg5 harg5 arg6 harg6 arg7 harg7 arg8 harg8 arg9 harg9 arg20 x3 x4 x5 x6 x7) _ (hc z)
  rw [List.append_nil] at this
  refine this.trans ?_
  have hz0 : (z 0).val < 1 := (z 0).isLt
  unfold xcG
  have e0 : ((Rect.unit (s := S2x1x512x1536) ![0, 0, 0, 0] ![1, 1, 512, 1536] inb_S2x1x512x1536_S1x1x512x1536_0_0_0_0).emb z) 0 = (0 : Fin 2) := Fin.ext (show 0 + 1 * (z 0).val = 0 by omega)
  have e2 : ((Rect.unit (s := S2x1x512x1536) ![0, 0, 0, 0] ![1, 1, 512, 1536] inb_S2x1x512x1536_S1x1x512x1536_0_0_0_0).emb z) 2 = z 2 := Fin.ext (show 0 + 1 * (z 2).val = (z 2).val by omega)
  have e3 : ((Rect.unit (s := S2x1x512x1536) ![0, 0, 0, 0] ![1, 1, 512, 1536] inb_S2x1x512x1536_S1x1x512x1536_0_0_0_0).emb z) 3 = z 3 := Fin.ext (show 0 + 1 * (z 3).val = (z 3).val by omega)
  exact congr (congrArg _ (congr (congrArg _ e0) e2)) e3

theorem v966_A (c : Dev nD) (i : grid0.Coords) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg18 : Memref sig .tc .vmem S2x1x512x1536 .fp8e4m3) (arg20 : Memref sig .tc .vmem S2x6x1x1536 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (z : S1x1x512x1536.Idx) :
    kernelRun0_A.sl.v966 c i arg5 harg5 arg6 harg6 arg7 harg7 arg8 harg8 arg9 harg9 arg18 arg20 x3 x4 x5 x6 x7 z = Quant.code (hrow (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) x3 1 (z 2)) (z 3) := by
  have hc : ∀ z : S1x1x512x1536.Idx, ∃ p ∈ kernelRun0_A.sl.H16_8 c i arg5 harg5 arg6 harg6 arg7 harg7 arg8 harg8 arg9 harg9 arg20 x3 x4 x5 x6 x7, (Rect.unit (s := S2x1x512x1536) ![1, 0, 0, 0] ![1, 1, 512, 1536] inb_S2x1x512x1536_S1x1x512x1536_1_0_0_0).emb z ∈ p.1.set := by
    intro z
    have hz0 : (z 0).val < 1 := (z 0).isLt
    have hz2 : (z 2).val < 512 := (z 2).isLt
    have hm := List.mem_map_of_mem (f := fun p : Fin 2 × Fin 4 => crect p.1 p.2) (corder8_mem 1 ⟨(z 2).val / 128, by omega⟩)
    rw [← crects_A_H16_8 c i arg5 harg5 arg6 harg6 arg7 harg7 arg8 harg8 arg9 harg9 arg20 x3 x4 x5 x6 x7] at hm
    obtain ⟨p, hp, e⟩ := List.mem_map.mp hm
    refine ⟨p, hp, ?_⟩
    rw [e]
    exact crect_mem 1 (z 2) (z 3) _ (show 1 + 1 * (z 0).val = 1 by omega) (show 0 + 1 * (z 2).val = (z 2).val by omega) (show 0 + 1 * (z 3).val = (z 3).val by omega)
  refine (congrFun (View.readCov_eq_canon arg18.view (kernelRun0_A.sl.H16_8 c i arg5 harg5 arg6 harg6 arg7 harg7 arg8 harg8 arg9 harg9 arg20 x3 x4 x5 x6 x7) (Rect.unit (s := S2x1x512x1536) ![1, 0, 0, 0] ![1, 1, 512, 1536] inb_S2x1x512x1536_S1x1x512x1536_1_0_0_0) hc) z).trans ?_
  have := View.canon_append_of_piecesOf (xcG (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) x3) [] (kernelRun0_A.sl.H16_8 c i arg5 harg5 arg6 harg6 arg7 harg7 arg8 harg8 arg9 harg9 arg20 x3 x4 x5 x6 x7) (codes_A c i arg5 harg5 arg6 harg6 arg7 harg7 arg8 harg8 arg9 harg9 arg20 x3 x4 x5 x6 x7) _ (hc z)
  rw [List.append_nil] at this
  refine this.trans ?_
  have hz0 : (z 0).val < 1 := (z 0).isLt
  unfold xcG
  have e0 : ((Rect.unit (s := S2x1x512x1536) ![1, 0, 0, 0] ![1, 1, 512, 1536] inb_S2x1x512x1536_S1x1x512x1536_1_0_0_0).emb z) 0 = (1 : Fin 2) := Fin.ext (show 1 + 1 * (z 0).val = 1 by omega)
  have e2 : ((Rect.unit (s := S2x1x512x1536) ![1, 0, 0, 0] ![1, 1, 512, 1536] inb_S2x1x512x1536_S1x1x512x1536_1_0_0_0).emb z) 2 = z 2 := Fin.ext (show 0 + 1 * (z 2).val = (z 2).val by omega)
  have e3 : ((Rect.unit (s := S2x1x512x1536) ![1, 0, 0, 0] ![1, 1, 512, 1536] inb_S2x1x512x1536_S1x1x512x1536_1_0_0_0).emb z) 3 = z 3 := Fin.ext (show 0 + 1 * (z 3).val = (z 3).val by omega)
  exact congr (congrArg _ (congr (congrArg _ e0) e2)) e3

theorem sc0_A (c : Dev nD) (i : grid0.Coords) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg20 : Memref sig .tc .vmem S2x6x1x1536 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) : kernelRun0_A.sl.r_38 c i arg5 harg5 arg6 harg6 arg7 harg7 arg8 harg8 arg9 harg9 arg20 x3 x4 x5 x6 x7 = mrows (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) (View.readAt (Elt Ideal) arg5.view (Rect.unit (s := S2x1x512x1536) ![0, 0, 0, 0] S1x1x128x1536.size inb_S2x1x512x1536_S1x1x128x1536_0_0_0_0).toLoadRect (harg5.unread x3)) (View.readAt (Elt Ideal) arg5.view (Rect.unit (s := S2x1x512x1536) ![0, 0, 128, 0] S1x1x128x1536.size inb_S2x1x512x1536_S1x1x128x1536_0_0_128_0).toLoadRect (harg5.unread x3)) (View.readAt (Elt Ideal) arg5.view (Rect.unit (s := S2x1x512x1536) ![0, 0, 256, 0] S1x1x128x1536.size inb_S2x1x512x1536_S1x1x128x1536_0_0_256_0).toLoadRect (harg5.unread x3)) (View.readAt (Elt Ideal) arg5.view (Rect.unit (s := S2x1x512x1536) ![0, 0, 384, 0] S1x1x128x1536.size inb_S2x1x512x1536_S1x1x128x1536_0_0_384_0).toLoadRect (harg5.unread x3)) := scales0 _ _ _ _ _ _

theorem sc1_A (c : Dev nD) (i : grid0.Coords) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg20 : Memref sig .tc .vmem S2x6x1x1536 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) : k0_pay121 (kernelRun0_A.sl.r_49 c i arg5 harg5 arg6 harg6 arg7 harg7 arg8 harg8 arg9 harg9 arg20 x3 x4 x5 x6 x7) (kernelRun0_A.sl.r_55 c i arg5 harg5 arg6 harg6 arg7 harg7 arg8 harg8 arg9 harg9 arg20 x3 x4 x5 x6 x7) (kernelRun0_A.sl.r_64 c i arg5 harg5 arg6 harg6 arg7 harg7 arg8 harg8 arg9 harg9 arg20 x3 x4 x5 x6 x7) (kernelRun0_A.sl.r_70 c i arg5 harg5 arg6 harg6 arg7 harg7 arg8 harg8 arg9 harg9 arg20 x3 x4 x5 x6 x7) = mrows (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) (View.readAt (Elt Ideal) arg5.view (Rect.unit (s := S2x1x512x1536) ![1, 0, 0, 0] S1x1x128x1536.size inb_S2x1x512x1536_S1x1x128x1536_1_0_0_0).toLoadRect (harg5.unread x3)) (View.readAt (Elt Ideal) arg5.view (Rect.unit (s := S2x1x512x1536) ![1, 0, 128, 0] S1x1x128x1536.size inb_S2x1x512x1536_S1x1x128x1536_1_0_128_0).toLoadRect (harg5.unread x3)) (View.readAt (Elt Ideal) arg5.view (Rect.unit (s := S2x1x512x1536) ![1, 0, 256, 0] S1x1x128x1536.size inb_S2x1x512x1536_S1x1x128x1536_1_0_256_0).toLoadRect (harg5.unread x3)) (View.readAt (Elt Ideal) arg5.view (Rect.unit (s := S2x1x512x1536) ![1, 0, 384, 0] S1x1x128x1536.size inb_S2x1x512x1536_S1x1x128x1536_1_0_384_0).toLoadRect (harg5.unread x3)) :=
  scales1 (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) (View.readAt (Elt Ideal) arg5.view (Rect.unit (s := S2x1x512x1536) ![1, 0, 0, 0] S1x1x128x1536.size inb_S2x1x512x1536_S1x1x128x1536_1_0_0_0).toLoadRect (harg5.unread x3)) (View.readAt (Elt Ideal) arg5.view (Rect.unit (s := S2x1x512x1536) ![1, 0, 128, 0] S1x1x128x1536.size inb_S2x1x512x1536_S1x1x128x1536_1_0_128_0).toLoadRect (harg5.unread x3)) (View.readAt (Elt Ideal) arg5.view (Rect.unit (s := S2x1x512x1536) ![1, 0, 256, 0] S1x1x128x1536.size inb_S2x1x512x1536_S1x1x128x1536_1_0_256_0).toLoadRect (harg5.unread x3)) (View.readAt (Elt Ideal) arg5.view (Rect.unit (s := S2x1x512x1536) ![1, 0, 384, 0] S1x1x128x1536.size inb_S2x1x512x1536_S1x1x128x1536_1_0_384_0).toLoadRect (harg5.unread x3))

/-- The velocities, in case A. -/
theorem vel_A (c : Dev nD) (i : grid0.Coords) (arg2 : Memref sig .tc .smem S3 .f32) (harg2 : arg2.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg18 : Memref sig .tc .vmem S2x1x512x1536 .fp8e4m3) (arg20 : Memref sig .tc .vmem S2x6x1x1536 .f32) (x0 : Vec Ideal S3 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (x8 : Vec Ideal S64x1536 .fp8e4m3) (x9 : Vec Ideal S64x1 .f32) (x10 : Vec Ideal S64x1 .f32) (y : S64x512.Idx) :
    kernelRun0_A.sl.r_73 c i arg2 harg2 arg5 harg5 arg6 harg6 arg7 harg7 arg8 harg8 arg9 harg9 arg10 harg10 arg11 harg11 arg12 harg12 arg18 arg20 x0 x3 x4 x5 x6 x7 x8 x9 x10 y = velG (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) x3 x8 x9 x10 (kernelRun0_A.sl.r_72 c i arg2 harg2 x0) y := by
  refine (pay123_eq _ _ _ _ _ _ _ _ _ _ y).trans ?_
  have l1 := lin_eq (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) harg5 x3 harg10 x8 harg11 x9 harg12 x10 1 rfl rfl _ _ _ _ _ _ _ _ rfl rfl rfl rfl _ (v966_A c i arg5 harg5 arg6 harg6 arg7 harg7 arg8 harg8 arg9 harg9 arg18 arg20 x3 x4 x5 x6 x7) _ (sc1_A c i arg5 harg5 arg6 harg6 arg7 harg7 arg8 harg8 arg9 harg9 arg20 x3 x4 x5 x6 x7) y
  have l0 := lin_eq (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) harg5 x3 harg10 x8 harg11 x9 harg12 x10 0 rfl rfl _ _ _ _ _ _ _ _ rfl rfl rfl rfl _ (v479_A c i arg5 harg5 arg6 harg6 arg7 harg7 arg8 harg8 arg9 harg9 arg18 arg20 x3 x4 x5 x6 x7) _ (sc0_A c i arg5 harg5 arg6 harg6 arg7 harg7 arg8 harg8 arg9 harg9 arg20 x3 x4 x5 x6 x7) y
  exact congr (congrArg _ l1) (congrArg _ (congr (congrArg _ l0) l1))

end Cert.KernelIdeal.Gen

end
-- ==== Proof.KFrame.lean ====
/- The kernel's pipeline: what every output's staging buffer and the scratch carried between points hold after each point,
   the proof data, the body obligation, and the run. Outputs 14 and 15 are stored at the first point alone and written back
   after the last: the points between leave their buffers as they are. -/
module

public import proofs.«01_k».proof.Proof.KRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 12 tile its block (16 stores of `S1x1x16x128`, checked by the kernel's evaluation: Lib/Ring.lean `Piece.tiledL`, linear in the pieces, through a loop's `@[irreducible]` trip theorem too), so they cover it. -/
theorem cover0_A_12 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (y : S1x16x16x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).1 S1x1x16x128.size (by sl_kernel_rfl) y

/-- What case A leaves in output 12's staging buffer: its pieces read back over junk. -/
def out0_A_12 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) : Vec F S1x16x16x128 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).1)

/-- Case A's pieces for output 13 tile its block (16 stores of `S1x1x16x128`, checked by the kernel's evaluation: Lib/Ring.lean `Piece.tiledL`, linear in the pieces, through a loop's `@[irreducible]` trip theorem too), so they cover it. -/
theorem cover0_A_13 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (y : S1x16x16x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.1 S1x1x16x128.size (by sl_kernel_rfl) y

/-- What case A leaves in output 13's staging buffer: its pieces read back over junk. -/
def out0_A_13 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) : Vec F S1x16x16x128 .bf16 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.1)

/-- Case A's pieces for output 14 tile its block (1 store of `S6x1536`, checked by the kernel's evaluation: Lib/Ring.lean `Piece.tiledL`, linear in the pieces, through a loop's `@[irreducible]` trip theorem too), so they cover it. -/
theorem cover0_A_14 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (y : S6x1536.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.1 S6x1536.size (by sl_kernel_rfl) y

/-- What case A leaves in output 14's staging buffer: its pieces read back over junk. -/
def out0_A_14 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) : Vec F S6x1536 .fp8e4m3 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.1)

/-- Case A's pieces for output 15 tile its block (1 store of `S6x1`, checked by the kernel's evaluation: Lib/Ring.lean `Piece.tiledL`, linear in the pieces, through a loop's `@[irreducible]` trip theorem too), so they cover it. -/
theorem cover0_A_15 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (y : S6x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.1 S6x1.size (by sl_kernel_rfl) y

/-- What case A leaves in output 15's staging buffer: its pieces read back over junk. -/
def out0_A_15 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) : Vec F S6x1 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.1)

/-- Case A's pieces for output 16 tile its block (8 stores of `S1x1x128x1536`, checked by the kernel's evaluation: Lib/Ring.lean `Piece.tiledL`, linear in the pieces, through a loop's `@[irreducible]` trip theorem too), so they cover it. -/
theorem cover0_A_16 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (y : S2x1x512x1536.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.1 S1x1x128x1536.size (by sl_kernel_rfl) y

/-- What case A leaves in output 16's staging buffer: its pieces read back over junk. -/
def out0_A_16 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) : Vec F S2x1x512x1536 .fp8e4m3 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.1)

/-- Case A's pieces for output 17 tile its block (2 stores of `S1x1x1x512`, checked by the kernel's evaluation: Lib/Ring.lean `Piece.tiledL`, linear in the pieces, through a loop's `@[irreducible]` trip theorem too), so they cover it. -/
theorem cover0_A_17 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (y : S2x1x1x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.2.1 S1x1x1x512.size (by sl_kernel_rfl) y

/-- What case A leaves in output 17's staging buffer: its pieces read back over junk. -/
def out0_A_17 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) : Vec F S2x1x1x512 .f32 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.2.1)

/-- Case A's pieces for scratch `arg20`, which the kernel carries between points, cover it: 12 pieces of `S1x1x1x1536` tiling it (Lib/Ring.lean `Piece.tiledL`). -/
theorem scover0_A_0 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (y : S2x6x1x1536.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.2.2.1 S1x1x1x1536.size (by sl_kernel_rfl) y

/-- What case A leaves in scratch `arg20`: its pieces read back over junk. -/
def sout0_A_0 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) : Vec F S2x6x1x1536 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.2.2.1)

/-- Case B's pieces for output 12 tile its block (16 stores of `S1x1x16x128`, checked by the kernel's evaluation: Lib/Ring.lean `Piece.tiledL`, linear in the pieces, through a loop's `@[irreducible]` trip theorem too), so they cover it. -/
theorem cover0_B_12 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : ¬cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (xo14 : Vec F S6x1536 .fp8e4m3) (xo15 : Vec F S6x1 .f32) (xs0 : Vec F S2x6x1x1536 .f32) (y : S1x16x16x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0).1 S1x1x16x128.size (by sl_kernel_rfl) y

/-- What case B leaves in output 12's staging buffer: its pieces read back over junk. -/
def out0_B_12 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : ¬cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (xo14 : Vec F S6x1536 .fp8e4m3) (xo15 : Vec F S6x1 .f32) (xs0 : Vec F S2x6x1x1536 .f32) : Vec F S1x16x16x128 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0).1)

/-- Case B's pieces for output 13 tile its block (16 stores of `S1x1x16x128`, checked by the kernel's evaluation: Lib/Ring.lean `Piece.tiledL`, linear in the pieces, through a loop's `@[irreducible]` trip theorem too), so they cover it. -/
theorem cover0_B_13 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : ¬cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (xo14 : Vec F S6x1536 .fp8e4m3) (xo15 : Vec F S6x1 .f32) (xs0 : Vec F S2x6x1x1536 .f32) (y : S1x16x16x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0).2.1 S1x1x16x128.size (by sl_kernel_rfl) y

/-- What case B leaves in output 13's staging buffer: its pieces read back over junk. -/
def out0_B_13 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : ¬cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (xo14 : Vec F S6x1536 .fp8e4m3) (xo15 : Vec F S6x1 .f32) (xs0 : Vec F S2x6x1x1536 .f32) : Vec F S1x16x16x128 .bf16 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0).2.1)

/-- Case B stores nothing into output 14, a live window: its staging buffer holds what the point before left. -/
def out0_B_14 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : ¬cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (xo14 : Vec F S6x1536 .fp8e4m3) (xo15 : Vec F S6x1 .f32) (xs0 : Vec F S2x6x1x1536 .f32) : Vec F S6x1536 .fp8e4m3 := xo14

/-- Case B stores nothing into output 15, a live window: its staging buffer holds what the point before left. -/
def out0_B_15 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : ¬cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (xo14 : Vec F S6x1536 .fp8e4m3) (xo15 : Vec F S6x1 .f32) (xs0 : Vec F S2x6x1x1536 .f32) : Vec F S6x1 .f32 := xo15

/-- Case B's pieces for output 16 tile its block (8 stores of `S1x1x128x1536`, checked by the kernel's evaluation: Lib/Ring.lean `Piece.tiledL`, linear in the pieces, through a loop's `@[irreducible]` trip theorem too), so they cover it. -/
theorem cover0_B_16 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : ¬cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (xo14 : Vec F S6x1536 .fp8e4m3) (xo15 : Vec F S6x1 .f32) (xs0 : Vec F S2x6x1x1536 .f32) (y : S2x1x512x1536.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0).2.2.2.2.1 S1x1x128x1536.size (by sl_kernel_rfl) y

/-- What case B leaves in output 16's staging buffer: its pieces read back over junk. -/
def out0_B_16 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : ¬cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (xo14 : Vec F S6x1536 .fp8e4m3) (xo15 : Vec F S6x1 .f32) (xs0 : Vec F S2x6x1x1536 .f32) : Vec F S2x1x512x1536 .fp8e4m3 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0).2.2.2.2.1)

/-- Case B's pieces for output 17 tile its block (2 stores of `S1x1x1x512`, checked by the kernel's evaluation: Lib/Ring.lean `Piece.tiledL`, linear in the pieces, through a loop's `@[irreducible]` trip theorem too), so they cover it. -/
theorem cover0_B_17 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : ¬cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (xo14 : Vec F S6x1536 .fp8e4m3) (xo15 : Vec F S6x1 .f32) (xs0 : Vec F S2x6x1x1536 .f32) (y : S2x1x1x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0).2.2.2.2.2.1 S1x1x1x512.size (by sl_kernel_rfl) y

/-- What case B leaves in output 17's staging buffer: its pieces read back over junk. -/
def out0_B_17 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : ¬cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (xo14 : Vec F S6x1536 .fp8e4m3) (xo15 : Vec F S6x1 .f32) (xs0 : Vec F S2x6x1x1536 .f32) : Vec F S2x1x1x512 .f32 :=
  VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0).2.2.2.2.2.1)

/-- Case B stores nothing into scratch `arg20`: it holds what the point before left. -/
def sout0_B_0 (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : ¬cond0_0 i)
    (x0 : Vec F S3 .f32) (x1 : Vec F S3 .f32) (x2 : Vec F S3 .f32) (x3 : Vec F S2x1x512x1536 .bf16) (x4 : Vec F S6x1536 .bf16) (x5 : Vec F S2x1536x1536 .fp8e4m3) (x6 : Vec F S2x1536 .f32) (x7 : Vec F S2x1536 .f32) (x8 : Vec F S64x1536 .fp8e4m3) (x9 : Vec F S64x1 .f32) (x10 : Vec F S64x1 .f32) (x11 : Vec F S1x16x16x128 .f32) (xo14 : Vec F S6x1536 .fp8e4m3) (xo15 : Vec F S6x1 .f32) (xs0 : Vec F S2x6x1x1536 .f32) : Vec F S2x6x1x1536 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1x16x16x128 .f32 × Vec F S1x16x16x128 .bf16 × Vec F S6x1536 .fp8e4m3 × Vec F S6x1 .f32 × Vec F S2x1x512x1536 .fp8e4m3 × Vec F S2x1x1x512 .f32 × Vec F S2x6x1x1536 .f32
  | 0, hn => (out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩))
  | n + 1, hn =>
    if h0 : (n + 1) % 27 = 0 then
      (out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩))
    else
      (out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.2.2)

/-- `outsAt0` at a point of case A: that case's contents. -/
theorem outsAt0_A (c : Dev nD) (t : Fin cfg0.N) (h0 : t.val % 27 = 0) :
    outsAt0 m c t.val t.isLt = (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 27 = 0) :
    outsAt0 m c t.val t.isLt = (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨17, _⟩ => (outsAt0 m c t.val t.isLt).2.2.2.2.2.1
    | ⟨_ + 18, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]
theorem after0_16 (c : Dev nD) (t : Fin cfg0.N) : (dats m 0 c).after 16 t = (outsAt0 m c t.val t.isLt).2.2.2.2.1 := by dsimp only [dats]
theorem after0_17 (c : Dev nD) (t : Fin cfg0.N) : (dats m 0 c).after 17 t = (outsAt0 m c t.val t.isLt).2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- Output 14's contents CARRY through the points that leave it idle: at such a point, its buffer not fresh, the proof data's
    `after` is the point before's (the case there stores nothing into the window and its term says so; a case that stores
    into it is not idle there by `liveAt0_14_κ`) — the hypothesis of Lib/Pipeline/TableIdle.lean `Dat.before_out_traj`. -/
theorem hcarry0_14 (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t _ hi _
  have hN : t.val < 27 := lt_of_lt_of_eq t.isLt (show cfg0.N = 27 from N_0)
  rw [after0_14, after0_14]
  by_cases h0 : t.val % 27 = 0
  · rw [liveAt0_14_A t ((hcond0_0 t).mpr h0)] at hi
    exact absurd hi Bool.false_ne_true
  · rw [outsAt0_B m c t h0]; rfl

/-- Output 15's contents CARRY through the points that leave it idle: at such a point, its buffer not fresh, the proof data's
    `after` is the point before's (the case there stores nothing into the window and its term says so; a case that stores
    into it is not idle there by `liveAt0_15_κ`) — the hypothesis of Lib/Pipeline/TableIdle.lean `Dat.before_out_traj`. -/
theorem hcarry0_15 (c : Dev nD) : ∀ (t : Fin cfg0.N) (_ : t.val ≠ 0), cfg0.idle 15 (grid0.coords t) = true → cfg0.fresh 15 t.val = false →
    (dats m 0 c).after 15 t = (dats m 0 c).after 15 ⟨t.val - 1, by omega⟩ := by
  intro t _ hi _
  have hN : t.val < 27 := lt_of_lt_of_eq t.isLt (show cfg0.N = 27 from N_0)
  rw [after0_15, after0_15]
  by_cases h0 : t.val % 27 = 0
  · rw [liveAt0_15_A t ((hcond0_0 t).mpr h0)] at hi
    exact absurd hi Bool.false_ne_true
  · rw [outsAt0_B m c t h0]; rfl
/-- At a point of case B output 14's current staging buffer holds what the point before left: the buffer is not fresh
    there (`notFresh0_14_B`: stored into since the region's entry or the last write-back, carried through the points that
    leave it idle by `hcarry0_14`; Lib/Pipeline/TableIdle.lean `Dat.before_out_traj`). -/
theorem before0_14_B (c : Dev nD) (t : Fin cfg0.N) (h0 : ¬t.val % 27 = 0) (d) :
    (dats m 0 c).before 14 t d = (outsAt0 m c (t.val - 1) (Nat.lt_of_le_of_lt (Nat.sub_le _ _) t.isLt)).2.2.1 := by
  rw [Dat.before_out_traj _ 14 rfl (fun _ _ => rfl) (hcarry0_14 m c) t.val t rfl d,
    if_neg (by rw [notFresh0_14_B t (fun h => h0 ((hcond0_0 t).mp h))]; exact Bool.false_ne_true)]
  dsimp only [dats]
/-- At a point of case B output 15's current staging buffer holds what the point before left: the buffer is not fresh
    there (`notFresh0_15_B`: stored into since the region's entry or the last write-back, carried through the points that
    leave it idle by `hcarry0_15`; Lib/Pipeline/TableIdle.lean `Dat.before_out_traj`). -/
theorem before0_15_B (c : Dev nD) (t : Fin cfg0.N) (h0 : ¬t.val % 27 = 0) (d) :
    (dats m 0 c).before 15 t d = (outsAt0 m c (t.val - 1) (Nat.lt_of_le_of_lt (Nat.sub_le _ _) t.isLt)).2.2.2.1 := by
  rw [Dat.before_out_traj _ 15 rfl (fun _ _ => rfl) (hcarry0_15 m c) t.val t rfl d,
    if_neg (by rw [notFresh0_15_B t (fun h => h0 ((hcond0_0 t).mp h))]; exact Bool.false_ne_true)]
  dsimp only [dats]

/-- At a point of case B output 14's buffer, at what the point before left, is what the pipeline asks back there: the window is
    idle, so before the last point the buffer as the point found it, and at the last, whose contents are written back, the
    proof data's `after`; both are what the point before left. -/
theorem leaves0_14_B (c : Dev nD) (t : Fin cfg0.N) (h0 : ¬t.val % 27 = 0) :
    owns (c : Thread nD τ) (ms0_14 t) fullShare ((outsAt0 m c (t.val - 1) (Nat.lt_of_le_of_lt (Nat.sub_le _ _) t.isLt)).2.2.1) ⊢
      (dats m 0 c).leavesExact 14 t := by
  have ha : (dats m 0 c).after 14 t = (outsAt0 m c (t.val - 1) (Nat.lt_of_le_of_lt (Nat.sub_le _ _) t.isLt)).2.2.1 := by
    rw [after0_14, outsAt0_B m c t h0]; rfl
  unfold Dat.leavesExact
  rw [idleAt0_14_B t (fun h => h0 ((hcond0_0 t).mp h))]
  cases (cfg0.win 14).flush t
  · dsimp only
    simp only [before0_14_B m c t h0]
    iintro H
    iexists ((outsAt0 m c (t.val - 1) (Nat.lt_of_le_of_lt (Nat.sub_le _ _) t.isLt)).2.2.1); iexact H
  · dsimp only
    rw [ha]

/-- At a point of case B output 15's buffer, at what the point before left, is what the pipeline asks back there: the window is
    idle, so before the last point the buffer as the point found it, and at the last, whose contents are written back, the
    proof data's `after`; both are what the point before left. -/
theorem leaves0_15_B (c : Dev nD) (t : Fin cfg0.N) (h0 : ¬t.val % 27 = 0) :
    owns (c : Thread nD τ) (ms0_15 t) fullShare ((outsAt0 m c (t.val - 1) (Nat.lt_of_le_of_lt (Nat.sub_le _ _) t.isLt)).2.2.2.1) ⊢
      (dats m 0 c).leavesExact 15 t := by
  have ha : (dats m 0 c).after 15 t = (outsAt0 m c (t.val - 1) (Nat.lt_of_le_of_lt (Nat.sub_le _ _) t.isLt)).2.2.2.1 := by
    rw [after0_15, outsAt0_B m c t h0]; rfl
  unfold Dat.leavesExact
  rw [idleAt0_15_B t (fun h => h0 ((hcond0_0 t).mp h))]
  cases (cfg0.win 15).flush t
  · dsimp only
    simp only [before0_15_B m c t h0]
    iintro H
    iexists ((outsAt0 m c (t.val - 1) (Nat.lt_of_le_of_lt (Nat.sub_le _ _) t.isLt)).2.2.2.1); iexact H
  · dsimp only
    rw [ha]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 27 := lt_of_lt_of_eq t.isLt (show cfg0.N = 27 from N_0)
  by_cases h0 : t.val % 27 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 14 t = owns (c : Thread nD τ) (ms0_14 t) fullShare ((dats m 0 c).after 14 t) from by
      unfold Dat.leavesExact; rw [liveAt0_14_A t ((hcond0_0 t).mpr h0)], after0_14]
    rw [show (dats m 0 c).leavesExact 15 t = owns (c : Thread nD τ) (ms0_15 t) fullShare ((dats m 0 c).after 15 t) from by
      unfold Dat.leavesExact; rw [liveAt0_15_A t ((hcond0_0 t).mpr h0)], after0_15]
    rw [show (dats m 0 c).leavesExact 16 t = owns (c : Thread nD τ) (ms0_16 t) fullShare ((dats m 0 c).after 16 t) from by
      unfold Dat.leavesExact; rw [liveAt0_16 t], after0_16]
    rw [show (dats m 0 c).leavesExact 17 t = owns (c : Thread nD τ) (ms0_17 t) fullShare ((dats m 0 c).after 17 t) from by
      unfold Dat.leavesExact; rw [liveAt0_17 t], after0_17]
    by_cases hz : t.val = 0
    · rw [PhiS_castSucc m c t, PhiS_zero m c _ _ hz, PhiA0_eq]
      rw [outsAt0_A m c t h0]
      unfold out0_A_12 out0_A_13 out0_A_14 out0_A_15 out0_A_16 out0_A_17 sout0_A_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_A c (grid0.coords t) _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [HS0]; · iexact HS0
      isplitl [HS1]; · iexact HS1
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H17
      ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 27 := lt_of_lt_of_eq t.isLt (show cfg0.N = 27 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 16 t = owns (c : Thread nD τ) (ms0_16 t) fullShare ((dats m 0 c).after 16 t) from by
      unfold Dat.leavesExact; rw [liveAt0_16 t], after0_16]
    rw [show (dats m 0 c).leavesExact 17 t = owns (c : Thread nD τ) (ms0_17 t) fullShare ((dats m 0 c).after 17 t) from by
      unfold Dat.leavesExact; rw [liveAt0_17 t], after0_17]
    by_cases hz : t.val = 0
    · exfalso; have hN : t.val < 27 := lt_of_lt_of_eq t.isLt (show cfg0.N = 27 from N_0); omega
    · rw [PhiS_castSucc m c t, PhiS_pos m c _ _ hz]
      rw [outsAt0_B m c t h0]
      simp only [before0_14_B m c t h0, before0_15_B m c t h0]
      unfold out0_B_12 out0_B_13 out0_B_16 out0_B_17 sout0_B_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexact H14
      isplitl [H15]; · iexact H15
      isplitl [H16]; · iexists _; iexact H16
      isplitl [H17]; · iexists _; iexact H17
      isplitl [HS0]; · iexact HS0
      isplitl [HS1]; · iexact HS1
      iintro ⟨H0, H1, H2, H3, H4, H5, H6, H7, H8, H9, H10, H11, ⟨%e12, H12⟩, ⟨%e13, H13⟩, H14, H15, ⟨%e16, H16⟩, ⟨%e17, H17⟩, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _)
      isplitl [H14]; · iapply (leaves0_14_B m c t h0); iexact H14
      isplitl [H15]; · iapply (leaves0_15_B m c t h0); iexact H15
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H17
      ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 27 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Gen

end
-- ==== Proof.KOut.lean ====
/- What the body leaves in each of its outputs at one grid point, as functions of the modulation rows and of the point's blocks. -/
module

public import proofs.«01_k».proof.Proof.KShuf
public import proofs.«01_k».proof.Proof.KVel
public import proofs.«01_k».proof.Proof.KFrame

@[expose] public section

set_option maxRecDepth 16384

noncomputable section

namespace Cert.KernelIdeal.Gen

open Idealize.ShloMosaic Idealize.ShloMosaic.TcCoe Idealize.ShloMosaic.Tactic

/-- The rows of a block, normalised with the modulation rows of batch `b`. -/
def hrowM (mod : S2x6x1x1536.Idx → EReal) (b : Fin 3) (x : Vec Ideal S2x1x512x1536 .bf16) (h : Fin 2) (p : Fin 512) : Fin 1536 → EReal :=
  Quant.hval (fun k => mod (ix4 0 ⟨3 * h.val + b.val, by omega⟩ 0 k)) (fun k => mod (ix4 1 ⟨3 * h.val + b.val, by omega⟩ 0 k)) (fun k => x (ix4 h 0 p k))

def xcM (hr : Fin 2 → Fin 512 → Fin 1536 → EReal) (y : S2x1x512x1536.Idx) : EReal := Quant.code (hr (y 0) (y 2)) (y 3)

def xsM (hr : Fin 2 → Fin 512 → Fin 1536 → EReal) (h : Fin 2) (p : Fin 512) : EReal := Quant.kScale (Quant.amax (hr h p))

def linM (hr : Fin 2 → Fin 512 → Fin 1536 → EReal) (w : Vec Ideal S64x1536 .fp8e4m3) (ws bo : Vec Ideal S64x1 .f32) (h : Fin 2) (c : Fin 64) (p : Fin 512) : EReal :=
  (∑ k : Fin 1536, w (ix2 c k) * Quant.code (hr h p) k) * xsM hr h p * ws (ix2 c 0) + bo (ix2 c 0)

def velM (hr : Fin 2 → Fin 512 → Fin 1536 → EReal) (w : Vec Ideal S64x1536 .fp8e4m3) (ws bo : Vec Ideal S64x1 .f32) (gd : EReal) (y : S64x512.Idx) : EReal :=
  linM hr w ws bo 1 (y 0) (y 1) + gd * (linM hr w ws bo 0 (y 0) (y 1) - linM hr w ws bo 1 (y 0) (y 1))

/-- The channel and position a velocity plane's element comes from. -/
def voG (vel : S64x512.Idx → EReal) (y : S1x16x16x128.Idx) : EReal :=
  vel (ix2 ⟨32 * ((y 2).val % 2) + 16 * ((y 3).val % 2) + (y 1).val, by have : (y 1).val < 16 := (y 1).isLt; omega⟩
    ⟨128 * ((y 2).val / 4) + 64 * ((y 2).val / 2 % 2) + (y 3).val / 2, by
      have : (y 2).val < 16 := (y 2).isLt; have : (y 3).val < 128 := (y 3).isLt; omega⟩)

def lnG (vel : S64x512.Idx → EReal) (tn t : EReal) (lat : S1x16x16x128.Idx → EReal) (y : S1x16x16x128.Idx) : EReal :=
  lat y + (tn - t) * voG vel y

theorem shuf_vo (vel : FVec Ideal S64x512 .f32) (ch r : Fin 16) (l : Fin 128) :
    shufG vel (ix2 ⟨17 * ch.val + r.val, by omega⟩ l) = voG vel (ix4 0 ch r l) := by
  have d1 : (17 * ch.val + r.val) / 17 = ch.val := by omega
  have d2 : (17 * ch.val + r.val) % 17 = r.val := by omega
  unfold shufG voG
  refine congrArg vel (congrArg₂ _ (Fin.ext ?_) (Fin.ext ?_))
  · show (32 * ((17 * ch.val + r.val) % 17 % 2) + 16 * (l.val % 2) + (17 * ch.val + r.val) / 17) % 64 = 32 * (r.val % 2) + 16 * (l.val % 2) + ch.val
    rw [d1, d2]; omega
  · show (128 * ((17 * ch.val + r.val) % 17 / 4) + 64 * ((17 * ch.val + r.val) % 17 / 2 % 2) + l.val / 2) % 512 = 128 * (r.val / 4) + 64 * (r.val / 2 % 2) + l.val / 2
    rw [d2]; omega

theorem pay264_apply (a b : EReal) (v : Vec Ideal S16x128 .f32) (lat : Vec Ideal S1x1x16x128 .f32) (x : S1x1x16x128.Idx) :
    k0_pay264 a b v lat x = lat x + (a - b) * v (ix2 (x 2) (x 3)) := by
  unfold k0_pay264 k0_pay263
  pointwise

theorem pay265_apply (v : Vec Ideal S16x128 .f32) (x : S1x1x16x128.Idx) : k0_pay265 v x = v (ix2 (x 2) (x 3)) := by
  unfold k0_pay265
  pointwise

theorem plane_emb (ch : Fin 16) (off : Fin 4 → Nat) (inb : ∀ a : Fin 4, off a + (![1, 1, 16, 128] : Fin 4 → Nat) a ≤ S1x16x16x128.size a)
    (e : off = ![0, ch.val, 0, 0]) (x : S1x1x16x128.Idx) :
    (Rect.unit (s := S1x16x16x128) off ![1, 1, 16, 128] inb).emb x = (ix4 0 ch (x 2) (x 3) : S1x16x16x128.Idx) := by
  subst e
  have h0 : (x 0).val < 1 := (x 0).isLt
  have h1 : (x 1).val < 1 := (x 1).isLt
  funext d
  refine Fin.ext ?_
  match d with
  | ⟨0, _⟩ => show 0 + 1 * (x 0).val = 0; omega
  | ⟨1, _⟩ => show ch.val + 1 * (x 1).val = ch.val; omega
  | ⟨2, _⟩ => show 0 + 1 * (x 2).val = (x 2).val; omega
  | ⟨3, _⟩ => show 0 + 1 * (x 3).val = (x 3).val; omega

theorem piece12 (vel : S64x512.Idx → EReal) (a b : EReal) (v : Vec Ideal S16x128 .f32)
    {arg13 : Memref sig .tc .vmem S1x16x16x128 .f32} (harg13 : arg13.IsWhole) (x11 : Vec Ideal S1x16x16x128 .f32) (ch : Fin 16)
    (off : Fin 4 → Nat) (inb : ∀ a : Fin 4, off a + (![1, 1, 16, 128] : Fin 4 → Nat) a ≤ S1x16x16x128.size a) (e : off = ![0, ch.val, 0, 0])
    (hv : ∀ x : S16x128.Idx, v x = voG vel (ix4 0 ch (x 0) (x 1))) (x : S1x1x16x128.Idx) :
    k0_pay264 a b v (View.readAt (Elt Ideal) arg13.view (Rect.unit (s := S1x16x16x128) off ![1, 1, 16, 128] inb).toLoadRect (harg13.unread x11)) x
      = lnG vel a b x11 ((Rect.unit (s := S1x16x16x128) off ![1, 1, 16, 128] inb).emb x) := by
  rw [pay264_apply, hv, plane_emb ch off inb e, View.readAt_eq_ld, Memref.IsWhole.read_unread]
  unfold lnG
  refine congrArg₂ _ ?_ rfl
  show x11 ((Rect.unit (s := S1x16x16x128) off ![1, 1, 16, 128] inb).emb x) = _
  rw [plane_emb ch off inb e]

theorem piece13 (vel : S64x512.Idx → EReal) (v : Vec Ideal S16x128 .f32) (ch : Fin 16)
    (off : Fin 4 → Nat) (inb : ∀ a : Fin 4, off a + (![1, 1, 16, 128] : Fin 4 → Nat) a ≤ S1x16x16x128.size a) (e : off = ![0, ch.val, 0, 0])
    (hv : ∀ x : S16x128.Idx, v x = voG vel (ix4 0 ch (x 0) (x 1))) (x : S1x1x16x128.Idx) :
    k0_pay265 v x = voG vel ((Rect.unit (s := S1x16x16x128) off ![1, 1, 16, 128] inb).emb x) := by
  rw [pay265_apply, hv, plane_emb ch off inb e]
  rfl

theorem pay122_apply (a b c : FVec Ideal S1x128 .f32) (d : FVec Ideal S128x1 .f32) (x : S1x1x1x512.Idx) :
    k0_pay122 a b c d x = k0_pay121 a b c d (ix2 0 (x 3)) := by
  unfold k0_pay122
  generalize k0_pay121 a b c d = v
  pointwise

theorem pay72_apply (v127 : FVec Ideal S1x128 .f32) (v242 : FVec Ideal S1x128 .f32) (v357 : FVec Ideal S1x128 .f32) (v385 : FVec Ideal S128x1 .f32) (v435 : IVec S128x1 32) (c1_i32_139 : BitVec 32) (x : S1x1x1x512.Idx) :
    k0_pay72 v127 v242 v357 v385 v435 c1_i32_139 x = k0_pay71 v127 v242 v357 v385 v435 c1_i32_139 (ix2 0 (x 3)) := by
  unfold k0_pay72
  generalize k0_pay71 v127 v242 v357 v385 v435 c1_i32_139 = v
  pointwise

theorem sc_emb (h : Fin 2) (inb : ∀ a : Fin 4, (![h.val, 0, 0, 0] : Fin 4 → Nat) a + (![1, 1, 1, 512] : Fin 4 → Nat) a ≤ S2x1x1x512.size a) (x : S1x1x1x512.Idx) :
    ((Rect.unit (s := S2x1x1x512) ![h.val, 0, 0, 0] ![1, 1, 1, 512] inb).emb x) 0 = h ∧ ((Rect.unit (s := S2x1x1x512) ![h.val, 0, 0, 0] ![1, 1, 1, 512] inb).emb x) 3 = x 3 := by
  have h0 : (x 0).val < 1 := (x 0).isLt
  exact ⟨Fin.ext (show h.val + 1 * (x 0).val = h.val by omega), Fin.ext (show 0 + 1 * (x 3).val = (x 3).val by omega)⟩

theorem off1_0 (i : grid0.Coords) : k0_off1 i 0#32 = ![0, (i 0).val, 0, 0] :=
  congrArg (fun n => ![0, n, 0, 0]) ((by decide : ∀ v : Fin 3, (Scalar.indexCast (Scalar.addi (BitVec.ofNat 32 v.val) 0#32)).toNat = v.val) (i 0))
theorem off1_3 (i : grid0.Coords) : k0_off1 i 3#32 = ![0, 3 + (i 0).val, 0, 0] :=
  congrArg (fun n => ![0, n, 0, 0]) ((by decide : ∀ v : Fin 3, (Scalar.indexCast (Scalar.addi (BitVec.ofNat 32 v.val) 3#32)).toNat = 3 + v.val) (i 0))
theorem off2_0 (i : grid0.Coords) : k0_off2 i 0#32 = ![1, (i 0).val, 0, 0] :=
  congrArg (fun n => ![1, n, 0, 0]) ((by decide : ∀ v : Fin 3, (Scalar.indexCast (Scalar.addi (BitVec.ofNat 32 v.val) 0#32)).toNat = v.val) (i 0))
theorem off2_3 (i : grid0.Coords) : k0_off2 i 3#32 = ![1, 3 + (i 0).val, 0, 0] :=
  congrArg (fun n => ![1, n, 0, 0]) ((by decide : ∀ v : Fin 3, (Scalar.indexCast (Scalar.addi (BitVec.ofNat 32 v.val) 3#32)).toNat = 3 + v.val) (i 0))
theorem off3 (i : grid0.Coords) : k0_off3 i = ![(i 0).val] :=
  congrArg (fun n => ![n]) ((by decide : ∀ v : Fin 3, (Scalar.indexCast (BitVec.ofNat 32 v.val)).toNat = v.val) (i 0))

theorem ld_row (X : S2x6x1x1536.Idx → EReal) (off : Fin 4 → Nat) (inb : ∀ a : Fin 4, off a + (![1, 1, 1, 1536] : Fin 4 → Nat) a ≤ S2x6x1x1536.size a)
    (p : Fin 2) (r : Fin 6) (e : off = ![p.val, r.val, 0, 0]) (k : Fin 1536) :
    View.ld (Val := Elt Ideal) (e' := .f32) X (Rect.unit (s := S2x6x1x1536) off ![1, 1, 1, 1536] inb) (ix4 0 0 0 k) = X (ix4 p r 0 k) := by
  subst e
  refine congrArg X (funext fun d => Fin.ext ?_)
  match d with
  | ⟨0, _⟩ => show p.val + 1 * 0 = p.val; omega
  | ⟨1, _⟩ => show r.val + 1 * 0 = r.val; omega
  | ⟨2, _⟩ => rfl
  | ⟨3, _⟩ => show 0 + 1 * k.val = k.val; omega

theorem ld_scal {arg : Memref sig .tc .smem S3 .f32} (harg : arg.IsWhole) (x0 : Vec Ideal S3 .f32) (i : grid0.Coords)
    (inb : ∀ a, (k0_off3 i) a + S1.size a ≤ S3.size a) (z : S1.Idx) :
    View.readAt (Elt Ideal) arg.view (Rect.unit (s := S3) (k0_off3 i) S1.size inb).toLoadRect (harg.unread x0) z = x0 (ix1 (i 0)) := by
  rw [View.readAt_eq_ld, Memref.IsWhole.read_unread]
  refine congrArg x0 (funext fun d => Fin.ext ?_)
  have hz : (z 0).val < 1 := (z 0).isLt
  match d with
  | ⟨0, _⟩ =>
    show (k0_off3 i) 0 + 1 * (z 0).val = (i 0).val
    rw [off3]
    show (i 0).val + 1 * (z 0).val = (i 0).val
    omega

theorem hrow_of (X : S2x6x1x1536.Idx → EReal) (i : grid0.Coords) (s0 g0 s1 g1 : Vec Ideal S1x1x1x1536 .f32)
    (e0 : s0 = View.ld (Val := Elt Ideal) (e' := .f32) X (Rect.unit (s := S2x6x1x1536) (k0_off1 i 0#32) S1x1x1x1536.size (k0_off1_inb i 0)))
    (e1 : g0 = View.ld (Val := Elt Ideal) (e' := .f32) X (Rect.unit (s := S2x6x1x1536) (k0_off2 i 0#32) S1x1x1x1536.size (k0_off2_inb i 0)))
    (e2 : s1 = View.ld (Val := Elt Ideal) (e' := .f32) X (Rect.unit (s := S2x6x1x1536) (k0_off1 i 3#32) S1x1x1x1536.size (k0_off1_inb i 1)))
    (e3 : g1 = View.ld (Val := Elt Ideal) (e' := .f32) X (Rect.unit (s := S2x6x1x1536) (k0_off2 i 3#32) S1x1x1x1536.size (k0_off2_inb i 1)))
    (x : Vec Ideal S2x1x512x1536 .bf16) : hrow s0 g0 s1 g1 x = hrowM X (i 0) x := by
  have hi : (i 0).val < 3 := (i 0).isLt
  funext h p
  unfold hrow hrowM
  by_cases hh : h.val = 0
  · have a0 : ∀ k, s0 (ix4 0 0 0 k) = X (ix4 0 ⟨3 * h.val + (i 0).val, by omega⟩ 0 k) := fun k => by
      rw [e0]; exact ld_row X _ (k0_off1_inb i 0) 0 _ ((off1_0 i).trans (congrArg (fun n => ![0, n, 0, 0]) (show (i 0).val = 3 * h.val + (i 0).val by omega))) k
    have a1 : ∀ k, g0 (ix4 0 0 0 k) = X (ix4 1 ⟨3 * h.val + (i 0).val, by omega⟩ 0 k) := fun k => by
      rw [e1]; exact ld_row X _ (k0_off2_inb i 0) 1 _ ((off2_0 i).trans (congrArg (fun n => ![1, n, 0, 0]) (show (i 0).val = 3 * h.val + (i 0).val by omega))) k
    simp only [if_pos hh, a0, a1]
  · have h1 : h.val = 1 := by omega
    have a0 : ∀ k, s1 (ix4 0 0 0 k) = X (ix4 0 ⟨3 * h.val + (i 0).val, by omega⟩ 0 k) := fun k => by
      rw [e2]; exact ld_row X _ (k0_off1_inb i 1) 0 _ ((off1_3 i).trans (congrArg (fun n => ![0, n, 0, 0]) (show 3 + (i 0).val = 3 * h.val + (i 0).val by omega))) k
    have a1 : ∀ k, g1 (ix4 0 0 0 k) = X (ix4 1 ⟨3 * h.val + (i 0).val, by omega⟩ 0 k) := fun k => by
      rw [e3]; exact ld_row X _ (k0_off2_inb i 1) 1 _ ((off2_3 i).trans (congrArg (fun n => ![1, n, 0, 0]) (show 3 + (i 0).val = 3 * h.val + (i 0).val by omega))) k
    simp only [if_neg hh, a0, a1]

theorem canon_pieces {s : Shape} {e : EltTy} (G : s.Idx → Elt Ideal e) (L : List (View.Piece (Elt Ideal) s e)) (h : View.PiecesOf G L) (y : s.Idx)
    (hc : ∃ p ∈ L, y ∈ p.1.set) : View.canon L y = G y := by
  have := View.canon_append_of_piecesOf G [] L h y hc
  rwa [List.append_nil] at this

/-- The modulation rows a point of case B reads. -/
theorem hrow_B (c : Dev nD) (i : grid0.Coords) (arg5 : Memref sig .tc .vmem S2x1x512x1536 .bf16) (harg5 : arg5.IsWhole) (arg20 : Memref sig .tc .vmem S2x6x1x1536 .f32) (harg20 : arg20.IsWhole) (x3 : Vec Ideal S2x1x512x1536 .bf16) (xs0 : Vec Ideal S2x6x1x1536 .f32) : hrow (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) x3 = hrowM xs0 (i 0) x3 :=
  hrow_of xs0 i _ _ _ _ (by rw [View.readAt_eq_ld, Memref.IsWhole.read_unread]) (by rw [View.readAt_eq_ld, Memref.IsWhole.read_unread]) (by rw [View.readAt_eq_ld, Memref.IsWhole.read_unread]) (by rw [View.readAt_eq_ld, Memref.IsWhole.read_unread]) x3

theorem plane_B (c : Dev nD) (i : grid0.Coords) (arg2 : Memref sig .tc .smem S3 .f32) (harg2 : arg2.IsWhole) (arg5 : Memref sig .tc .vmem S2x1x512x1536 .bf16) (harg5 : arg5.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg18 : Memref sig .tc .vmem S2x1x512x1536 .fp8e4m3) (arg20 : Memref sig .tc .vmem S2x6x1x1536 .f32) (harg20 : arg20.IsWhole) (x0 : Vec Ideal S3 .f32) (x3 : Vec Ideal S2x1x512x1536 .bf16) (x8 : Vec Ideal S64x1536 .fp8e4m3) (x9 : Vec Ideal S64x1 .f32) (x10 : Vec Ideal S64x1 .f32) (xs0 : Vec Ideal S2x6x1x1536 .f32) (arg21 : Memref sig .tc .vmem S272x128 .f32) (ch : Fin 16) (o : Nat) (ho : o = 17 * ch.val)
    (inb : ∀ a : Fin 2, (![o, 0] : Fin 2 → Nat) a + (![16, 128] : Fin 2 → Nat) a ≤ S272x128.size a) (x : S16x128.Idx) :
    arg21.view.readCov (kernelRun0_B.sl.HS1_32 c i arg2 harg2 arg5 harg5 arg10 harg10 arg11 harg11 arg12 harg12 arg18 arg20 harg20 x0 x3 x8 x9 x10 xs0) (Rect.unit (s := S272x128) ![o, 0] ![16, 128] inb).toLoadRect x
      = voG (velM (hrowM xs0 (i 0) x3) x8 x9 x10 (x0 (ix1 (i 0)))) (ix4 0 ch (x 0) (x 1)) := by
  rw [read_B c i arg2 harg2 arg5 harg5 arg10 harg10 arg11 harg11 arg12 harg12 arg18 arg20 harg20 x0 x3 x8 x9 x10 xs0 arg21 ch o ho inb x, shuf_vo (kernelRun0_B.sl.r_64 c i arg2 harg2 arg5 harg5 arg10 harg10 arg11 harg11 arg12 harg12 arg18 arg20 harg20 x0 x3 x8 x9 x10 xs0) ch (x 0) (x 1)]
  unfold voG
  rw [vel_B c i arg2 harg2 arg5 harg5 arg10 harg10 arg11 harg11 arg12 harg12 arg18 arg20 harg20 x0 x3 x8 x9 x10 xs0]
  have e1 : kernelRun0_B.sl.r_63 c i arg2 harg2 x0 = x0 (ix1 (i 0)) := ld_scal harg2 x0 i _ _
  have e2 := hrow_B c i arg5 harg5 arg20 harg20 x3 xs0
  rw [e1]
  show velM (hrow (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) x3) x8 x9 x10 (x0 (ix1 (i 0))) _ = _
  rw [e2]

theorem out0_B_12_eq (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : ¬cond0_0 i)
    (x0 : Vec Ideal S3 .f32) (x1 : Vec Ideal S3 .f32) (x2 : Vec Ideal S3 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (x8 : Vec Ideal S64x1536 .fp8e4m3) (x9 : Vec Ideal S64x1 .f32) (x10 : Vec Ideal S64x1 .f32) (x11 : Vec Ideal S1x16x16x128 .f32) (xo14 : Vec Ideal S6x1536 .fp8e4m3) (xo15 : Vec Ideal S6x1 .f32) (xs0 : Vec Ideal S2x6x1x1536 .f32) (y : S1x16x16x128.Idx) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0 y = (lnG (velM (hrowM xs0 (i 0) x3) x8 x9 x10 (x0 (ix1 (i 0)))) (x2 (ix1 (i 0))) (x1 (ix1 (i 0))) x11) y := by
  have hp : View.PiecesOf (lnG (velM (hrowM xs0 (i 0) x3) x8 x9 x10 (x0 (ix1 (i 0)))) (kernelRun0_B.sl.r_65 c i arg4 harg4 x2) (kernelRun0_B.sl.r_66 c i arg3 harg3 x1) x11) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0).1 :=
    And.intro (fun x => piece12 (velM (hrowM xs0 (i 0) x3) x8 x9 x10 (x0 (ix1 (i 0)))) (kernelRun0_B.sl.r_65 c i arg4 harg4 x2) (kernelRun0_B.sl.r_66 c i arg3 harg3 x1) _ harg13 x11 15 _ inb_S1x16x16x128_S1x1x16x128_0_15_0_0 rfl (fun x => plane_B c i arg2 harg2 arg5 harg5 arg10 harg10 arg11 harg11 arg12 harg12 arg18 arg20 harg20 x0 x3 x8 x9 x10 xs0 arg21 15 255 rfl inb_S272x128_S16x128_255_0 x) x) <|
    And.intro (fun x => piece12 (velM (hrowM xs0 (i 0) x3) x8 x9 x10 (x0 (ix1 (i 0)))) (kernelRun0_B.sl.r_65 c i arg4 harg4 x2) (kernelRun0_B.sl.r_66 c i arg3 harg3 x1) _ harg13 x11 14 _ inb_S1x16x16x128_S1x1x16x128_0_14_0_0 rfl (fun x => plane_B c i arg2 harg2 arg5 harg5 arg10 harg10 arg11 harg11 arg12 harg12 arg18 arg20 harg20 x0 x3 x8 x9 x10 xs0 arg21 14 238 rfl inb_S272x128_S16x128_238_0 x) x) <|
    And.intro (fun x => piece12 (velM (hrowM xs0 (i 0) x3) x8 x9 x10 (x0 (ix1 (i 0)))) (kernelRun0_B.sl.r_65 c i arg4 harg4 x2) (kernelRun0_B.sl.r_66 c i arg3 harg3 x1) _ harg13 x11 13 _ inb_S1x16x16x128_S1x1x16x128_0_13_0_0 rfl (fun x => plane_B c i arg2 harg2 arg5 harg5 arg10 harg10 arg11 harg11 arg12 harg12 arg18 arg20 harg20 x0 x3 x8 x9 x10 xs0 arg21 13 221 rfl inb_S272x128_S16x128_221_0 x) x) <|
    And.intro (fun x => piece12 (velM (hrowM xs0 (i 0) x3) x8 x9 x10 (x0 (ix1 (i 0)))) (kernelRun0_B.sl.r_65 c i arg4 harg4 x2) (kernelRun0_B.sl.r_66 c i arg3 harg3 x1) _ harg13 x11 12 _ inb_S1x16x16x128_S1x1x16x128_0_12_0_0 rfl (fun x => plane_B c i arg2 harg2 arg5 harg5 arg10 harg10 arg11 harg11 arg12 harg12 arg18 arg20 harg20 x0 x3 x8 x9 x10 xs0 arg21 12 204 rfl inb_S272x128_S16x128_204_0 x) x) <|
    And.intro (fun x => piece12 (velM (hrowM xs0 (i 0) x3) x8 x9 x10 (x0 (ix1 (i 0)))) (kernelRun0_B.sl.r_65 c i arg4 harg4 x2) (kernelRun0_B.sl.r_66 c i arg3 harg3 x1) _ harg13 x11 11 _ inb_S1x16x16x128_S1x1x16x128_0_11_0_0 rfl (fun x => plane_B c i arg2 harg2 arg5 harg5 arg10 harg10 arg11 harg11 arg12 harg12 arg18 arg20 harg20 x0 x3 x8 x9 x10 xs0 arg21 11 187 rfl inb_S272x128_S16x128_187_0 x) x) <|
    And.intro (fun x => piece12 (velM (hrowM xs0 (i 0) x3) x8 x9 x10 (x0 (ix1 (i 0)))) (kernelRun0_B.sl.r_65 c i arg4 harg4 x2) (kernelRun0_B.sl.r_66 c i arg3 harg3 x1) _ harg13 x11 10 _ inb_S1x16x16x128_S1x1x16x128_0_10_0_0 rfl (fun x => plane_B c i arg2 harg2 arg5 harg5 arg10 harg10 arg11 harg11 arg12 harg12 arg18 arg20 harg20 x0 x3 x8 x9 x10 xs0 arg21 10 170 rfl inb_S272x128_S16x128_170_0 x) x) <|
    And.intro (fun x => piece12 (velM (hrowM xs0 (i 0) x3) x8 x9 x10 (x0 (ix1 (i 0)))) (kernelRun0_B.sl.r_65 c i arg4 harg4 x2) (kernelRun0_B.sl.r_66 c i arg3 harg3 x1) _ harg13 x11 9 _ inb_S1x16x16x128_S1x1x16x128_0_9_0_0 rfl (fun x => plane_B c i arg2 harg2 arg5 harg5 arg10 harg10 arg11 harg11 arg12 harg12 arg18 arg20 harg20 x0 x3 x8 x9 x10 xs0 arg21 9 153 rfl inb_S272x128_S16x128_153_0 x) x) <|
    And.intro (fun x => piece12 (velM (hrowM xs0 (i 0) x3) x8 x9 x10 (x0 (ix1 (i 0)))) (kernelRun0_B.sl.r_65 c i arg4 harg4 x2) (kernelRun0_B.sl.r_66 c i arg3 harg3 x1) _ harg13 x11 8 _ inb_S1x16x16x128_S1x1x16x128_0_8_0_0 rfl (fun x => plane_B c i arg2 harg2 arg5 harg5 arg10 harg10 arg11 harg11 arg12 harg12 arg18 arg20 harg20 x0 x3 x8 x9 x10 xs0 arg21 8 136 rfl inb_S272x128_S16x128_136_0 x) x) <|
    And.intro (fun x => piece12 (velM (hrowM xs0 (i 0) x3) x8 x9 x10 (x0 (ix1 (i 0)))) (kernelRun0_B.sl.r_65 c i arg4 harg4 x2) (kernelRun0_B.sl.r_66 c i arg3 harg3 x1) _ harg13 x11 7 _ inb_S1x16x16x128_S1x1x16x128_0_7_0_0 rfl (fun x => plane_B c i arg2 harg2 arg5 harg5 arg10 harg10 arg11 harg11 arg12 harg12 arg18 arg20 harg20 x0 x3 x8 x9 x10 xs0 arg21 7 119 rfl inb_S272x128_S16x128_119_0 x) x) <|
    And.intro (fun x => piece12 (velM (hrowM xs0 (i 0) x3) x8 x9 x10 (x0 (ix1 (i 0)))) (kernelRun0_B.sl.r_65 c i arg4 harg4 x2) (kernelRun0_B.sl.r_66 c i arg3 harg3 x1) _ harg13 x11 6 _ inb_S1x16x16x128_S1x1x16x128_0_6_0_0 rfl (fun x => plane_B c i arg2 harg2 arg5 harg5 arg10 harg10 arg11 harg11 arg12 harg12 arg18 arg20 harg20 x0 x3 x8 x9 x10 xs0 arg21 6 102 rfl inb_S272x128_S16x128_102_0 x) x) <|
    And.intro (fun x => piece12 (velM (hrowM xs0 (i 0) x3) x8 x9 x10 (x0 (ix1 (i 0)))) (kernelRun0_B.sl.r_65 c i arg4 harg4 x2) (kernelRun0_B.sl.r_66 c i arg3 harg3 x1) _ harg13 x11 5 _ inb_S1x16x16x128_S1x1x16x128_0_5_0_0 rfl (fun x => plane_B c i arg2 harg2 arg5 harg5 arg10 harg10 arg11 harg11 arg12 harg12 arg18 arg20 harg20 x0 x3 x8 x9 x10 xs0 arg21 5 85 rfl inb_S272x128_S16x128_85_0 x) x) <|
    And.intro (fun x => piece12 (velM (hrowM xs0 (i 0) x3) x8 x9 x10 (x0 (ix1 (i 0)))) (kernelRun0_B.sl.r_65 c i arg4 harg4 x2) (kernelRun0_B.sl.r_66 c i arg3 harg3 x1) _ harg13 x11 4 _ inb_S1x16x16x128_S1x1x16x128_0_4_0_0 rfl (fun x => plane_B c i arg2 harg2 arg5 harg5 arg10 harg10 arg11 harg11 arg12 harg12 arg18 arg20 harg20 x0 x3 x8 x9 x10 xs0 arg21 4 68 rfl inb_S272x128_S16x128_68_0 x) x) <|
    And.intro (fun x => piece12 (velM (hrowM xs0 (i 0) x3) x8 x9 x10 (x0 (ix1 (i 0)))) (kernelRun0_B.sl.r_65 c i arg4 harg4 x2) (kernelRun0_B.sl.r_66 c i arg3 harg3 x1) _ harg13 x11 3 _ inb_S1x16x16x128_S1x1x16x128_0_3_0_0 rfl (fun x => plane_B c i arg2 harg2 arg5 harg5 arg10 harg10 arg11 harg11 arg12 harg12 arg18 arg20 harg20 x0 x3 x8 x9 x10 xs0 arg21 3 51 rfl inb_S272x128_S16x128_51_0 x) x) <|
    And.intro (fun x => piece12 (velM (hrowM xs0 (i 0) x3) x8 x9 x10 (x0 (ix1 (i 0)))) (kernelRun0_B.sl.r_65 c i arg4 harg4 x2) (kernelRun0_B.sl.r_66 c i arg3 harg3 x1) _ harg13 x11 2 _ inb_S1x16x16x128_S1x1x16x128_0_2_0_0 rfl (fun x => plane_B c i arg2 harg2 arg5 harg5 arg10 harg10 arg11 harg11 arg12 harg12 arg18 arg20 harg20 x0 x3 x8 x9 x10 xs0 arg21 2 34 rfl inb_S272x128_S16x128_34_0 x) x) <|
    And.intro (fun x => piece12 (velM (hrowM xs0 (i 0) x3) x8 x9 x10 (x0 (ix1 (i 0)))) (kernelRun0_B.sl.r_65 c i arg4 harg4 x2) (kernelRun0_B.sl.r_66 c i arg3 harg3 x1) _ harg13 x11 1 _ inb_S1x16x16x128_S1x1x16x128_0_1_0_0 rfl (fun x => plane_B c i arg2 harg2 arg5 harg5 arg10 harg10 arg11 harg11 arg12 harg12 arg18 arg20 harg20 x0 x3 x8 x9 x10 xs0 arg21 1 17 rfl inb_S272x128_S16x128_17_0 x) x) <|
    And.intro (fun x => piece12 (velM (hrowM xs0 (i 0) x3) x8 x9 x10 (x0 (ix1 (i 0)))) (kernelRun0_B.sl.r_65 c i arg4 harg4 x2) (kernelRun0_B.sl.r_66 c i arg3 harg3 x1) _ harg13 x11 0 _ inb_S1x16x16x128_S1x1x16x128_0_0_0_0 rfl (fun x => plane_B c i arg2 harg2 arg5 harg5 arg10 harg10 arg11 harg11 arg12 harg12 arg18 arg20 harg20 x0 x3 x8 x9 x10 xs0 arg21 0 0 rfl inb_S272x128_S16x128_0_0 x) x) <|
    trivial
  have e1 : kernelRun0_B.sl.r_65 c i arg4 harg4 x2 = x2 (ix1 (i 0)) := ld_scal harg4 x2 i _ _
  have e2 : kernelRun0_B.sl.r_66 c i arg3 harg3 x1 = x1 (ix1 (i 0)) := ld_scal harg3 x1 i _ _
  rw [e1, e2] at hp
  unfold out0_B_12
  rw [View.read_writes_junk_eq_canon]
  exact canon_pieces _ _ hp y (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0 y)

theorem out0_B_13_eq (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : ¬cond0_0 i)
    (x0 : Vec Ideal S3 .f32) (x1 : Vec Ideal S3 .f32) (x2 : Vec Ideal S3 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (x8 : Vec Ideal S64x1536 .fp8e4m3) (x9 : Vec Ideal S64x1 .f32) (x10 : Vec Ideal S64x1 .f32) (x11 : Vec Ideal S1x16x16x128 .f32) (xo14 : Vec Ideal S6x1536 .fp8e4m3) (xo15 : Vec Ideal S6x1 .f32) (xs0 : Vec Ideal S2x6x1x1536 .f32) (y : S1x16x16x128.Idx) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0 y = (voG (velM (hrowM xs0 (i 0) x3) x8 x9 x10 (x0 (ix1 (i 0))))) y := by
  have hp : View.PiecesOf (voG (velM (hrowM xs0 (i 0) x3) x8 x9 x10 (x0 (ix1 (i 0))))) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0).2.1 :=
    And.intro (fun x => piece13 (velM (hrowM xs0 (i 0) x3) x8 x9 x10 (x0 (ix1 (i 0)))) _ 15 _ inb_S1x16x16x128_S1x1x16x128_0_15_0_0 rfl (fun x => plane_B c i arg2 harg2 arg5 harg5 arg10 harg10 arg11 harg11 arg12 harg12 arg18 arg20 harg20 x0 x3 x8 x9 x10 xs0 arg21 15 255 rfl inb_S272x128_S16x128_255_0 x) x) <|
    And.intro (fun x => piece13 (velM (hrowM xs0 (i 0) x3) x8 x9 x10 (x0 (ix1 (i 0)))) _ 14 _ inb_S1x16x16x128_S1x1x16x128_0_14_0_0 rfl (fun x => plane_B c i arg2 harg2 arg5 harg5 arg10 harg10 arg11 harg11 arg12 harg12 arg18 arg20 harg20 x0 x3 x8 x9 x10 xs0 arg21 14 238 rfl inb_S272x128_S16x128_238_0 x) x) <|
    And.intro (fun x => piece13 (velM (hrowM xs0 (i 0) x3) x8 x9 x10 (x0 (ix1 (i 0)))) _ 13 _ inb_S1x16x16x128_S1x1x16x128_0_13_0_0 rfl (fun x => plane_B c i arg2 harg2 arg5 harg5 arg10 harg10 arg11 harg11 arg12 harg12 arg18 arg20 harg20 x0 x3 x8 x9 x10 xs0 arg21 13 221 rfl inb_S272x128_S16x128_221_0 x) x) <|
    And.intro (fun x => piece13 (velM (hrowM xs0 (i 0) x3) x8 x9 x10 (x0 (ix1 (i 0)))) _ 12 _ inb_S1x16x16x128_S1x1x16x128_0_12_0_0 rfl (fun x => plane_B c i arg2 harg2 arg5 harg5 arg10 harg10 arg11 harg11 arg12 harg12 arg18 arg20 harg20 x0 x3 x8 x9 x10 xs0 arg21 12 204 rfl inb_S272x128_S16x128_204_0 x) x) <|
    And.intro (fun x => piece13 (velM (hrowM xs0 (i 0) x3) x8 x9 x10 (x0 (ix1 (i 0)))) _ 11 _ inb_S1x16x16x128_S1x1x16x128_0_11_0_0 rfl (fun x => plane_B c i arg2 harg2 arg5 harg5 arg10 harg10 arg11 harg11 arg12 harg12 arg18 arg20 harg20 x0 x3 x8 x9 x10 xs0 arg21 11 187 rfl inb_S272x128_S16x128_187_0 x) x) <|
    And.intro (fun x => piece13 (velM (hrowM xs0 (i 0) x3) x8 x9 x10 (x0 (ix1 (i 0)))) _ 10 _ inb_S1x16x16x128_S1x1x16x128_0_10_0_0 rfl (fun x => plane_B c i arg2 harg2 arg5 harg5 arg10 harg10 arg11 harg11 arg12 harg12 arg18 arg20 harg20 x0 x3 x8 x9 x10 xs0 arg21 10 170 rfl inb_S272x128_S16x128_170_0 x) x) <|
    And.intro (fun x => piece13 (velM (hrowM xs0 (i 0) x3) x8 x9 x10 (x0 (ix1 (i 0)))) _ 9 _ inb_S1x16x16x128_S1x1x16x128_0_9_0_0 rfl (fun x => plane_B c i arg2 harg2 arg5 harg5 arg10 harg10 arg11 harg11 arg12 harg12 arg18 arg20 harg20 x0 x3 x8 x9 x10 xs0 arg21 9 153 rfl inb_S272x128_S16x128_153_0 x) x) <|
    And.intro (fun x => piece13 (velM (hrowM xs0 (i 0) x3) x8 x9 x10 (x0 (ix1 (i 0)))) _ 8 _ inb_S1x16x16x128_S1x1x16x128_0_8_0_0 rfl (fun x => plane_B c i arg2 harg2 arg5 harg5 arg10 harg10 arg11 harg11 arg12 harg12 arg18 arg20 harg20 x0 x3 x8 x9 x10 xs0 arg21 8 136 rfl inb_S272x128_S16x128_136_0 x) x) <|
    And.intro (fun x => piece13 (velM (hrowM xs0 (i 0) x3) x8 x9 x10 (x0 (ix1 (i 0)))) _ 7 _ inb_S1x16x16x128_S1x1x16x128_0_7_0_0 rfl (fun x => plane_B c i arg2 harg2 arg5 harg5 arg10 harg10 arg11 harg11 arg12 harg12 arg18 arg20 harg20 x0 x3 x8 x9 x10 xs0 arg21 7 119 rfl inb_S272x128_S16x128_119_0 x) x) <|
    And.intro (fun x => piece13 (velM (hrowM xs0 (i 0) x3) x8 x9 x10 (x0 (ix1 (i 0)))) _ 6 _ inb_S1x16x16x128_S1x1x16x128_0_6_0_0 rfl (fun x => plane_B c i arg2 harg2 arg5 harg5 arg10 harg10 arg11 harg11 arg12 harg12 arg18 arg20 harg20 x0 x3 x8 x9 x10 xs0 arg21 6 102 rfl inb_S272x128_S16x128_102_0 x) x) <|
    And.intro (fun x => piece13 (velM (hrowM xs0 (i 0) x3) x8 x9 x10 (x0 (ix1 (i 0)))) _ 5 _ inb_S1x16x16x128_S1x1x16x128_0_5_0_0 rfl (fun x => plane_B c i arg2 harg2 arg5 harg5 arg10 harg10 arg11 harg11 arg12 harg12 arg18 arg20 harg20 x0 x3 x8 x9 x10 xs0 arg21 5 85 rfl inb_S272x128_S16x128_85_0 x) x) <|
    And.intro (fun x => piece13 (velM (hrowM xs0 (i 0) x3) x8 x9 x10 (x0 (ix1 (i 0)))) _ 4 _ inb_S1x16x16x128_S1x1x16x128_0_4_0_0 rfl (fun x => plane_B c i arg2 harg2 arg5 harg5 arg10 harg10 arg11 harg11 arg12 harg12 arg18 arg20 harg20 x0 x3 x8 x9 x10 xs0 arg21 4 68 rfl inb_S272x128_S16x128_68_0 x) x) <|
    And.intro (fun x => piece13 (velM (hrowM xs0 (i 0) x3) x8 x9 x10 (x0 (ix1 (i 0)))) _ 3 _ inb_S1x16x16x128_S1x1x16x128_0_3_0_0 rfl (fun x => plane_B c i arg2 harg2 arg5 harg5 arg10 harg10 arg11 harg11 arg12 harg12 arg18 arg20 harg20 x0 x3 x8 x9 x10 xs0 arg21 3 51 rfl inb_S272x128_S16x128_51_0 x) x) <|
    And.intro (fun x => piece13 (velM (hrowM xs0 (i 0) x3) x8 x9 x10 (x0 (ix1 (i 0)))) _ 2 _ inb_S1x16x16x128_S1x1x16x128_0_2_0_0 rfl (fun x => plane_B c i arg2 harg2 arg5 harg5 arg10 harg10 arg11 harg11 arg12 harg12 arg18 arg20 harg20 x0 x3 x8 x9 x10 xs0 arg21 2 34 rfl inb_S272x128_S16x128_34_0 x) x) <|
    And.intro (fun x => piece13 (velM (hrowM xs0 (i 0) x3) x8 x9 x10 (x0 (ix1 (i 0)))) _ 1 _ inb_S1x16x16x128_S1x1x16x128_0_1_0_0 rfl (fun x => plane_B c i arg2 harg2 arg5 harg5 arg10 harg10 arg11 harg11 arg12 harg12 arg18 arg20 harg20 x0 x3 x8 x9 x10 xs0 arg21 1 17 rfl inb_S272x128_S16x128_17_0 x) x) <|
    And.intro (fun x => piece13 (velM (hrowM xs0 (i 0) x3) x8 x9 x10 (x0 (ix1 (i 0)))) _ 0 _ inb_S1x16x16x128_S1x1x16x128_0_0_0_0 rfl (fun x => plane_B c i arg2 harg2 arg5 harg5 arg10 harg10 arg11 harg11 arg12 harg12 arg18 arg20 harg20 x0 x3 x8 x9 x10 xs0 arg21 0 0 rfl inb_S272x128_S16x128_0_0 x) x) <|
    trivial
  unfold out0_B_13
  rw [View.read_writes_junk_eq_canon]
  exact canon_pieces _ _ hp y (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0 y)

theorem out0_B_16_eq (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : ¬cond0_0 i)
    (x0 : Vec Ideal S3 .f32) (x1 : Vec Ideal S3 .f32) (x2 : Vec Ideal S3 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (x8 : Vec Ideal S64x1536 .fp8e4m3) (x9 : Vec Ideal S64x1 .f32) (x10 : Vec Ideal S64x1 .f32) (x11 : Vec Ideal S1x16x16x128 .f32) (xo14 : Vec Ideal S6x1536 .fp8e4m3) (xo15 : Vec Ideal S6x1 .f32) (xs0 : Vec Ideal S2x6x1x1536 .f32) (y : S2x1x512x1536.Idx) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0 y = (xcM (hrowM xs0 (i 0) x3)) y := by
  have hp : View.PiecesOf (xcM (hrowM xs0 (i 0) x3)) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0).2.2.2.2.1 :=
    by
      have h := codes_B c i arg5 harg5 arg20 harg20 x3 xs0
      have e : xcG (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) x3 = xcM (hrowM xs0 (i 0) x3) := by
        show xcM (hrow (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) x3) = _
        rw [hrow_B c i arg5 harg5 arg20 harg20 x3 xs0]
      rw [e] at h
      exact h
  unfold out0_B_16
  rw [View.read_writes_junk_eq_canon]
  exact canon_pieces _ _ hp y (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0 y)

theorem out0_B_17_eq (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : ¬cond0_0 i)
    (x0 : Vec Ideal S3 .f32) (x1 : Vec Ideal S3 .f32) (x2 : Vec Ideal S3 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (x8 : Vec Ideal S64x1536 .fp8e4m3) (x9 : Vec Ideal S64x1 .f32) (x10 : Vec Ideal S64x1 .f32) (x11 : Vec Ideal S1x16x16x128 .f32) (xo14 : Vec Ideal S6x1536 .fp8e4m3) (xo15 : Vec Ideal S6x1 .f32) (xs0 : Vec Ideal S2x6x1x1536 .f32) (y : S2x1x1x512.Idx) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0 y = (fun y : S2x1x1x512.Idx => xsM (hrowM xs0 (i 0) x3) (y 0) (y 3)) y := by
  have hp : View.PiecesOf (fun y : S2x1x1x512.Idx => xsM (hrowM xs0 (i 0) x3) (y 0) (y 3)) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0).2.2.2.2.2.1 :=
    And.intro (fun x => by
      obtain ⟨e0, e3⟩ := sc_emb 1 inb_S2x1x1x512_S1x1x1x512_1_0_0_0 x
      refine (pay122_apply _ _ _ _ x).trans ((rows_eq (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) harg5 x3 1 rfl rfl _ _ _ _ _ _ _ _ rfl rfl rfl rfl _ (sc1_B c i arg5 harg5 arg20 harg20 x3 xs0) (x 3)).trans ?_)
      show xsM (hrow (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) x3) 1 (x 3) = _
      rw [hrow_B c i arg5 harg5 arg20 harg20 x3 xs0]
      exact (congr (congrArg (xsM (hrowM xs0 (i 0) x3)) e0) e3).symm) <|
    And.intro (fun x => by
      obtain ⟨e0, e3⟩ := sc_emb 0 inb_S2x1x1x512_S1x1x1x512_0_0_0_0 x
      refine (pay72_apply _ _ _ _ _ _ x).trans ((rows_eq (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) harg5 x3 0 rfl rfl _ _ _ _ _ _ _ _ rfl rfl rfl rfl _ (sc0_B c i arg5 harg5 arg20 harg20 x3 xs0) (x 3)).trans ?_)
      show xsM (hrow (View.readAt (Elt Ideal) arg20.view (Rect.unit (s := S2x6x1x1536) (k0_off1 i 0#32) S1x1x1x1536.size (k0_off1_inb i 0)).toLoadRect (harg20.unread xs0)) (View.readAt (Elt Ideal) arg20.view (Rect.unit (s := S2x6x1x1536) (k0_off2 i 0#32) S1x1x1x1536.size (k0_off2_inb i 0)).toLoadRect (harg20.unread xs0)) (View.readAt (Elt Ideal) arg20.view (Rect.unit (s := S2x6x1x1536) (k0_off1 i 3#32) S1x1x1x1536.size (k0_off1_inb i 1)).toLoadRect (harg20.unread xs0)) (View.readAt (Elt Ideal) arg20.view (Rect.unit (s := S2x6x1x1536) (k0_off2 i 3#32) S1x1x1x1536.size (k0_off2_inb i 1)).toLoadRect (harg20.unread xs0)) x3) 0 (x 3) = _
      rw [hrow_B c i arg5 harg5 arg20 harg20 x3 xs0]
      exact (congr (congrArg (xsM (hrowM xs0 (i 0) x3)) e0) e3).symm) <|
    trivial
  unfold out0_B_17
  rw [View.read_writes_junk_eq_canon]
  exact canon_pieces _ _ hp y (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xo14 xo15 xs0 y)

/-- The modulation rows a point of case A reads. -/
theorem hrow_A (c : Dev nD) (i : grid0.Coords) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg20 : Memref sig .tc .vmem S2x6x1x1536 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) : hrow (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) x3 = hrowM (View.canon (kernelRun0_A.sl.HS0_12 c arg6 harg6 arg7 harg7 arg8 harg8 arg9 harg9 x4 x5 x6 x7)) (i 0) x3 :=
  hrow_of (View.canon (kernelRun0_A.sl.HS0_12 c arg6 harg6 arg7 harg7 arg8 harg8 arg9 harg9 x4 x5 x6 x7)) i _ _ _ _ (by unfold kernelRun0_A.sl.v7; rw [View.readAt_eq_ld, View.read_writes_junk_eq_canon]) (by unfold kernelRun0_A.sl.v11; rw [View.readAt_eq_ld, View.read_writes_junk_eq_canon]) (by unfold kernelRun0_A.sl.v494; rw [View.readAt_eq_ld, View.read_writes_junk_eq_canon]) (by unfold kernelRun0_A.sl.v498; rw [View.readAt_eq_ld, View.read_writes_junk_eq_canon]) x3

theorem plane_A (c : Dev nD) (i : grid0.Coords) (arg2 : Memref sig .tc .smem S3 .f32) (harg2 : arg2.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg18 : Memref sig .tc .vmem S2x1x512x1536 .fp8e4m3) (arg20 : Memref sig .tc .vmem S2x6x1x1536 .f32) (x0 : Vec Ideal S3 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (x8 : Vec Ideal S64x1536 .fp8e4m3) (x9 : Vec Ideal S64x1 .f32) (x10 : Vec Ideal S64x1 .f32) (arg21 : Memref sig .tc .vmem S272x128 .f32) (ch : Fin 16) (o : Nat) (ho : o = 17 * ch.val)
    (inb : ∀ a : Fin 2, (![o, 0] : Fin 2 → Nat) a + (![16, 128] : Fin 2 → Nat) a ≤ S272x128.size a) (x : S16x128.Idx) :
    arg21.view.readCov (kernelRun0_A.sl.HS1_32 c i arg2 harg2 arg5 harg5 arg6 harg6 arg7 harg7 arg8 harg8 arg9 harg9 arg10 harg10 arg11 harg11 arg12 harg12 arg18 arg20 x0 x3 x4 x5 x6 x7 x8 x9 x10) (Rect.unit (s := S272x128) ![o, 0] ![16, 128] inb).toLoadRect x
      = voG (velM (hrowM (View.canon (kernelRun0_A.sl.HS0_12 c arg6 harg6 arg7 harg7 arg8 harg8 arg9 harg9 x4 x5 x6 x7)) (i 0) x3) x8 x9 x10 (x0 (ix1 (i 0)))) (ix4 0 ch (x 0) (x 1)) := by
  rw [read_A c i arg2 harg2 arg5 harg5 arg6 harg6 arg7 harg7 arg8 harg8 arg9 harg9 arg10 harg10 arg11 harg11 arg12 harg12 arg18 arg20 x0 x3 x4 x5 x6 x7 x8 x9 x10 arg21 ch o ho inb x, shuf_vo (kernelRun0_A.sl.r_73 c i arg2 harg2 arg5 harg5 arg6 harg6 arg7 harg7 arg8 harg8 arg9 harg9 arg10 harg10 arg11 harg11 arg12 harg12 arg18 arg20 x0 x3 x4 x5 x6 x7 x8 x9 x10) ch (x 0) (x 1)]
  unfold voG
  rw [vel_A c i arg2 harg2 arg5 harg5 arg6 harg6 arg7 harg7 arg8 harg8 arg9 harg9 arg10 harg10 arg11 harg11 arg12 harg12 arg18 arg20 x0 x3 x4 x5 x6 x7 x8 x9 x10]
  have e1 : kernelRun0_A.sl.r_72 c i arg2 harg2 x0 = x0 (ix1 (i 0)) := ld_scal harg2 x0 i _ _
  have e2 := hrow_A c i arg5 harg5 arg6 harg6 arg7 harg7 arg8 harg8 arg9 harg9 arg20 x3 x4 x5 x6 x7
  rw [e1]
  show velM (hrow (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) x3) x8 x9 x10 (x0 (ix1 (i 0))) _ = _
  rw [e2]

theorem out0_A_12_eq (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec Ideal S3 .f32) (x1 : Vec Ideal S3 .f32) (x2 : Vec Ideal S3 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (x8 : Vec Ideal S64x1536 .fp8e4m3) (x9 : Vec Ideal S64x1 .f32) (x10 : Vec Ideal S64x1 .f32) (x11 : Vec Ideal S1x16x16x128 .f32) (y : S1x16x16x128.Idx) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 y = (lnG (velM (hrowM (View.canon (kernelRun0_A.sl.HS0_12 c arg6 harg6 arg7 harg7 arg8 harg8 arg9 harg9 x4 x5 x6 x7)) (i 0) x3) x8 x9 x10 (x0 (ix1 (i 0)))) (x2 (ix1 (i 0))) (x1 (ix1 (i 0))) x11) y := by
  have hp : View.PiecesOf (lnG (velM (hrowM (View.canon (kernelRun0_A.sl.HS0_12 c arg6 harg6 arg7 harg7 arg8 harg8 arg9 harg9 x4 x5 x6 x7)) (i 0) x3) x8 x9 x10 (x0 (ix1 (i 0)))) (kernelRun0_A.sl.r_74 c i arg4 harg4 x2) (kernelRun0_A.sl.r_75 c i arg3 harg3 x1) x11) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).1 :=
    And.intro (fun x => piece12 (velM (hrowM (View.canon (kernelRun0_A.sl.HS0_12 c arg6 harg6 arg7 harg7 arg8 harg8 arg9 harg9 x4 x5 x6 x7)) (i 0) x3) x8 x9 x10 (x0 (ix1 (i 0)))) (kernelRun0_A.sl.r_74 c i arg4 harg4 x2) (kernelRun0_A.sl.r_75 c i arg3 harg3 x1) _ harg13 x11 15 _ inb_S1x16x16x128_S1x1x16x128_0_15_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 15 255 rfl inb_S272x128_S16x128_255_0 x) x) <|
    And.intro (fun x => piece12 (velM (hrowM (View.canon (kernelRun0_A.sl.HS0_12 c arg6 harg6 arg7 harg7 arg8 harg8 arg9 harg9 x4 x5 x6 x7)) (i 0) x3) x8 x9 x10 (x0 (ix1 (i 0)))) (kernelRun0_A.sl.r_74 c i arg4 harg4 x2) (kernelRun0_A.sl.r_75 c i arg3 harg3 x1) _ harg13 x11 14 _ inb_S1x16x16x128_S1x1x16x128_0_14_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 14 238 rfl inb_S272x128_S16x128_238_0 x) x) <|
    And.intro (fun x => piece12 (velM (hrowM (View.canon (kernelRun0_A.sl.HS0_12 c arg6 harg6 arg7 harg7 arg8 harg8 arg9 harg9 x4 x5 x6 x7)) (i 0) x3) x8 x9 x10 (x0 (ix1 (i 0)))) (kernelRun0_A.sl.r_74 c i arg4 harg4 x2) (kernelRun0_A.sl.r_75 c i arg3 harg3 x1) _ harg13 x11 13 _ inb_S1x16x16x128_S1x1x16x128_0_13_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 13 221 rfl inb_S272x128_S16x128_221_0 x) x) <|
    And.intro (fun x => piece12 (velM (hrowM (View.canon (kernelRun0_A.sl.HS0_12 c arg6 harg6 arg7 harg7 arg8 harg8 arg9 harg9 x4 x5 x6 x7)) (i 0) x3) x8 x9 x10 (x0 (ix1 (i 0)))) (kernelRun0_A.sl.r_74 c i arg4 harg4 x2) (kernelRun0_A.sl.r_75 c i arg3 harg3 x1) _ harg13 x11 12 _ inb_S1x16x16x128_S1x1x16x128_0_12_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 12 204 rfl inb_S272x128_S16x128_204_0 x) x) <|
    And.intro (fun x => piece12 (velM (hrowM (View.canon (kernelRun0_A.sl.HS0_12 c arg6 harg6 arg7 harg7 arg8 harg8 arg9 harg9 x4 x5 x6 x7)) (i 0) x3) x8 x9 x10 (x0 (ix1 (i 0)))) (kernelRun0_A.sl.r_74 c i arg4 harg4 x2) (kernelRun0_A.sl.r_75 c i arg3 harg3 x1) _ harg13 x11 11 _ inb_S1x16x16x128_S1x1x16x128_0_11_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 11 187 rfl inb_S272x128_S16x128_187_0 x) x) <|
    And.intro (fun x => piece12 (velM (hrowM (View.canon (kernelRun0_A.sl.HS0_12 c arg6 harg6 arg7 harg7 arg8 harg8 arg9 harg9 x4 x5 x6 x7)) (i 0) x3) x8 x9 x10 (x0 (ix1 (i 0)))) (kernelRun0_A.sl.r_74 c i arg4 harg4 x2) (kernelRun0_A.sl.r_75 c i arg3 harg3 x1) _ harg13 x11 10 _ inb_S1x16x16x128_S1x1x16x128_0_10_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 10 170 rfl inb_S272x128_S16x128_170_0 x) x) <|
    And.intro (fun x => piece12 (velM (hrowM (View.canon (kernelRun0_A.sl.HS0_12 c arg6 harg6 arg7 harg7 arg8 harg8 arg9 harg9 x4 x5 x6 x7)) (i 0) x3) x8 x9 x10 (x0 (ix1 (i 0)))) (kernelRun0_A.sl.r_74 c i arg4 harg4 x2) (kernelRun0_A.sl.r_75 c i arg3 harg3 x1) _ harg13 x11 9 _ inb_S1x16x16x128_S1x1x16x128_0_9_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 9 153 rfl inb_S272x128_S16x128_153_0 x) x) <|
    And.intro (fun x => piece12 (velM (hrowM (View.canon (kernelRun0_A.sl.HS0_12 c arg6 harg6 arg7 harg7 arg8 harg8 arg9 harg9 x4 x5 x6 x7)) (i 0) x3) x8 x9 x10 (x0 (ix1 (i 0)))) (kernelRun0_A.sl.r_74 c i arg4 harg4 x2) (kernelRun0_A.sl.r_75 c i arg3 harg3 x1) _ harg13 x11 8 _ inb_S1x16x16x128_S1x1x16x128_0_8_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 8 136 rfl inb_S272x128_S16x128_136_0 x) x) <|
    And.intro (fun x => piece12 (velM (hrowM (View.canon (kernelRun0_A.sl.HS0_12 c arg6 harg6 arg7 harg7 arg8 harg8 arg9 harg9 x4 x5 x6 x7)) (i 0) x3) x8 x9 x10 (x0 (ix1 (i 0)))) (kernelRun0_A.sl.r_74 c i arg4 harg4 x2) (kernelRun0_A.sl.r_75 c i arg3 harg3 x1) _ harg13 x11 7 _ inb_S1x16x16x128_S1x1x16x128_0_7_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 7 119 rfl inb_S272x128_S16x128_119_0 x) x) <|
    And.intro (fun x => piece12 (velM (hrowM (View.canon (kernelRun0_A.sl.HS0_12 c arg6 harg6 arg7 harg7 arg8 harg8 arg9 harg9 x4 x5 x6 x7)) (i 0) x3) x8 x9 x10 (x0 (ix1 (i 0)))) (kernelRun0_A.sl.r_74 c i arg4 harg4 x2) (kernelRun0_A.sl.r_75 c i arg3 harg3 x1) _ harg13 x11 6 _ inb_S1x16x16x128_S1x1x16x128_0_6_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 6 102 rfl inb_S272x128_S16x128_102_0 x) x) <|
    And.intro (fun x => piece12 (velM (hrowM (View.canon (kernelRun0_A.sl.HS0_12 c arg6 harg6 arg7 harg7 arg8 harg8 arg9 harg9 x4 x5 x6 x7)) (i 0) x3) x8 x9 x10 (x0 (ix1 (i 0)))) (kernelRun0_A.sl.r_74 c i arg4 harg4 x2) (kernelRun0_A.sl.r_75 c i arg3 harg3 x1) _ harg13 x11 5 _ inb_S1x16x16x128_S1x1x16x128_0_5_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 5 85 rfl inb_S272x128_S16x128_85_0 x) x) <|
    And.intro (fun x => piece12 (velM (hrowM (View.canon (kernelRun0_A.sl.HS0_12 c arg6 harg6 arg7 harg7 arg8 harg8 arg9 harg9 x4 x5 x6 x7)) (i 0) x3) x8 x9 x10 (x0 (ix1 (i 0)))) (kernelRun0_A.sl.r_74 c i arg4 harg4 x2) (kernelRun0_A.sl.r_75 c i arg3 harg3 x1) _ harg13 x11 4 _ inb_S1x16x16x128_S1x1x16x128_0_4_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 4 68 rfl inb_S272x128_S16x128_68_0 x) x) <|
    And.intro (fun x => piece12 (velM (hrowM (View.canon (kernelRun0_A.sl.HS0_12 c arg6 harg6 arg7 harg7 arg8 harg8 arg9 harg9 x4 x5 x6 x7)) (i 0) x3) x8 x9 x10 (x0 (ix1 (i 0)))) (kernelRun0_A.sl.r_74 c i arg4 harg4 x2) (kernelRun0_A.sl.r_75 c i arg3 harg3 x1) _ harg13 x11 3 _ inb_S1x16x16x128_S1x1x16x128_0_3_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 3 51 rfl inb_S272x128_S16x128_51_0 x) x) <|
    And.intro (fun x => piece12 (velM (hrowM (View.canon (kernelRun0_A.sl.HS0_12 c arg6 harg6 arg7 harg7 arg8 harg8 arg9 harg9 x4 x5 x6 x7)) (i 0) x3) x8 x9 x10 (x0 (ix1 (i 0)))) (kernelRun0_A.sl.r_74 c i arg4 harg4 x2) (kernelRun0_A.sl.r_75 c i arg3 harg3 x1) _ harg13 x11 2 _ inb_S1x16x16x128_S1x1x16x128_0_2_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 2 34 rfl inb_S272x128_S16x128_34_0 x) x) <|
    And.intro (fun x => piece12 (velM (hrowM (View.canon (kernelRun0_A.sl.HS0_12 c arg6 harg6 arg7 harg7 arg8 harg8 arg9 harg9 x4 x5 x6 x7)) (i 0) x3) x8 x9 x10 (x0 (ix1 (i 0)))) (kernelRun0_A.sl.r_74 c i arg4 harg4 x2) (kernelRun0_A.sl.r_75 c i arg3 harg3 x1) _ harg13 x11 1 _ inb_S1x16x16x128_S1x1x16x128_0_1_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 1 17 rfl inb_S272x128_S16x128_17_0 x) x) <|
    And.intro (fun x => piece12 (velM (hrowM (View.canon (kernelRun0_A.sl.HS0_12 c arg6 harg6 arg7 harg7 arg8 harg8 arg9 harg9 x4 x5 x6 x7)) (i 0) x3) x8 x9 x10 (x0 (ix1 (i 0)))) (kernelRun0_A.sl.r_74 c i arg4 harg4 x2) (kernelRun0_A.sl.r_75 c i arg3 harg3 x1) _ harg13 x11 0 _ inb_S1x16x16x128_S1x1x16x128_0_0_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 0 0 rfl inb_S272x128_S16x128_0_0 x) x) <|
    trivial
  have e1 : kernelRun0_A.sl.r_74 c i arg4 harg4 x2 = x2 (ix1 (i 0)) := ld_scal harg4 x2 i _ _
  have e2 : kernelRun0_A.sl.r_75 c i arg3 harg3 x1 = x1 (ix1 (i 0)) := ld_scal harg3 x1 i _ _
  rw [e1, e2] at hp
  unfold out0_A_12
  rw [View.read_writes_junk_eq_canon]
  exact canon_pieces _ _ hp y (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 y)

theorem out0_A_13_eq (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec Ideal S3 .f32) (x1 : Vec Ideal S3 .f32) (x2 : Vec Ideal S3 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (x8 : Vec Ideal S64x1536 .fp8e4m3) (x9 : Vec Ideal S64x1 .f32) (x10 : Vec Ideal S64x1 .f32) (x11 : Vec Ideal S1x16x16x128 .f32) (y : S1x16x16x128.Idx) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 y = (voG (velM (hrowM (View.canon (kernelRun0_A.sl.HS0_12 c arg6 harg6 arg7 harg7 arg8 harg8 arg9 harg9 x4 x5 x6 x7)) (i 0) x3) x8 x9 x10 (x0 (ix1 (i 0))))) y := by
  have hp : View.PiecesOf (voG (velM (hrowM (View.canon (kernelRun0_A.sl.HS0_12 c arg6 harg6 arg7 harg7 arg8 harg8 arg9 harg9 x4 x5 x6 x7)) (i 0) x3) x8 x9 x10 (x0 (ix1 (i 0))))) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.1 :=
    And.intro (fun x => piece13 (velM (hrowM (View.canon (kernelRun0_A.sl.HS0_12 c arg6 harg6 arg7 harg7 arg8 harg8 arg9 harg9 x4 x5 x6 x7)) (i 0) x3) x8 x9 x10 (x0 (ix1 (i 0)))) _ 15 _ inb_S1x16x16x128_S1x1x16x128_0_15_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 15 255 rfl inb_S272x128_S16x128_255_0 x) x) <|
    And.intro (fun x => piece13 (velM (hrowM (View.canon (kernelRun0_A.sl.HS0_12 c arg6 harg6 arg7 harg7 arg8 harg8 arg9 harg9 x4 x5 x6 x7)) (i 0) x3) x8 x9 x10 (x0 (ix1 (i 0)))) _ 14 _ inb_S1x16x16x128_S1x1x16x128_0_14_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 14 238 rfl inb_S272x128_S16x128_238_0 x) x) <|
    And.intro (fun x => piece13 (velM (hrowM (View.canon (kernelRun0_A.sl.HS0_12 c arg6 harg6 arg7 harg7 arg8 harg8 arg9 harg9 x4 x5 x6 x7)) (i 0) x3) x8 x9 x10 (x0 (ix1 (i 0)))) _ 13 _ inb_S1x16x16x128_S1x1x16x128_0_13_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 13 221 rfl inb_S272x128_S16x128_221_0 x) x) <|
    And.intro (fun x => piece13 (velM (hrowM (View.canon (kernelRun0_A.sl.HS0_12 c arg6 harg6 arg7 harg7 arg8 harg8 arg9 harg9 x4 x5 x6 x7)) (i 0) x3) x8 x9 x10 (x0 (ix1 (i 0)))) _ 12 _ inb_S1x16x16x128_S1x1x16x128_0_12_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 12 204 rfl inb_S272x128_S16x128_204_0 x) x) <|
    And.intro (fun x => piece13 (velM (hrowM (View.canon (kernelRun0_A.sl.HS0_12 c arg6 harg6 arg7 harg7 arg8 harg8 arg9 harg9 x4 x5 x6 x7)) (i 0) x3) x8 x9 x10 (x0 (ix1 (i 0)))) _ 11 _ inb_S1x16x16x128_S1x1x16x128_0_11_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 11 187 rfl inb_S272x128_S16x128_187_0 x) x) <|
    And.intro (fun x => piece13 (velM (hrowM (View.canon (kernelRun0_A.sl.HS0_12 c arg6 harg6 arg7 harg7 arg8 harg8 arg9 harg9 x4 x5 x6 x7)) (i 0) x3) x8 x9 x10 (x0 (ix1 (i 0)))) _ 10 _ inb_S1x16x16x128_S1x1x16x128_0_10_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 10 170 rfl inb_S272x128_S16x128_170_0 x) x) <|
    And.intro (fun x => piece13 (velM (hrowM (View.canon (kernelRun0_A.sl.HS0_12 c arg6 harg6 arg7 harg7 arg8 harg8 arg9 harg9 x4 x5 x6 x7)) (i 0) x3) x8 x9 x10 (x0 (ix1 (i 0)))) _ 9 _ inb_S1x16x16x128_S1x1x16x128_0_9_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 9 153 rfl inb_S272x128_S16x128_153_0 x) x) <|
    And.intro (fun x => piece13 (velM (hrowM (View.canon (kernelRun0_A.sl.HS0_12 c arg6 harg6 arg7 harg7 arg8 harg8 arg9 harg9 x4 x5 x6 x7)) (i 0) x3) x8 x9 x10 (x0 (ix1 (i 0)))) _ 8 _ inb_S1x16x16x128_S1x1x16x128_0_8_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 8 136 rfl inb_S272x128_S16x128_136_0 x) x) <|
    And.intro (fun x => piece13 (velM (hrowM (View.canon (kernelRun0_A.sl.HS0_12 c arg6 harg6 arg7 harg7 arg8 harg8 arg9 harg9 x4 x5 x6 x7)) (i 0) x3) x8 x9 x10 (x0 (ix1 (i 0)))) _ 7 _ inb_S1x16x16x128_S1x1x16x128_0_7_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 7 119 rfl inb_S272x128_S16x128_119_0 x) x) <|
    And.intro (fun x => piece13 (velM (hrowM (View.canon (kernelRun0_A.sl.HS0_12 c arg6 harg6 arg7 harg7 arg8 harg8 arg9 harg9 x4 x5 x6 x7)) (i 0) x3) x8 x9 x10 (x0 (ix1 (i 0)))) _ 6 _ inb_S1x16x16x128_S1x1x16x128_0_6_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 6 102 rfl inb_S272x128_S16x128_102_0 x) x) <|
    And.intro (fun x => piece13 (velM (hrowM (View.canon (kernelRun0_A.sl.HS0_12 c arg6 harg6 arg7 harg7 arg8 harg8 arg9 harg9 x4 x5 x6 x7)) (i 0) x3) x8 x9 x10 (x0 (ix1 (i 0)))) _ 5 _ inb_S1x16x16x128_S1x1x16x128_0_5_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 5 85 rfl inb_S272x128_S16x128_85_0 x) x) <|
    And.intro (fun x => piece13 (velM (hrowM (View.canon (kernelRun0_A.sl.HS0_12 c arg6 harg6 arg7 harg7 arg8 harg8 arg9 harg9 x4 x5 x6 x7)) (i 0) x3) x8 x9 x10 (x0 (ix1 (i 0)))) _ 4 _ inb_S1x16x16x128_S1x1x16x128_0_4_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 4 68 rfl inb_S272x128_S16x128_68_0 x) x) <|
    And.intro (fun x => piece13 (velM (hrowM (View.canon (kernelRun0_A.sl.HS0_12 c arg6 harg6 arg7 harg7 arg8 harg8 arg9 harg9 x4 x5 x6 x7)) (i 0) x3) x8 x9 x10 (x0 (ix1 (i 0)))) _ 3 _ inb_S1x16x16x128_S1x1x16x128_0_3_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 3 51 rfl inb_S272x128_S16x128_51_0 x) x) <|
    And.intro (fun x => piece13 (velM (hrowM (View.canon (kernelRun0_A.sl.HS0_12 c arg6 harg6 arg7 harg7 arg8 harg8 arg9 harg9 x4 x5 x6 x7)) (i 0) x3) x8 x9 x10 (x0 (ix1 (i 0)))) _ 2 _ inb_S1x16x16x128_S1x1x16x128_0_2_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 2 34 rfl inb_S272x128_S16x128_34_0 x) x) <|
    And.intro (fun x => piece13 (velM (hrowM (View.canon (kernelRun0_A.sl.HS0_12 c arg6 harg6 arg7 harg7 arg8 harg8 arg9 harg9 x4 x5 x6 x7)) (i 0) x3) x8 x9 x10 (x0 (ix1 (i 0)))) _ 1 _ inb_S1x16x16x128_S1x1x16x128_0_1_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 1 17 rfl inb_S272x128_S16x128_17_0 x) x) <|
    And.intro (fun x => piece13 (velM (hrowM (View.canon (kernelRun0_A.sl.HS0_12 c arg6 harg6 arg7 harg7 arg8 harg8 arg9 harg9 x4 x5 x6 x7)) (i 0) x3) x8 x9 x10 (x0 (ix1 (i 0)))) _ 0 _ inb_S1x16x16x128_S1x1x16x128_0_0_0_0 rfl (fun x => plane_A c i arg2 harg2 arg5 harg5 arg6 harg6 arg7 harg7 arg8 harg8 arg9 harg9 arg10 harg10 arg11 harg11 arg12 harg12 arg18 arg20 x0 x3 x4 x5 x6 x7 x8 x9 x10 arg21 0 0 rfl inb_S272x128_S16x128_0_0 x) x) <|
    trivial
  unfold out0_A_13
  rw [View.read_writes_junk_eq_canon]
  exact canon_pieces _ _ hp y (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 y)

theorem out0_A_16_eq (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec Ideal S3 .f32) (x1 : Vec Ideal S3 .f32) (x2 : Vec Ideal S3 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (x8 : Vec Ideal S64x1536 .fp8e4m3) (x9 : Vec Ideal S64x1 .f32) (x10 : Vec Ideal S64x1 .f32) (x11 : Vec Ideal S1x16x16x128 .f32) (y : S2x1x512x1536.Idx) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 y = (xcM (hrowM (View.canon (kernelRun0_A.sl.HS0_12 c arg6 harg6 arg7 harg7 arg8 harg8 arg9 harg9 x4 x5 x6 x7)) (i 0) x3)) y := by
  have hp : View.PiecesOf (xcM (hrowM (View.canon (kernelRun0_A.sl.HS0_12 c arg6 harg6 arg7 harg7 arg8 harg8 arg9 harg9 x4 x5 x6 x7)) (i 0) x3)) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.1 :=
    by
      have h := codes_A c i arg5 harg5 arg6 harg6 arg7 harg7 arg8 harg8 arg9 harg9 arg20 x3 x4 x5 x6 x7
      have e : xcG (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) x3 = xcM (hrowM (View.canon (kernelRun0_A.sl.HS0_12 c arg6 harg6 arg7 harg7 arg8 harg8 arg9 harg9 x4 x5 x6 x7)) (i 0) x3) := by
        show xcM (hrow (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) x3) = _
        rw [hrow_A c i arg5 harg5 arg6 harg6 arg7 harg7 arg8 harg8 arg9 harg9 arg20 x3 x4 x5 x6 x7]
      rw [e] at h
      exact h
  unfold out0_A_16
  rw [View.read_writes_junk_eq_canon]
  exact canon_pieces _ _ hp y (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 y)

theorem out0_A_17_eq (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec Ideal S3 .f32) (x1 : Vec Ideal S3 .f32) (x2 : Vec Ideal S3 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (x8 : Vec Ideal S64x1536 .fp8e4m3) (x9 : Vec Ideal S64x1 .f32) (x10 : Vec Ideal S64x1 .f32) (x11 : Vec Ideal S1x16x16x128 .f32) (y : S2x1x1x512.Idx) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 y = (fun y : S2x1x1x512.Idx => xsM (hrowM (View.canon (kernelRun0_A.sl.HS0_12 c arg6 harg6 arg7 harg7 arg8 harg8 arg9 harg9 x4 x5 x6 x7)) (i 0) x3) (y 0) (y 3)) y := by
  have hp : View.PiecesOf (fun y : S2x1x1x512.Idx => xsM (hrowM (View.canon (kernelRun0_A.sl.HS0_12 c arg6 harg6 arg7 harg7 arg8 harg8 arg9 harg9 x4 x5 x6 x7)) (i 0) x3) (y 0) (y 3)) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.2.1 :=
    And.intro (fun x => by
      obtain ⟨e0, e3⟩ := sc_emb 1 inb_S2x1x1x512_S1x1x1x512_1_0_0_0 x
      refine (pay122_apply _ _ _ _ x).trans ((rows_eq (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) harg5 x3 1 rfl rfl _ _ _ _ _ _ _ _ rfl rfl rfl rfl _ (sc1_A c i arg5 harg5 arg6 harg6 arg7 harg7 arg8 harg8 arg9 harg9 arg20 x3 x4 x5 x6 x7) (x 3)).trans ?_)
      show xsM (hrow (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) x3) 1 (x 3) = _
      rw [hrow_A c i arg5 harg5 arg6 harg6 arg7 harg7 arg8 harg8 arg9 harg9 arg20 x3 x4 x5 x6 x7]
      exact (congr (congrArg (xsM (hrowM (View.canon (kernelRun0_A.sl.HS0_12 c arg6 harg6 arg7 harg7 arg8 harg8 arg9 harg9 x4 x5 x6 x7)) (i 0) x3)) e0) e3).symm) <|
    And.intro (fun x => by
      obtain ⟨e0, e3⟩ := sc_emb 0 inb_S2x1x1x512_S1x1x1x512_0_0_0_0 x
      refine (pay72_apply _ _ _ _ _ _ x).trans ((rows_eq (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) harg5 x3 0 rfl rfl _ _ _ _ _ _ _ _ rfl rfl rfl rfl _ (sc0_A c i arg5 harg5 arg6 harg6 arg7 harg7 arg8 harg8 arg9 harg9 arg20 x3 x4 x5 x6 x7) (x 3)).trans ?_)
      show xsM (hrow (kernelRun0_A.sl.v7 c i arg6 harg6 arg7 harg7 arg8 harg8 arg9 harg9 arg20 x4 x5 x6 x7) (kernelRun0_A.sl.v11 c i arg6 harg6 arg7 harg7 arg8 harg8 arg9 harg9 arg20 x4 x5 x6 x7) (kernelRun0_A.sl.v494 c i arg6 harg6 arg7 harg7 arg8 harg8 arg9 harg9 arg20 x4 x5 x6 x7) (kernelRun0_A.sl.v498 c i arg6 harg6 arg7 harg7 arg8 harg8 arg9 harg9 arg20 x4 x5 x6 x7) x3) 0 (x 3) = _
      rw [hrow_A c i arg5 harg5 arg6 harg6 arg7 harg7 arg8 harg8 arg9 harg9 arg20 x3 x4 x5 x6 x7]
      exact (congr (congrArg (xsM (hrowM (View.canon (kernelRun0_A.sl.HS0_12 c arg6 harg6 arg7 harg7 arg8 harg8 arg9 harg9 x4 x5 x6 x7)) (i 0) x3)) e0) e3).symm) <|
    trivial
  unfold out0_A_17
  rw [View.read_writes_junk_eq_canon]
  exact canon_pieces _ _ hp y (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 y)

end Cert.KernelIdeal.Gen

end
-- ==== Proof.KMod.lean ====
/- The first grid point's work: the codes and scales of the conditioning vector, and the modulation rows computed from them. -/
module

public import proofs.«01_k».proof.Proof.KOut

@[expose] public section

set_option maxRecDepth 16384

noncomputable section

namespace Cert.KernelIdeal.Gen

open Idealize.ShloMosaic Idealize.ShloMosaic.TcCoe Idealize.ShloMosaic.Tactic

/-- The conditioning row through silu. -/
def crow (x : Vec Ideal S6x1536 .bf16) (r : Fin 6) (k : Fin 1536) : EReal :=
  x (ix2 r k) * FloatOps.logistic (F := Ideal) (φ := .f32) (x (ix2 r k))

def ccG (x : Vec Ideal S6x1536 .bf16) (y : S6x1536.Idx) : EReal := Quant.code (crow x (y 0)) (y 1)

def csG (x : Vec Ideal S6x1536 .bf16) (y : S6x1.Idx) : EReal := Quant.kScale (Quant.amax (crow x (y 0)))

/-- One modulation part before the gain's one is added. -/
def mpre (x4 : Vec Ideal S6x1536 .bf16) (x5 : Vec Ideal S2x1536x1536 .fp8e4m3) (x6 x7 : Vec Ideal S2x1536 .f32) (p : Fin 2) (r : Fin 6) (n : Fin 1536) : EReal :=
  (∑ k : Fin 1536, Quant.code (crow x4 r) k * x5 (ix3 p k n)) * Quant.kScale (Quant.amax (crow x4 r)) * x6 (ix2 p n) + x7 (ix2 p n)

/-- The modulation rows: part 0 the shifts, part 1 the gains. -/
def modG (x4 : Vec Ideal S6x1536 .bf16) (x5 : Vec Ideal S2x1536x1536 .fp8e4m3) (x6 x7 : Vec Ideal S2x1536 .f32) (y : S2x6x1x1536.Idx) : EReal :=
  if (y 0).val = 0 then mpre x4 x5 x6 x7 0 (y 1) (y 3) else Ideal.ofBits .f32 1065353216#32 + mpre x4 x5 x6 x7 1 (y 1) (y 3)

variable {F : FTy → Type} [FloatOps F]

def wbis (v : FVec F S6x1 .f32) (k : IVec S6x1 32) (s : BitVec 32) : IVec S6x1 32 :=
  select (cmpf .oge v (bitcastToFloat .f32 (muli (addi k (broadcast S6x1 s)) (broadcast S6x1 8388608#32)))) (addi k (broadcast S6x1 s)) k

theorem wbis_fold (v : FVec F S6x1 .f32) (k : IVec S6x1 32) (s : BitVec 32) :
  select (cmpf .oge v (bitcastToFloat .f32 (muli (addi k (broadcast S6x1 s)) (broadcast S6x1 8388608#32)))) (addi k (broadcast S6x1 s)) k = wbis v k s := rfl

theorem wbis_apply (v : FVec Ideal S6x1 .f32) (k : IVec S6x1 32) (s : BitVec 32) (j : S6x1.Idx) :
  wbis v k s j = Quant.bisStep (v j) (k j) s := by
  unfold wbis Quant.bisStep
  have hm : ∀ a b : BitVec 32, a * b = IntOp.muli a b := fun _ _ => rfl
  have ha : ∀ a b : BitVec 32, a + b = IntOp.addi a b := fun _ _ => rfl
  rw [ValueIdx.select_apply, ValueIdx.cmpf_apply, bitcastToFloat_apply, muli_apply, addi_apply]
  have e1 : IntOp.muli (IntOp.addi (k j) (broadcast S6x1 s j)) (broadcast S6x1 8388608#32 j) = (k j + s) * 8388608#32 := by
    show IntOp.muli (IntOp.addi (k j) s) 8388608#32 = _
    rw [← ha, ← hm]
  have e2 : IntOp.addi (k j) (broadcast S6x1 s j) = k j + s := by rw [ha]; rfl
  rw [e1, e2, Ideal.cmpf_def]
  rfl

def wfield (v : FVec F S6x1 .f32) : IVec S6x1 32 :=
  muli (wbis v (wbis v (wbis v (wbis v (wbis v (wbis v (wbis v (wbis v (broadcast S6x1 0#32) 128#32) 64#32) 32#32) 16#32) 8#32) 4#32) 2#32) 1#32) (broadcast S6x1 8388608#32)

theorem wfield_apply (v : FVec Ideal S6x1 .f32) (j : S6x1.Idx) : wfield v j = Quant.field (v j) := by
  show IntOp.muli (wbis _ _ _ j) _ = _
  rw [wbis_apply, wbis_apply, wbis_apply, wbis_apply, wbis_apply, wbis_apply, wbis_apply, wbis_apply]
  rfl

theorem wfieldpay (x : Vec F S6x1536 .bf16) : k0_pay4 (k0_pay2 x) (k0_pay3 x) = wfield (k0_pay2 x) := by
  unfold k0_pay4 k0_pay3
  simp only [wbis_fold]
  rfl

theorem wplainpay (x : Vec Ideal S6x1536 .bf16) (j : S6x1.Idx) : k0_pay5 (k0_pay2 x) (k0_pay3 x) j = Quant.plain (k0_pay2 x j) := by
  unfold k0_pay5
  rw [wfieldpay]
  unfold Quant.plain
  rw [← wfield_apply]
  rfl

theorem camax_apply (x : Vec Ideal S6x1536 .bf16) (j : S6x1.Idx) : k0_pay2 x j = Quant.amax (crow x (j 0)) := by
  unfold k0_pay2 k0_pay1
  pointwise
  rfl

theorem cs_pay (x : Vec Ideal S6x1536 .bf16) : k0_pay7 (k0_pay2 x) (k0_pay3 x) = csG x := by
  funext j
  unfold k0_pay7 csG
  rw [wfieldpay, ← camax_apply]
  unfold Quant.kScale
  rw [← wplainpay, ← wfield_apply]
  rfl

theorem cc_pay (x : Vec Ideal S6x1536 .bf16) : k0_pay8 (k0_pay1 x) (k0_pay2 x) (k0_pay3 x) = ccG x := by
  funext j
  unfold k0_pay8 ccG
  rw [wfieldpay]
  pointwise
  have hj : k0_pay1 x j = crow x (j 0) (j 1) := by
    unfold k0_pay1 crow
    rw [← eq_ix2 j]
    rfl
  simp only [wplainpay, wfield_apply, camax_apply, hj]
  rfl

theorem pay9_apply (cs : FVec Ideal S6x1 .f32) (cc : FVec Ideal S6x1536 .fp8e4m3) (w : Vec Ideal S1x1536x1536 .fp8e4m3) (s b : Vec Ideal S1x1536 .f32) (j : S6x1536.Idx) :
    k0_pay9 cs cc w s b j = (∑ k : Fin 1536, cc (ix2 (j 0) k) * w (ix3 0 k (j 1))) * cs (ix2 (j 0) 0) * s (ix2 0 (j 1)) + b (ix2 0 (j 1)) := by
  unfold k0_pay9
  pointwise

theorem pay16_eq (cs : FVec Ideal S6x1 .f32) (cc : FVec Ideal S6x1536 .fp8e4m3) (w : Vec Ideal S1x1536x1536 .fp8e4m3) (s b : Vec Ideal S1x1536 .f32) (j : S6x1536.Idx) :
    k0_pay16 cs cc w s b j = Ideal.ofBits .f32 1065353216#32 + k0_pay9 cs cc w s b j := rfl

theorem load_w {arg7 : Memref sig .tc .vmem S2x1536x1536 .fp8e4m3} (harg7 : arg7.IsWhole) (x5 : Vec Ideal S2x1536x1536 .fp8e4m3) (p : Fin 2)
    (off : Fin 3 → Nat) (inb : ∀ a : Fin 3, off a + (![1, 1536, 1536] : Fin 3 → Nat) a ≤ S2x1536x1536.size a) (e : off = ![p.val, 0, 0]) (k n : Fin 1536) :
    View.readAt (Elt Ideal) arg7.view (Rect.unit (s := S2x1536x1536) off ![1, 1536, 1536] inb).toLoadRect (harg7.unread x5) (ix3 0 k n) = x5 (ix3 p k n) := by
  subst e
  rw [View.readAt_eq_ld, Memref.IsWhole.read_unread]
  refine congrArg x5 (funext fun d => Fin.ext ?_)
  match d with
  | ⟨0, _⟩ => show p.val + 1 * 0 = p.val; omega
  | ⟨1, _⟩ => show 0 + 1 * k.val = k.val; omega
  | ⟨2, _⟩ => show 0 + 1 * n.val = n.val; omega

theorem load_r {arg8 : Memref sig .tc .vmem S2x1536 .f32} (harg8 : arg8.IsWhole) (x6 : Vec Ideal S2x1536 .f32) (p : Fin 2)
    (off : Fin 2 → Nat) (inb : ∀ a : Fin 2, off a + (![1, 1536] : Fin 2 → Nat) a ≤ S2x1536.size a) (e : off = ![p.val, 0]) (n : Fin 1536) :
    View.readAt (Elt Ideal) arg8.view (Rect.unit (s := S2x1536) off ![1, 1536] inb).toLoadRect (harg8.unread x6) (ix2 0 n) = x6 (ix2 p n) := by
  subst e
  rw [View.readAt_eq_ld, Memref.IsWhole.read_unread]
  refine congrArg x6 (funext fun d => Fin.ext ?_)
  match d with
  | ⟨0, _⟩ => show p.val + 1 * 0 = p.val; omega
  | ⟨1, _⟩ => show 0 + 1 * n.val = n.val; omega

theorem whole2 (n : Nat) {m : Nat} (inb : ∀ a : Fin 2, (![0, 0] : Fin 2 → Nat) a + (![m, n] : Fin 2 → Nat) a ≤ (![m, n] : Fin 2 → Nat) a)
    (x : (⟨2, ![m, n]⟩ : Shape).Idx) : (Rect.unit (s := ⟨2, ![m, n]⟩) ![0, 0] ![m, n] inb).emb x = x := by
  funext d
  refine Fin.ext ?_
  match d with
  | ⟨0, _⟩ => show 0 + 1 * (x 0).val = (x 0).val; omega
  | ⟨1, _⟩ => show 0 + 1 * (x 1).val = (x 1).val; omega

theorem mod_emb (p : Fin 2) (r : Fin 6) (inb : ∀ a : Fin 4, (![p.val, r.val, 0, 0] : Fin 4 → Nat) a + (![1, 1, 1, 1536] : Fin 4 → Nat) a ≤ S2x6x1x1536.size a) (x : S1x1x1x1536.Idx) :
    (Rect.unit (s := S2x6x1x1536) ![p.val, r.val, 0, 0] ![1, 1, 1, 1536] inb).emb x = (ix4 p r 0 (x 3) : S2x6x1x1536.Idx) := by
  have h0 : (x 0).val < 1 := (x 0).isLt
  have h1 : (x 1).val < 1 := (x 1).isLt
  have h2 : (x 2).val < 1 := (x 2).isLt
  funext d
  refine Fin.ext ?_
  match d with
  | ⟨0, _⟩ => show p.val + 1 * (x 0).val = p.val; omega
  | ⟨1, _⟩ => show r.val + 1 * (x 1).val = r.val; omega
  | ⟨2, _⟩ => show 0 + 1 * (x 2).val = 0; omega
  | ⟨3, _⟩ => show 0 + 1 * (x 3).val = (x 3).val; omega

theorem modrow_0_0 (cs : FVec Ideal S6x1 .f32) (cc : FVec Ideal S6x1536 .fp8e4m3) (w : Vec Ideal S1x1536x1536 .fp8e4m3) (s b : Vec Ideal S1x1536 .f32) (x : S1x1x1x1536.Idx) :
    k0_pay10 cs cc w s b x = k0_pay9 cs cc w s b (ix2 0 (x 3)) := by
  unfold k0_pay10
  generalize k0_pay9 cs cc w s b = v
  pointwise

theorem modrow_0_1 (cs : FVec Ideal S6x1 .f32) (cc : FVec Ideal S6x1536 .fp8e4m3) (w : Vec Ideal S1x1536x1536 .fp8e4m3) (s b : Vec Ideal S1x1536 .f32) (x : S1x1x1x1536.Idx) :
    k0_pay11 cs cc w s b x = k0_pay9 cs cc w s b (ix2 1 (x 3)) := by
  unfold k0_pay11
  generalize k0_pay9 cs cc w s b = v
  pointwise

theorem modrow_0_2 (cs : FVec Ideal S6x1 .f32) (cc : FVec Ideal S6x1536 .fp8e4m3) (w : Vec Ideal S1x1536x1536 .fp8e4m3) (s b : Vec Ideal S1x1536 .f32) (x : S1x1x1x1536.Idx) :
    k0_pay12 cs cc w s b x = k0_pay9 cs cc w s b (ix2 2 (x 3)) := by
  unfold k0_pay12
  generalize k0_pay9 cs cc w s b = v
  pointwise

theorem modrow_0_3 (cs : FVec Ideal S6x1 .f32) (cc : FVec Ideal S6x1536 .fp8e4m3) (w : Vec Ideal S1x1536x1536 .fp8e4m3) (s b : Vec Ideal S1x1536 .f32) (x : S1x1x1x1536.Idx) :
    k0_pay13 cs cc w s b x = k0_pay9 cs cc w s b (ix2 3 (x 3)) := by
  unfold k0_pay13
  generalize k0_pay9 cs cc w s b = v
  pointwise

theorem modrow_0_4 (cs : FVec Ideal S6x1 .f32) (cc : FVec Ideal S6x1536 .fp8e4m3) (w : Vec Ideal S1x1536x1536 .fp8e4m3) (s b : Vec Ideal S1x1536 .f32) (x : S1x1x1x1536.Idx) :
    k0_pay14 (k0_pay9 cs cc w s b) x = k0_pay9 cs cc w s b (ix2 4 (x 3)) := by
  unfold k0_pay14
  generalize k0_pay9 cs cc w s b = v
  pointwise

theorem modrow_0_5 (cs : FVec Ideal S6x1 .f32) (cc : FVec Ideal S6x1536 .fp8e4m3) (w : Vec Ideal S1x1536x1536 .fp8e4m3) (s b : Vec Ideal S1x1536 .f32) (x : S1x1x1x1536.Idx) :
    k0_pay15 (k0_pay9 cs cc w s b) x = k0_pay9 cs cc w s b (ix2 5 (x 3)) := by
  unfold k0_pay15
  generalize k0_pay9 cs cc w s b = v
  pointwise

theorem modrow_1_0 (cs : FVec Ideal S6x1 .f32) (cc : FVec Ideal S6x1536 .fp8e4m3) (w : Vec Ideal S1x1536x1536 .fp8e4m3) (s b : Vec Ideal S1x1536 .f32) (x : S1x1x1x1536.Idx) :
    k0_pay17 cs cc w s b x = k0_pay16 cs cc w s b (ix2 0 (x 3)) := by
  unfold k0_pay17
  generalize k0_pay16 cs cc w s b = v
  pointwise

theorem modrow_1_1 (cs : FVec Ideal S6x1 .f32) (cc : FVec Ideal S6x1536 .fp8e4m3) (w : Vec Ideal S1x1536x1536 .fp8e4m3) (s b : Vec Ideal S1x1536 .f32) (x : S1x1x1x1536.Idx) :
    k0_pay18 cs cc w s b x = k0_pay16 cs cc w s b (ix2 1 (x 3)) := by
  unfold k0_pay18
  generalize k0_pay16 cs cc w s b = v
  pointwise

theorem modrow_1_2 (cs : FVec Ideal S6x1 .f32) (cc : FVec Ideal S6x1536 .fp8e4m3) (w : Vec Ideal S1x1536x1536 .fp8e4m3) (s b : Vec Ideal S1x1536 .f32) (x : S1x1x1x1536.Idx) :
    k0_pay20 (k0_pay19 cs cc w s b) x = k0_pay16 cs cc w s b (ix2 2 (x 3)) := by
  unfold k0_pay20 k0_pay19
  generalize k0_pay16 cs cc w s b = v
  pointwise

theorem modrow_1_3 (cs : FVec Ideal S6x1 .f32) (cc : FVec Ideal S6x1536 .fp8e4m3) (w : Vec Ideal S1x1536x1536 .fp8e4m3) (s b : Vec Ideal S1x1536 .f32) (x : S1x1x1x1536.Idx) :
    k0_pay21 (k0_pay16 cs cc w s b) x = k0_pay16 cs cc w s b (ix2 3 (x 3)) := by
  unfold k0_pay21
  generalize k0_pay16 cs cc w s b = v
  pointwise

theorem modrow_1_4 (cs : FVec Ideal S6x1 .f32) (cc : FVec Ideal S6x1536 .fp8e4m3) (w : Vec Ideal S1x1536x1536 .fp8e4m3) (s b : Vec Ideal S1x1536 .f32) (x : S1x1x1x1536.Idx) :
    k0_pay22 (k0_pay16 cs cc w s b) x = k0_pay16 cs cc w s b (ix2 4 (x 3)) := by
  unfold k0_pay22
  generalize k0_pay16 cs cc w s b = v
  pointwise

theorem modrow_1_5 (cs : FVec Ideal S6x1 .f32) (cc : FVec Ideal S6x1536 .fp8e4m3) (w : Vec Ideal S1x1536x1536 .fp8e4m3) (s b : Vec Ideal S1x1536 .f32) (x : S1x1x1x1536.Idx) :
    k0_pay23 (k0_pay16 cs cc w s b) x = k0_pay16 cs cc w s b (ix2 5 (x 3)) := by
  unfold k0_pay23
  generalize k0_pay16 cs cc w s b = v
  pointwise

theorem r4_A (c : Dev nD) (arg6 : Memref sig .tc .vmem S6x1536 .bf16) (harg6 : arg6.IsWhole) (x4 : Vec Ideal S6x1536 .bf16) : (kernelRun0_A.sl.r_4 c arg6 harg6 x4) = ccG x4 := by
  have e : (kernelRun0_A.sl.r_4 c arg6 harg6 x4) = k0_pay8 (k0_pay1 (View.readAt (Elt Ideal) arg6.view (Rect.unit (s := S6x1536) ![0, 0] S6x1536.size inb_S6x1536_S6x1536_0_0).toLoadRect (harg6.unread x4)))
    (k0_pay2 (View.readAt (Elt Ideal) arg6.view (Rect.unit (s := S6x1536) ![0, 0] S6x1536.size inb_S6x1536_S6x1536_0_0).toLoadRect (harg6.unread x4)))
    (k0_pay3 (View.readAt (Elt Ideal) arg6.view (Rect.unit (s := S6x1536) ![0, 0] S6x1536.size inb_S6x1536_S6x1536_0_0).toLoadRect (harg6.unread x4))) := rfl
  rw [e, View.readAt_eq_ld, Memref.IsWhole.read_unread, View.ld_unit_zero (by decide), cc_pay]

theorem r3_A (c : Dev nD) (arg6 : Memref sig .tc .vmem S6x1536 .bf16) (harg6 : arg6.IsWhole) (x4 : Vec Ideal S6x1536 .bf16) : (kernelRun0_A.sl.r_3 c arg6 harg6 x4) = csG x4 := by
  have e : (kernelRun0_A.sl.r_3 c arg6 harg6 x4) = k0_pay7
    (k0_pay2 (View.readAt (Elt Ideal) arg6.view (Rect.unit (s := S6x1536) ![0, 0] S6x1536.size inb_S6x1536_S6x1536_0_0).toLoadRect (harg6.unread x4)))
    (k0_pay3 (View.readAt (Elt Ideal) arg6.view (Rect.unit (s := S6x1536) ![0, 0] S6x1536.size inb_S6x1536_S6x1536_0_0).toLoadRect (harg6.unread x4))) := rfl
  rw [e, View.readAt_eq_ld, Memref.IsWhole.read_unread, View.ld_unit_zero (by decide), cs_pay]

theorem part0 (c : Dev nD) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (x4 : Vec Ideal S6x1536 .bf16) (x5 : Vec Ideal S2x1536x1536 .fp8e4m3) (x6 : Vec Ideal S2x1536 .f32) (x7 : Vec Ideal S2x1536 .f32) (j : S6x1536.Idx) :
    k0_pay9 (kernelRun0_A.sl.r_3 c arg6 harg6 x4) (kernelRun0_A.sl.r_4 c arg6 harg6 x4) (View.readAt (Elt Ideal) arg7.view (Rect.unit (s := S2x1536x1536) ![0, 0, 0] S1x1536x1536.size inb_S2x1536x1536_S1x1536x1536_0_0_0).toLoadRect (harg7.unread x5)) (View.readAt (Elt Ideal) arg8.view (Rect.unit (s := S2x1536) ![0, 0] S1x1536.size inb_S2x1536_S1x1536_0_0).toLoadRect (harg8.unread x6)) (View.readAt (Elt Ideal) arg9.view (Rect.unit (s := S2x1536) ![0, 0] S1x1536.size inb_S2x1536_S1x1536_0_0).toLoadRect (harg9.unread x7)) j = mpre x4 x5 x6 x7 0 (j 0) (j 1) := by
  rw [pay9_apply, r3_A, r4_A]
  unfold mpre
  refine congrArg₂ _ (congrArg₂ _ (congrArg₂ _ (Finset.sum_congr rfl fun k _ => congrArg₂ _ rfl ?_) rfl) ?_) ?_
  · exact load_w harg7 x5 0 _ inb_S2x1536x1536_S1x1536x1536_0_0_0 rfl k (j 1)
  · exact load_r harg8 x6 0 _ inb_S2x1536_S1x1536_0_0 rfl (j 1)
  · exact load_r harg9 x7 0 _ inb_S2x1536_S1x1536_0_0 rfl (j 1)

theorem part1 (c : Dev nD) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (x4 : Vec Ideal S6x1536 .bf16) (x5 : Vec Ideal S2x1536x1536 .fp8e4m3) (x6 : Vec Ideal S2x1536 .f32) (x7 : Vec Ideal S2x1536 .f32) (j : S6x1536.Idx) :
    k0_pay9 (kernelRun0_A.sl.r_3 c arg6 harg6 x4) (kernelRun0_A.sl.r_4 c arg6 harg6 x4) (View.readAt (Elt Ideal) arg7.view (Rect.unit (s := S2x1536x1536) ![1, 0, 0] S1x1536x1536.size inb_S2x1536x1536_S1x1536x1536_1_0_0).toLoadRect (harg7.unread x5)) (View.readAt (Elt Ideal) arg8.view (Rect.unit (s := S2x1536) ![1, 0] S1x1536.size inb_S2x1536_S1x1536_1_0).toLoadRect (harg8.unread x6)) (View.readAt (Elt Ideal) arg9.view (Rect.unit (s := S2x1536) ![1, 0] S1x1536.size inb_S2x1536_S1x1536_1_0).toLoadRect (harg9.unread x7)) j = mpre x4 x5 x6 x7 1 (j 0) (j 1) := by
  rw [pay9_apply, r3_A, r4_A]
  unfold mpre
  refine congrArg₂ _ (congrArg₂ _ (congrArg₂ _ (Finset.sum_congr rfl fun k _ => congrArg₂ _ rfl ?_) rfl) ?_) ?_
  · exact load_w harg7 x5 1 _ inb_S2x1536x1536_S1x1536x1536_1_0_0 rfl k (j 1)
  · exact load_r harg8 x6 1 _ inb_S2x1536_S1x1536_1_0 rfl (j 1)
  · exact load_r harg9 x7 1 _ inb_S2x1536_S1x1536_1_0 rfl (j 1)

theorem mod_A (c : Dev nD) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (x4 : Vec Ideal S6x1536 .bf16) (x5 : Vec Ideal S2x1536x1536 .fp8e4m3) (x6 : Vec Ideal S2x1536 .f32) (x7 : Vec Ideal S2x1536 .f32) : View.PiecesOf (modG x4 x5 x6 x7) (kernelRun0_A.sl.HS0_12 c arg6 harg6 arg7 harg7 arg8 harg8 arg9 harg9 x4 x5 x6 x7) :=
    And.intro (fun x => (modrow_1_5 (kernelRun0_A.sl.r_3 c arg6 harg6 x4) (kernelRun0_A.sl.r_4 c arg6 harg6 x4) (View.readAt (Elt Ideal) arg7.view (Rect.unit (s := S2x1536x1536) ![1, 0, 0] S1x1536x1536.size inb_S2x1536x1536_S1x1536x1536_1_0_0).toLoadRect (harg7.unread x5)) (View.readAt (Elt Ideal) arg8.view (Rect.unit (s := S2x1536) ![1, 0] S1x1536.size inb_S2x1536_S1x1536_1_0).toLoadRect (harg8.unread x6)) (View.readAt (Elt Ideal) arg9.view (Rect.unit (s := S2x1536) ![1, 0] S1x1536.size inb_S2x1536_S1x1536_1_0).toLoadRect (harg9.unread x7)) x).trans (((pay16_eq _ _ _ _ _ _).trans (congrArg _ (part1 c arg6 harg6 arg7 harg7 arg8 harg8 arg9 harg9 x4 x5 x6 x7 (ix2 5 (x 3))))).trans (congrArg (modG x4 x5 x6 x7) (mod_emb 1 5 inb_S2x6x1x1536_S1x1x1x1536_1_5_0_0 x)).symm)) <|
    And.intro (fun x => (modrow_1_4 (kernelRun0_A.sl.r_3 c arg6 harg6 x4) (kernelRun0_A.sl.r_4 c arg6 harg6 x4) (View.readAt (Elt Ideal) arg7.view (Rect.unit (s := S2x1536x1536) ![1, 0, 0] S1x1536x1536.size inb_S2x1536x1536_S1x1536x1536_1_0_0).toLoadRect (harg7.unread x5)) (View.readAt (Elt Ideal) arg8.view (Rect.unit (s := S2x1536) ![1, 0] S1x1536.size inb_S2x1536_S1x1536_1_0).toLoadRect (harg8.unread x6)) (View.readAt (Elt Ideal) arg9.view (Rect.unit (s := S2x1536) ![1, 0] S1x1536.size inb_S2x1536_S1x1536_1_0).toLoadRect (harg9.unread x7)) x).trans (((pay16_eq _ _ _ _ _ _).trans (congrArg _ (part1 c arg6 harg6 arg7 harg7 arg8 harg8 arg9 harg9 x4 x5 x6 x7 (ix2 4 (x 3))))).trans (congrArg (modG x4 x5 x6 x7) (mod_emb 1 4 inb_S2x6x1x1536_S1x1x1x1536_1_4_0_0 x)).symm)) <|
    And.intro (fun x => (modrow_1_3 (kernelRun0_A.sl.r_3 c arg6 harg6 x4) (kernelRun0_A.sl.r_4 c arg6 harg6 x4) (View.readAt (Elt Ideal) arg7.view (Rect.unit (s := S2x1536x1536) ![1, 0, 0] S1x1536x1536.size inb_S2x1536x1536_S1x1536x1536_1_0_0).toLoadRect (harg7.unread x5)) (View.readAt (Elt Ideal) arg8.view (Rect.unit (s := S2x1536) ![1, 0] S1x1536.size inb_S2x1536_S1x1536_1_0).toLoadRect (harg8.unread x6)) (View.readAt (Elt Ideal) arg9.view (Rect.unit (s := S2x1536) ![1, 0] S1x1536.size inb_S2x1536_S1x1536_1_0).toLoadRect (harg9.unread x7)) x).trans (((pay16_eq _ _ _ _ _ _).trans (congrArg _ (part1 c arg6 harg6 arg7 harg7 arg8 harg8 arg9 harg9 x4 x5 x6 x7 (ix2 3 (x 3))))).trans (congrArg (modG x4 x5 x6 x7) (mod_emb 1 3 inb_S2x6x1x1536_S1x1x1x1536_1_3_0_0 x)).symm)) <|
    And.intro (fun x => (modrow_1_2 (kernelRun0_A.sl.r_3 c arg6 harg6 x4) (kernelRun0_A.sl.r_4 c arg6 harg6 x4) (View.readAt (Elt Ideal) arg7.view (Rect.unit (s := S2x1536x1536) ![1, 0, 0] S1x1536x1536.size inb_S2x1536x1536_S1x1536x1536_1_0_0).toLoadRect (harg7.unread x5)) (View.readAt (Elt Ideal) arg8.view (Rect.unit (s := S2x1536) ![1, 0] S1x1536.size inb_S2x1536_S1x1536_1_0).toLoadRect (harg8.unread x6)) (View.readAt (Elt Ideal) arg9.view (Rect.unit (s := S2x1536) ![1, 0] S1x1536.size inb_S2x1536_S1x1536_1_0).toLoadRect (harg9.unread x7)) x).trans (((pay16_eq _ _ _ _ _ _).trans (congrArg _ (part1 c arg6 harg6 arg7 harg7 arg8 harg8 arg9 harg9 x4 x5 x6 x7 (ix2 2 (x 3))))).trans (congrArg (modG x4 x5 x6 x7) (mod_emb 1 2 inb_S2x6x1x1536_S1x1x1x1536_1_2_0_0 x)).symm)) <|
    And.intro (fun x => (modrow_1_1 (kernelRun0_A.sl.r_3 c arg6 harg6 x4) (kernelRun0_A.sl.r_4 c arg6 harg6 x4) (View.readAt (Elt Ideal) arg7.view (Rect.unit (s := S2x1536x1536) ![1, 0, 0] S1x1536x1536.size inb_S2x1536x1536_S1x1536x1536_1_0_0).toLoadRect (harg7.unread x5)) (View.readAt (Elt Ideal) arg8.view (Rect.unit (s := S2x1536) ![1, 0] S1x1536.size inb_S2x1536_S1x1536_1_0).toLoadRect (harg8.unread x6)) (View.readAt (Elt Ideal) arg9.view (Rect.unit (s := S2x1536) ![1, 0] S1x1536.size inb_S2x1536_S1x1536_1_0).toLoadRect (harg9.unread x7)) x).trans (((pay16_eq _ _ _ _ _ _).trans (congrArg _ (part1 c arg6 harg6 arg7 harg7 arg8 harg8 arg9 harg9 x4 x5 x6 x7 (ix2 1 (x 3))))).trans (congrArg (modG x4 x5 x6 x7) (mod_emb 1 1 inb_S2x6x1x1536_S1x1x1x1536_1_1_0_0 x)).symm)) <|
    And.intro (fun x => (modrow_1_0 (kernelRun0_A.sl.r_3 c arg6 harg6 x4) (kernelRun0_A.sl.r_4 c arg6 harg6 x4) (View.readAt (Elt Ideal) arg7.view (Rect.unit (s := S2x1536x1536) ![1, 0, 0] S1x1536x1536.size inb_S2x1536x1536_S1x1536x1536_1_0_0).toLoadRect (harg7.unread x5)) (View.readAt (Elt Ideal) arg8.view (Rect.unit (s := S2x1536) ![1, 0] S1x1536.size inb_S2x1536_S1x1536_1_0).toLoadRect (harg8.unread x6)) (View.readAt (Elt Ideal) arg9.view (Rect.unit (s := S2x1536) ![1, 0] S1x1536.size inb_S2x1536_S1x1536_1_0).toLoadRect (harg9.unread x7)) x).trans (((pay16_eq _ _ _ _ _ _).trans (congrArg _ (part1 c arg6 harg6 arg7 harg7 arg8 harg8 arg9 harg9 x4 x5 x6 x7 (ix2 0 (x 3))))).trans (congrArg (modG x4 x5 x6 x7) (mod_emb 1 0 inb_S2x6x1x1536_S1x1x1x1536_1_0_0_0 x)).symm)) <|
    And.intro (fun x => (modrow_0_5 (kernelRun0_A.sl.r_3 c arg6 harg6 x4) (kernelRun0_A.sl.r_4 c arg6 harg6 x4) (View.readAt (Elt Ideal) arg7.view (Rect.unit (s := S2x1536x1536) ![0, 0, 0] S1x1536x1536.size inb_S2x1536x1536_S1x1536x1536_0_0_0).toLoadRect (harg7.unread x5)) (View.readAt (Elt Ideal) arg8.view (Rect.unit (s := S2x1536) ![0, 0] S1x1536.size inb_S2x1536_S1x1536_0_0).toLoadRect (harg8.unread x6)) (View.readAt (Elt Ideal) arg9.view (Rect.unit (s := S2x1536) ![0, 0] S1x1536.size inb_S2x1536_S1x1536_0_0).toLoadRect (harg9.unread x7)) x).trans ((part0 c arg6 harg6 arg7 harg7 arg8 harg8 arg9 harg9 x4 x5 x6 x7 (ix2 5 (x 3))).trans (congrArg (modG x4 x5 x6 x7) (mod_emb 0 5 inb_S2x6x1x1536_S1x1x1x1536_0_5_0_0 x)).symm)) <|
    And.intro (fun x => (modrow_0_4 (kernelRun0_A.sl.r_3 c arg6 harg6 x4) (kernelRun0_A.sl.r_4 c arg6 harg6 x4) (View.readAt (Elt Ideal) arg7.view (Rect.unit (s := S2x1536x1536) ![0, 0, 0] S1x1536x1536.size inb_S2x1536x1536_S1x1536x1536_0_0_0).toLoadRect (harg7.unread x5)) (View.readAt (Elt Ideal) arg8.view (Rect.unit (s := S2x1536) ![0, 0] S1x1536.size inb_S2x1536_S1x1536_0_0).toLoadRect (harg8.unread x6)) (View.readAt (Elt Ideal) arg9.view (Rect.unit (s := S2x1536) ![0, 0] S1x1536.size inb_S2x1536_S1x1536_0_0).toLoadRect (harg9.unread x7)) x).trans ((part0 c arg6 harg6 arg7 harg7 arg8 harg8 arg9 harg9 x4 x5 x6 x7 (ix2 4 (x 3))).trans (congrArg (modG x4 x5 x6 x7) (mod_emb 0 4 inb_S2x6x1x1536_S1x1x1x1536_0_4_0_0 x)).symm)) <|
    And.intro (fun x => (modrow_0_3 (kernelRun0_A.sl.r_3 c arg6 harg6 x4) (kernelRun0_A.sl.r_4 c arg6 harg6 x4) (View.readAt (Elt Ideal) arg7.view (Rect.unit (s := S2x1536x1536) ![0, 0, 0] S1x1536x1536.size inb_S2x1536x1536_S1x1536x1536_0_0_0).toLoadRect (harg7.unread x5)) (View.readAt (Elt Ideal) arg8.view (Rect.unit (s := S2x1536) ![0, 0] S1x1536.size inb_S2x1536_S1x1536_0_0).toLoadRect (harg8.unread x6)) (View.readAt (Elt Ideal) arg9.view (Rect.unit (s := S2x1536) ![0, 0] S1x1536.size inb_S2x1536_S1x1536_0_0).toLoadRect (harg9.unread x7)) x).trans ((part0 c arg6 harg6 arg7 harg7 arg8 harg8 arg9 harg9 x4 x5 x6 x7 (ix2 3 (x 3))).trans (congrArg (modG x4 x5 x6 x7) (mod_emb 0 3 inb_S2x6x1x1536_S1x1x1x1536_0_3_0_0 x)).symm)) <|
    And.intro (fun x => (modrow_0_2 (kernelRun0_A.sl.r_3 c arg6 harg6 x4) (kernelRun0_A.sl.r_4 c arg6 harg6 x4) (View.readAt (Elt Ideal) arg7.view (Rect.unit (s := S2x1536x1536) ![0, 0, 0] S1x1536x1536.size inb_S2x1536x1536_S1x1536x1536_0_0_0).toLoadRect (harg7.unread x5)) (View.readAt (Elt Ideal) arg8.view (Rect.unit (s := S2x1536) ![0, 0] S1x1536.size inb_S2x1536_S1x1536_0_0).toLoadRect (harg8.unread x6)) (View.readAt (Elt Ideal) arg9.view (Rect.unit (s := S2x1536) ![0, 0] S1x1536.size inb_S2x1536_S1x1536_0_0).toLoadRect (harg9.unread x7)) x).trans ((part0 c arg6 harg6 arg7 harg7 arg8 harg8 arg9 harg9 x4 x5 x6 x7 (ix2 2 (x 3))).trans (congrArg (modG x4 x5 x6 x7) (mod_emb 0 2 inb_S2x6x1x1536_S1x1x1x1536_0_2_0_0 x)).symm)) <|
    And.intro (fun x => (modrow_0_1 (kernelRun0_A.sl.r_3 c arg6 harg6 x4) (kernelRun0_A.sl.r_4 c arg6 harg6 x4) (View.readAt (Elt Ideal) arg7.view (Rect.unit (s := S2x1536x1536) ![0, 0, 0] S1x1536x1536.size inb_S2x1536x1536_S1x1536x1536_0_0_0).toLoadRect (harg7.unread x5)) (View.readAt (Elt Ideal) arg8.view (Rect.unit (s := S2x1536) ![0, 0] S1x1536.size inb_S2x1536_S1x1536_0_0).toLoadRect (harg8.unread x6)) (View.readAt (Elt Ideal) arg9.view (Rect.unit (s := S2x1536) ![0, 0] S1x1536.size inb_S2x1536_S1x1536_0_0).toLoadRect (harg9.unread x7)) x).trans ((part0 c arg6 harg6 arg7 harg7 arg8 harg8 arg9 harg9 x4 x5 x6 x7 (ix2 1 (x 3))).trans (congrArg (modG x4 x5 x6 x7) (mod_emb 0 1 inb_S2x6x1x1536_S1x1x1x1536_0_1_0_0 x)).symm)) <|
    And.intro (fun x => (modrow_0_0 (kernelRun0_A.sl.r_3 c arg6 harg6 x4) (kernelRun0_A.sl.r_4 c arg6 harg6 x4) (View.readAt (Elt Ideal) arg7.view (Rect.unit (s := S2x1536x1536) ![0, 0, 0] S1x1536x1536.size inb_S2x1536x1536_S1x1536x1536_0_0_0).toLoadRect (harg7.unread x5)) (View.readAt (Elt Ideal) arg8.view (Rect.unit (s := S2x1536) ![0, 0] S1x1536.size inb_S2x1536_S1x1536_0_0).toLoadRect (harg8.unread x6)) (View.readAt (Elt Ideal) arg9.view (Rect.unit (s := S2x1536) ![0, 0] S1x1536.size inb_S2x1536_S1x1536_0_0).toLoadRect (harg9.unread x7)) x).trans ((part0 c arg6 harg6 arg7 harg7 arg8 harg8 arg9 harg9 x4 x5 x6 x7 (ix2 0 (x 3))).trans (congrArg (modG x4 x5 x6 x7) (mod_emb 0 0 inb_S2x6x1x1536_S1x1x1x1536_0_0_0_0 x)).symm)) <|
    trivial

theorem sout0_A_0_eq (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec Ideal S3 .f32) (x1 : Vec Ideal S3 .f32) (x2 : Vec Ideal S3 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (x8 : Vec Ideal S64x1536 .fp8e4m3) (x9 : Vec Ideal S64x1 .f32) (x10 : Vec Ideal S64x1 .f32) (x11 : Vec Ideal S1x16x16x128 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = modG x4 x5 x6 x7 := by
  funext y
  have hp : View.PiecesOf (modG x4 x5 x6 x7) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.2.2.2.1 := mod_A c arg6 harg6 arg7 harg7 arg8 harg8 arg9 harg9 x4 x5 x6 x7
  unfold sout0_A_0
  rw [View.read_writes_junk_eq_canon]
  exact canon_pieces _ _ hp y (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 y)

theorem out0_A_14_eq (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec Ideal S3 .f32) (x1 : Vec Ideal S3 .f32) (x2 : Vec Ideal S3 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (x8 : Vec Ideal S64x1536 .fp8e4m3) (x9 : Vec Ideal S64x1 .f32) (x10 : Vec Ideal S64x1 .f32) (x11 : Vec Ideal S1x16x16x128 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = ccG x4 := by
  funext y
  have hp : View.PiecesOf (ccG x4) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.1 := And.intro (fun x => (congrFun (r4_A c arg6 harg6 x4) x).trans (congrArg (ccG x4) (whole2 _ inb_S6x1536_S6x1536_0_0 x).symm)) trivial
  unfold out0_A_14
  rw [View.read_writes_junk_eq_canon]
  exact canon_pieces _ _ hp y (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 y)

theorem out0_A_15_eq (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec Ideal S3 .f32) (x1 : Vec Ideal S3 .f32) (x2 : Vec Ideal S3 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (x8 : Vec Ideal S64x1536 .fp8e4m3) (x9 : Vec Ideal S64x1 .f32) (x10 : Vec Ideal S64x1 .f32) (x11 : Vec Ideal S1x16x16x128 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = csG x4 := by
  funext y
  have hp : View.PiecesOf (csG x4) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11).2.2.2.1 := And.intro (fun x => (congrFun (r3_A c arg6 harg6 x4) x).trans (congrArg (csG x4) (whole2 _ inb_S6x1_S6x1_0_0 x).symm)) trivial
  unfold out0_A_15
  rw [View.read_writes_junk_eq_canon]
  exact canon_pieces _ _ hp y (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 y)

theorem canon_A (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec Ideal S3 .f32) (x1 : Vec Ideal S3 .f32) (x2 : Vec Ideal S3 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (x8 : Vec Ideal S64x1536 .fp8e4m3) (x9 : Vec Ideal S64x1 .f32) (x10 : Vec Ideal S64x1 .f32) (x11 : Vec Ideal S1x16x16x128 .f32) :
    View.canon (kernelRun0_A.sl.HS0_12 c arg6 harg6 arg7 harg7 arg8 harg8 arg9 harg9 x4 x5 x6 x7) = modG x4 x5 x6 x7 := by
  have h := sout0_A_0_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11
  unfold sout0_A_0 at h
  rw [View.read_writes_junk_eq_canon] at h
  exact h

theorem out0_A_12_mod (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec Ideal S3 .f32) (x1 : Vec Ideal S3 .f32) (x2 : Vec Ideal S3 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (x8 : Vec Ideal S64x1536 .fp8e4m3) (x9 : Vec Ideal S64x1 .f32) (x10 : Vec Ideal S64x1 .f32) (x11 : Vec Ideal S1x16x16x128 .f32) (y : S1x16x16x128.Idx) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 y = lnG (velM (hrowM (modG x4 x5 x6 x7) (i 0) x3) x8 x9 x10 (x0 (ix1 (i 0)))) (x2 (ix1 (i 0))) (x1 (ix1 (i 0))) x11 y := by
  rw [out0_A_12_eq, canon_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11]

theorem out0_A_13_mod (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec Ideal S3 .f32) (x1 : Vec Ideal S3 .f32) (x2 : Vec Ideal S3 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (x8 : Vec Ideal S64x1536 .fp8e4m3) (x9 : Vec Ideal S64x1 .f32) (x10 : Vec Ideal S64x1 .f32) (x11 : Vec Ideal S1x16x16x128 .f32) (y : S1x16x16x128.Idx) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 y = voG (velM (hrowM (modG x4 x5 x6 x7) (i 0) x3) x8 x9 x10 (x0 (ix1 (i 0)))) y := by
  rw [out0_A_13_eq, canon_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11]

theorem out0_A_16_mod (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec Ideal S3 .f32) (x1 : Vec Ideal S3 .f32) (x2 : Vec Ideal S3 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (x8 : Vec Ideal S64x1536 .fp8e4m3) (x9 : Vec Ideal S64x1 .f32) (x10 : Vec Ideal S64x1 .f32) (x11 : Vec Ideal S1x16x16x128 .f32) (y : S2x1x512x1536.Idx) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 y = xcM (hrowM (modG x4 x5 x6 x7) (i 0) x3) y := by
  rw [out0_A_16_eq, canon_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11]

theorem out0_A_17_mod (c : Dev nD) (i : grid0.Coords) (arg2 : Memref sig .tc .smem S3 .f32) (harg2 : arg2.IsWhole) (arg3 : Memref sig .tc .smem S3 .f32) (harg3 : arg3.IsWhole) (arg4 : Memref sig .tc .smem S3 .f32) (harg4 : arg4.IsWhole) (arg5 : Memref sig .tc .vmem S2x1x512x1536 .bf16) (harg5 : arg5.IsWhole) (arg6 : Memref sig .tc .vmem S6x1536 .bf16) (harg6 : arg6.IsWhole) (arg7 : Memref sig .tc .vmem S2x1536x1536 .fp8e4m3) (harg7 : arg7.IsWhole) (arg8 : Memref sig .tc .vmem S2x1536 .f32) (harg8 : arg8.IsWhole) (arg9 : Memref sig .tc .vmem S2x1536 .f32) (harg9 : arg9.IsWhole) (arg10 : Memref sig .tc .vmem S64x1536 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x16x16x128 .f32) (harg13 : arg13.IsWhole) (arg14 : Memref sig .tc .vmem S1x16x16x128 .f32) (harg14 : arg14.IsWhole) (arg15 : Memref sig .tc .vmem S1x16x16x128 .bf16) (harg15 : arg15.IsWhole) (arg16 : Memref sig .tc .vmem S6x1536 .fp8e4m3) (harg16 : arg16.IsWhole) (arg17 : Memref sig .tc .vmem S6x1 .f32) (harg17 : arg17.IsWhole) (arg18 : Memref sig .tc .vmem S2x1x512x1536 .fp8e4m3) (harg18 : arg18.IsWhole) (arg19 : Memref sig .tc .vmem S2x1x1x512 .f32) (harg19 : arg19.IsWhole) (arg20 : Memref sig .tc .vmem S2x6x1x1536 .f32) (harg20 : arg20.IsWhole) (arg21 : Memref sig .tc .vmem S272x128 .f32) (harg21 : arg21.IsWhole) (hc0 : cond0_0 i)
    (x0 : Vec Ideal S3 .f32) (x1 : Vec Ideal S3 .f32) (x2 : Vec Ideal S3 .f32) (x3 : Vec Ideal S2x1x512x1536 .bf16) (x4 : Vec Ideal S6x1536 .bf16) (x5 : Vec Ideal S2x1536x1536 .fp8e4m3) (x6 : Vec Ideal S2x1536 .f32) (x7 : Vec Ideal S2x1536 .f32) (x8 : Vec Ideal S64x1536 .fp8e4m3) (x9 : Vec Ideal S64x1 .f32) (x10 : Vec Ideal S64x1 .f32) (x11 : Vec Ideal S1x16x16x128 .f32) (y : S2x1x1x512.Idx) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 y = xsM (hrowM (modG x4 x5 x6 x7) (i 0) x3) (y 0) (y 3) := by
  rw [out0_A_17_eq, canon_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11]

end Cert.KernelIdeal.Gen

end
-- ==== Proof.Forms.lean ====
/- What the six results are, written over the argument arrays: the common form that the kernel's and the reference's arrays are
   each shown to have. -/
module

public import proofs.«01_k».proof.Proof.Model

@[expose] public section

noncomputable section

namespace Forms

open Idealize.ShloMosaic

/-- Values on the index set of a shape. -/
abbrev Arr {n : Nat} (d : Fin n → Nat) := (⟨n, d⟩ : Shape).Idx → EReal

/-- A row of the conditioning vector through silu. -/
def crow (C : Arr ![6, 1536]) (r : Fin 6) (k : Fin 1536) : EReal :=
  C (ix2 r k) * FloatOps.logistic (F := Ideal) (φ := .f32) (C (ix2 r k))

def cc (C : Arr ![6, 1536]) (y : (⟨2, ![6, 1536]⟩ : Shape).Idx) : EReal := Quant.code (crow C (y 0)) (y 1)

def cs (C : Arr ![6, 1536]) (y : (⟨2, ![6, 1]⟩ : Shape).Idx) : EReal := Quant.kScale (Quant.amax (crow C (y 0)))

/-- Part `p` of the modulation, row `r`, lane `n`. -/
def pre (C : Arr ![6, 1536]) (W : Arr ![1536, 2, 1536]) (S B : Arr ![2, 1536]) (p : Fin 2) (r : Fin 6) (n : Fin 1536) : EReal :=
  (∑ k : Fin 1536, Quant.code (crow C r) k * W (ix3 k p n)) * Quant.kScale (Quant.amax (crow C r)) * S (ix2 p n) + B (ix2 p n)

/-- A token's row, normalised and modulated. -/
def row (X : Arr ![6, 4608, 1536]) (C : Arr ![6, 1536]) (W : Arr ![1536, 2, 1536]) (S B : Arr ![2, 1536]) (r : Fin 6) (p : Fin 4608) : Fin 1536 → EReal :=
  Quant.hval (fun k => pre C W S B 0 r k) (fun k => Ideal.ofBits .f32 1065353216#32 + pre C W S B 1 r k) (fun k => X (ix3 r p k))

def xc (R : Fin 6 → Fin 4608 → Fin 1536 → EReal) (y : (⟨4, ![2, 3, 4608, 1536]⟩ : Shape).Idx) : EReal :=
  Quant.code (R ⟨3 * (y 0).val + (y 1).val, by have : (y 0).val < 2 := (y 0).isLt; have : (y 1).val < 3 := (y 1).isLt; omega⟩ (y 2)) (y 3)

def xs (R : Fin 6 → Fin 4608 → Fin 1536 → EReal) (y : (⟨4, ![2, 3, 1, 4608]⟩ : Shape).Idx) : EReal :=
  Quant.kScale (Quant.amax (R ⟨3 * (y 0).val + (y 1).val, by have : (y 0).val < 2 := (y 0).isLt; have : (y 1).val < 3 := (y 1).isLt; omega⟩ (y 3)))

/-- A token's projection onto channel `c`. -/
def lin (R : Fin 6 → Fin 4608 → Fin 1536 → EReal) (P : Arr ![1536, 64]) (ws bo : Arr ![64]) (r : Fin 6) (c : Fin 64) (p : Fin 4608) : EReal :=
  (∑ k : Fin 1536, P (ix2 k c) * Quant.code (R r p) k) * Quant.kScale (Quant.amax (R r p)) * ws (ix1 c) + bo (ix1 c)

/-- The guided velocity of token `p` of batch `b` in channel `c`. -/
def vel (R : Fin 6 → Fin 4608 → Fin 1536 → EReal) (P : Arr ![1536, 64]) (ws bo : Arr ![64]) (g : Arr ![3]) (b : Fin 3) (c : Fin 64) (p : Fin 4608) : EReal :=
  lin R P ws bo ⟨3 + b.val, by omega⟩ c p + g (ix1 b) * (lin R P ws bo ⟨b.val, by omega⟩ c p - lin R P ws bo ⟨3 + b.val, by omega⟩ c p)

/-- The velocity image: row `2·gh + pi`, column `2·gw + pj` of channel `ch` is channel `32·pi + 16·pj + ch` of token `64·gh + gw`. -/
def vo (v : Fin 3 → Fin 64 → Fin 4608 → EReal) (y : (⟨4, ![3, 16, 144, 128]⟩ : Shape).Idx) : EReal :=
  v (y 0) ⟨32 * ((y 2).val % 2) + 16 * ((y 3).val % 2) + (y 1).val, by have : (y 1).val < 16 := (y 1).isLt; omega⟩
    ⟨64 * ((y 2).val / 2) + (y 3).val / 2, by have : (y 2).val < 144 := (y 2).isLt; have : (y 3).val < 128 := (y 3).isLt; omega⟩

/-- The latent one step on. -/
def ln (v : Fin 3 → Fin 64 → Fin 4608 → EReal) (t tn : Arr ![3]) (lat : Arr ![3, 16, 144, 128]) (y : (⟨4, ![3, 16, 144, 128]⟩ : Shape).Idx) : EReal :=
  lat y + (tn (ix1 (y 0)) - t (ix1 (y 0))) * vo v y

end Forms

end
-- ==== Proof.KBlk.lean ====
/- The blocks the kernel reads are the argument arrays' elements. -/
module

public import proofs.«01_k».proof.Proof.KMod
public import proofs.«01_k».proof.Proof.Forms

@[expose] public section

set_option maxRecDepth 16384

noncomputable section

namespace Cert.KernelIdeal.Gen

open Idealize.ShloMosaic Idealize.ShloMosaic.TcCoe Idealize.ShloMosaic.Tactic

variable (m : (ℓ : Loc nD τ sig) → Buf (Elt Ideal) ℓ) (c : Dev nD)

/-! ## The blocks are the argument arrays' -/

theorem idxs : ∀ t : Fin cfg0.N, win0_0.index t = ![0] ∧ win0_1.index t = ![0] ∧ win0_2.index t = ![0]
    ∧ win0_3.index t = ![0, t.val / 9, t.val % 9, 0] ∧ win0_4.index t = ![0, 0] ∧ win0_5.index t = ![0, 0, 0]
    ∧ win0_6.index t = ![0, 0] ∧ win0_7.index t = ![0, 0] ∧ win0_8.index t = ![0, 0] ∧ win0_9.index t = ![0, 0] ∧ win0_10.index t = ![0, 0]
    ∧ win0_11.index t = ![t.val / 9, 0, t.val % 9, 0] ∧ win0_12.index t = ![t.val / 9, 0, t.val % 9, 0] ∧ win0_13.index t = ![t.val / 9, 0, t.val % 9, 0]
    ∧ win0_14.index t = ![0, 0] ∧ win0_15.index t = ![0, 0] ∧ win0_16.index t = ![0, t.val / 9, t.val % 9, 0] ∧ win0_17.index t = ![0, t.val / 9, 0, t.val % 9] :=
  (by decide +kernel : ∀ t : Fin grid0.N, _)

abbrev aX : Forms.Arr ![6, 4608, 1536] := m ((c : Thread nD τ).loc main_arg0)
abbrev aC : Forms.Arr ![6, 1536] := m ((c : Thread nD τ).loc main_arg1)
abbrev aW : Forms.Arr ![1536, 2, 1536] := m ((c : Thread nD τ).loc main_arg2)
abbrev aS : Forms.Arr ![2, 1536] := m ((c : Thread nD τ).loc main_arg3)
abbrev aB : Forms.Arr ![2, 1536] := m ((c : Thread nD τ).loc main_arg4)
abbrev aP : Forms.Arr ![1536, 64] := m ((c : Thread nD τ).loc main_arg5)
abbrev aws : Forms.Arr ![64] := m ((c : Thread nD τ).loc main_arg6)
abbrev abo : Forms.Arr ![64] := m ((c : Thread nD τ).loc main_arg7)
abbrev ag : Forms.Arr ![3] := m ((c : Thread nD τ).loc main_arg8)
abbrev at0 : Forms.Arr ![3] := m ((c : Thread nD τ).loc main_arg9)
abbrev atn : Forms.Arr ![3] := m ((c : Thread nD τ).loc main_arg10)
abbrev alat : Forms.Arr ![3, 16, 144, 128] := m ((c : Thread nD τ).loc main_arg11)

theorem ib0 (t : Fin cfg0.N) (b : Fin 3) : (iblk m c 0 t : Vec Ideal S3 .f32) (ix1 b) = ag m c (ix1 b) := by
  blk_ext! [iblk, V, idxs t]
theorem ib1 (t : Fin cfg0.N) (b : Fin 3) : (iblk m c 1 t : Vec Ideal S3 .f32) (ix1 b) = at0 m c (ix1 b) := by
  blk_ext! [iblk, V, idxs t]
theorem ib2 (t : Fin cfg0.N) (b : Fin 3) : (iblk m c 2 t : Vec Ideal S3 .f32) (ix1 b) = atn m c (ix1 b) := by
  blk_ext! [iblk, V, idxs t]
theorem ib3 (t : Fin cfg0.N) (h : Fin 2) (p : Fin 512) (k : Fin 1536) :
    (iblk m c 3 t : Vec Ideal S2x1x512x1536 .bf16) (ix4 h 0 p k)
      = aX m c (ix3 ⟨3 * h.val + t.val / 9, by have : t.val < 27 := t.isLt; omega⟩ ⟨512 * (t.val % 9) + p.val, by omega⟩ k) := by
  blk_ext! [iblk, V, idxs t]
theorem ib4 (t : Fin cfg0.N) (r : Fin 6) (k : Fin 1536) : (iblk m c 4 t : Vec Ideal S6x1536 .bf16) (ix2 r k) = aC m c (ix2 r k) := by
  blk_ext! [iblk, V, idxs t]
theorem ib5 (t : Fin cfg0.N) (p : Fin 2) (k n : Fin 1536) : (iblk m c 5 t : Vec Ideal S2x1536x1536 .fp8e4m3) (ix3 p k n) = aW m c (ix3 k p n) := by
  blk_ext! [iblk, V, idxs t]
theorem ib6 (t : Fin cfg0.N) (r : Fin 2) (k : Fin 1536) : (iblk m c 6 t : Vec Ideal S2x1536 .f32) (ix2 r k) = aS m c (ix2 r k) := by
  blk_ext! [iblk, V, idxs t]
theorem ib7 (t : Fin cfg0.N) (r : Fin 2) (k : Fin 1536) : (iblk m c 7 t : Vec Ideal S2x1536 .f32) (ix2 r k) = aB m c (ix2 r k) := by
  blk_ext! [iblk, V, idxs t]
theorem ib8 (t : Fin cfg0.N) (r : Fin 64) (k : Fin 1536) : (iblk m c 8 t : Vec Ideal S64x1536 .fp8e4m3) (ix2 r k) = aP m c (ix2 k r) := by
  blk_ext! [iblk, V, idxs t]
theorem ib9 (t : Fin cfg0.N) (r : Fin 64) : (iblk m c 9 t : Vec Ideal S64x1 .f32) (ix2 r 0) = aws m c (ix1 r) := by
  blk_ext! [iblk, V, idxs t]
theorem ib10 (t : Fin cfg0.N) (r : Fin 64) : (iblk m c 10 t : Vec Ideal S64x1 .f32) (ix2 r 0) = abo m c (ix1 r) := by
  blk_ext! [iblk, V, idxs t]
theorem ib11 (t : Fin cfg0.N) (ch r : Fin 16) (l : Fin 128) :
    (iblk m c 11 t : Vec Ideal S1x16x16x128 .f32) (ix4 0 ch r l)
      = alat m c (ix4 ⟨t.val / 9, by have : t.val < 27 := t.isLt; omega⟩ ch ⟨16 * (t.val % 9) + r.val, by omega⟩ l) := by
  blk_ext! [iblk, V, idxs t]

end Cert.KernelIdeal.Gen

end
-- ==== Proof.KVal.lean ====
/- The kernel's six result arrays over the extended reals, in the common form of `Forms`. -/
module

public import proofs.«01_k».proof.Proof.KBlk

@[expose] public section

set_option maxRecDepth 16384

noncomputable section

namespace Cert.KernelIdeal.Gen

open Idealize.ShloMosaic Idealize.ShloMosaic.TcCoe Idealize.ShloMosaic.Tactic

variable (m : (ℓ : Loc nD τ sig) → Buf (Elt Ideal) ℓ) (c : Dev nD)

/-! ## What the points carry -/

/-- The modulation rows over the argument arrays. -/
def MOD (y : S2x6x1x1536.Idx) : EReal :=
  if (y 0).val = 0 then Forms.pre (aC m c) (aW m c) (aS m c) (aB m c) 0 (y 1) (y 3)
  else Ideal.ofBits .f32 1065353216#32 + Forms.pre (aC m c) (aW m c) (aS m c) (aB m c) 1 (y 1) (y 3)

theorem crow_blk (t : Fin cfg0.N) (r : Fin 6) : crow (iblk m c 4 t) r = Forms.crow (aC m c) r :=
  funext fun k => by
    unfold crow Forms.crow
    rw [ib4]

theorem mpre_blk (t : Fin cfg0.N) (p : Fin 2) (r : Fin 6) (n : Fin 1536) :
    mpre (iblk m c 4 t) (iblk m c 5 t) (iblk m c 6 t) (iblk m c 7 t) p r n = Forms.pre (aC m c) (aW m c) (aS m c) (aB m c) p r n := by
  unfold mpre Forms.pre
  simp only [crow_blk, ib5, ib6, ib7]

theorem modG_blk (t : Fin cfg0.N) : modG (iblk m c 4 t) (iblk m c 5 t) (iblk m c 6 t) (iblk m c 7 t) = MOD m c :=
  funext fun y => by
    exact congrArg₂ (fun a b => if (y 0).val = 0 then a else Ideal.ofBits .f32 1065353216#32 + b) (mpre_blk m c t 0 (y 1) (y 3)) (mpre_blk m c t 1 (y 1) (y 3))

theorem state_mod : ∀ (n : Nat) (hn : n < cfg0.N), (outsAt0 m c n hn).2.2.2.2.2.2 = MOD m c
  | n, hn => by
    by_cases h0 : n % 27 = 0
    · rw [outsAt0_A m c ⟨n, hn⟩ h0]
      dsimp only
      rw [sout0_A_0_eq]
      exact modG_blk m c ⟨n, hn⟩
    · rw [outsAt0_B m c ⟨n, hn⟩ h0]
      have hlt : n - 1 < n := by
        rcases n with _ | n
        · exact absurd (Nat.zero_mod _) h0
        · omega
      dsimp only
      unfold sout0_B_0
      exact state_mod (n - 1) _
termination_by n => n

theorem state_cc : ∀ (n : Nat) (hn : n < cfg0.N), (outsAt0 m c n hn).2.2.1 = Forms.cc (aC m c)
  | n, hn => by
    by_cases h0 : n % 27 = 0
    · rw [outsAt0_A m c ⟨n, hn⟩ h0]
      dsimp only
      rw [out0_A_14_eq]
      funext y
      exact congrArg (fun z => Quant.code z (y 1)) (crow_blk m c ⟨n, hn⟩ (y 0))
    · rw [outsAt0_B m c ⟨n, hn⟩ h0]
      have hlt : n - 1 < n := by
        rcases n with _ | n
        · exact absurd (Nat.zero_mod _) h0
        · omega
      dsimp only
      unfold out0_B_14
      exact state_cc (n - 1) _
termination_by n => n

theorem state_cs : ∀ (n : Nat) (hn : n < cfg0.N), (outsAt0 m c n hn).2.2.2.1 = Forms.cs (aC m c)
  | n, hn => by
    by_cases h0 : n % 27 = 0
    · rw [outsAt0_A m c ⟨n, hn⟩ h0]
      dsimp only
      rw [out0_A_15_eq]
      funext y
      exact congrArg (fun z => Quant.kScale (Quant.amax z)) (crow_blk m c ⟨n, hn⟩ (y 0))
    · rw [outsAt0_B m c ⟨n, hn⟩ h0]
      have hlt : n - 1 < n := by
        rcases n with _ | n
        · exact absurd (Nat.zero_mod _) h0
        · omega
      dsimp only
      unfold out0_B_15
      exact state_cs (n - 1) _
termination_by n => n

/-! ## What a point stores -/

/-- The batch of a point. -/
def bt (t : Fin cfg0.N) : Fin 3 := ⟨t.val / 9, by have : t.val < 27 := t.isLt; omega⟩

theorem bt_eq (t : Fin cfg0.N) : (grid0.coords t 0 : Fin 3) = bt t := by
  have h : (grid0.coords t 0).val = t.val / 9 % 3 := Pipeline.Grid.coords_val t 0 (by decide) rfl
  refine Fin.ext (h.trans ?_)
  have : t.val < 27 := t.isLt
  show t.val / 9 % 3 = t.val / 9
  omega

/-- The point's rows. -/
abbrev HR (t : Fin cfg0.N) : Fin 2 → Fin 512 → Fin 1536 → EReal := hrowM (MOD m c) (bt t) (iblk m c 3 t)

/-- The point's velocities. -/
abbrev VM (t : Fin cfg0.N) : S64x512.Idx → EReal := velM (HR m c t) (iblk m c 8 t) (iblk m c 9 t) (iblk m c 10 t) ((iblk m c 0 t : Vec Ideal S3 .f32) (ix1 (bt t)))

theorem point12 (t : Fin cfg0.N) (y : S1x16x16x128.Idx) : (outsAt0 m c t.val t.isLt).1 y
    = lnG (VM m c t) ((iblk m c 2 t : Vec Ideal S3 .f32) (ix1 (bt t))) ((iblk m c 1 t : Vec Ideal S3 .f32) (ix1 (bt t))) (iblk m c 11 t) y := by
  by_cases h0 : t.val % 27 = 0
  · rw [outsAt0_A m c t h0]
    dsimp only
    rw [out0_A_12_mod, modG_blk m c t, bt_eq t]
  · rw [outsAt0_B m c t h0]
    dsimp only
    rw [out0_B_12_eq, state_mod, bt_eq t]

theorem point13 (t : Fin cfg0.N) (y : S1x16x16x128.Idx) : (outsAt0 m c t.val t.isLt).2.1 y = voG (VM m c t) y := by
  by_cases h0 : t.val % 27 = 0
  · rw [outsAt0_A m c t h0]
    dsimp only
    rw [out0_A_13_mod, modG_blk m c t, bt_eq t]
  · rw [outsAt0_B m c t h0]
    dsimp only
    rw [out0_B_13_eq, state_mod, bt_eq t]

theorem point16 (t : Fin cfg0.N) (y : S2x1x512x1536.Idx) : (outsAt0 m c t.val t.isLt).2.2.2.2.1 y = xcM (HR m c t) y := by
  by_cases h0 : t.val % 27 = 0
  · rw [outsAt0_A m c t h0]
    dsimp only
    rw [out0_A_16_mod, modG_blk m c t, bt_eq t]
  · rw [outsAt0_B m c t h0]
    dsimp only
    rw [out0_B_16_eq, state_mod, bt_eq t]

theorem point17 (t : Fin cfg0.N) (y : S2x1x1x512.Idx) : (outsAt0 m c t.val t.isLt).2.2.2.2.2.1 y = xsM (HR m c t) (y 0) (y 3) := by
  by_cases h0 : t.val % 27 = 0
  · rw [outsAt0_A m c t h0]
    dsimp only
    rw [out0_A_17_mod, modG_blk m c t, bt_eq t]
  · rw [outsAt0_B m c t h0]
    dsimp only
    rw [out0_B_17_eq, state_mod, bt_eq t]

/-! ## Points against arrays -/

/-- The rows over the argument arrays. -/
abbrev RW := Forms.row (aX m c) (aC m c) (aW m c) (aS m c) (aB m c)

theorem HR_eq (t : Fin cfg0.N) (h : Fin 2) (p : Fin 512) (r : Fin 6) (q : Fin 4608) (hr : r.val = 3 * h.val + t.val / 9) (hq : q.val = 512 * (t.val % 9) + p.val) :
    HR m c t h p = RW m c r q := by
  have e : r = ⟨3 * h.val + t.val / 9, by omega⟩ := Fin.ext hr
  have e' : q = ⟨512 * (t.val % 9) + p.val, by omega⟩ := Fin.ext hq
  rw [e, e']
  show hrowM (MOD m c) (bt t) (iblk m c 3 t) h p = Forms.row _ _ _ _ _ _ _
  unfold hrowM Forms.row
  simp only [ib3]
  rfl

theorem VM_eq (t : Fin cfg0.N) (a : Fin 64) (p : Fin 512) (q : Fin 4608) (hq : q.val = 512 * (t.val % 9) + p.val) :
    VM m c t (ix2 a p) = Forms.vel (RW m c) (aP m c) (aws m c) (abo m c) (ag m c) (bt t) a q := by
  have h0 := HR_eq m c t 0 p ⟨(bt t).val, by omega⟩ q (by show t.val / 9 = 3 * 0 + t.val / 9; omega) hq
  have h1 := HR_eq m c t 1 p ⟨3 + (bt t).val, by omega⟩ q (by show 3 + t.val / 9 = 3 * 1 + t.val / 9; omega) hq
  show linM (HR m c t) _ _ _ 1 a p + _ * (linM (HR m c t) _ _ _ 0 a p - linM (HR m c t) _ _ _ 1 a p) = _
  unfold linM xsM Forms.vel Forms.lin
  simp only [h0, h1, ib0, ib8, ib9, ib10]

/-- The last grid point. -/
def tLast : Fin cfg0.N := ⟨26, by decide +kernel⟩

theorem final14 : (dats m 0 c).arrAt 14 cfg0.N = Forms.cc (aC m c) := by
  refine (dats m 0 c).arrAt_eq_of_after_last 14 tLast (by decide +kernel) _ fun j => ?_
  blk_simp
  rw [after0_14, state_cc]

theorem final15 : (dats m 0 c).arrAt 15 cfg0.N = Forms.cs (aC m c) := by
  refine (dats m 0 c).arrAt_eq_of_after_last 15 tLast (by decide +kernel) _ fun j => ?_
  blk_simp
  rw [after0_15, state_cs]

theorem final16 : (dats m 0 c).arrAt 16 cfg0.N = Forms.xc (RW m c) := by
  refine (dats m 0 c).arrAt_eq_of_covers 16 _ (by decide +kernel) fun t hf y => ?_
  blk_simp
  rw [after0_16, point16]
  have e0 : ((((cfg0.win 16).blk t).view.emb y) 0).val = (y 0).val := by blk_simp [idxs t]
  have e1 : ((((cfg0.win 16).blk t).view.emb y) 1).val = t.val / 9 := by
    have : (y 1).val < 1 := (y 1).isLt
    blk_simp [idxs t]
  have e2 : ((((cfg0.win 16).blk t).view.emb y) 2).val = 512 * (t.val % 9) + (y 2).val := by blk_simp [idxs t]; omega
  have e3 : ((((cfg0.win 16).blk t).view.emb y) 3).val = (y 3).val := by blk_simp [idxs t]
  exact congr (congrArg Quant.code (HR_eq m c t (y 0) (y 2) _ _ (congrArg₂ (fun a b => 3 * a + b) e0 e1) e2)) (Fin.ext e3.symm)

theorem final17 : (dats m 0 c).arrAt 17 cfg0.N = Forms.xs (RW m c) := by
  refine (dats m 0 c).arrAt_eq_of_covers 17 _ (by decide +kernel) fun t hf y => ?_
  blk_simp
  rw [after0_17, point17]
  have e0 : ((((cfg0.win 17).blk t).view.emb y) 0).val = (y 0).val := by blk_simp [idxs t]
  have e1 : ((((cfg0.win 17).blk t).view.emb y) 1).val = t.val / 9 := by
    have : (y 1).val < 1 := (y 1).isLt
    blk_simp [idxs t]
  have e3 : ((((cfg0.win 17).blk t).view.emb y) 3).val = 512 * (t.val % 9) + (y 3).val := by blk_simp [idxs t]; omega
  exact congrArg (fun z => Quant.kScale (Quant.amax z)) (HR_eq m c t (y 0) (y 3) _ _ (congrArg₂ (fun a b => 3 * a + b) e0 e1) e3)

/-- The velocity image over the argument arrays. -/
abbrev VEL := Forms.vel (RW m c) (aP m c) (aws m c) (abo m c) (ag m c)

theorem vo_blk (t : Fin cfg0.N) (y : S1x16x16x128.Idx) (z : S3x16x144x128.Idx) (h0 : (z 0).val = t.val / 9) (h1 : (z 1).val = (y 1).val)
    (h2 : (z 2).val = 16 * (t.val % 9) + (y 2).val) (h3 : (z 3).val = (y 3).val) :
    voG (VM m c t) y = Forms.vo (VEL m c) z := by
  have b1 : (y 1).val < 16 := (y 1).isLt
  have b2 : (y 2).val < 16 := (y 2).isLt
  have b3 : (y 3).val < 128 := (y 3).isLt
  have c2 : (z 2).val < 144 := (z 2).isLt
  have c3 : (z 3).val < 128 := (z 3).isLt
  unfold voG Forms.vo
  refine (VM_eq m c t _ _ ⟨64 * ((z 2).val / 2) + (z 3).val / 2, by omega⟩ ?_).trans ?_
  · show 64 * ((z 2).val / 2) + (z 3).val / 2 = 512 * (t.val % 9) + (128 * ((y 2).val / 4) + 64 * ((y 2).val / 2 % 2) + (y 3).val / 2)
    rw [h2, h3]; omega
  · have e0 : bt t = z 0 := Fin.ext h0.symm
    refine congrFun (congr (congrArg (VEL m c) e0) (Fin.ext ?_)) _
    show 32 * ((y 2).val % 2) + 16 * ((y 3).val % 2) + (y 1).val = 32 * ((z 2).val % 2) + 16 * ((z 3).val % 2) + (z 1).val
    rw [h1, h2, h3]; omega

theorem final13 : (dats m 0 c).arrAt 13 cfg0.N = Forms.vo (VEL m c) := by
  refine (dats m 0 c).arrAt_eq_of_covers 13 _ (by decide +kernel) fun t hf y => ?_
  blk_simp
  rw [after0_13, point13]
  have b0 : (y 0).val < 1 := (y 0).isLt
  refine vo_blk m c t y _ ?_ ?_ ?_ ?_
  · blk_simp [idxs t]
  · blk_simp [idxs t]
  · blk_simp [idxs t]; omega
  · blk_simp [idxs t]

theorem final12 : (dats m 0 c).arrAt 12 cfg0.N = Forms.ln (VEL m c) (at0 m c) (atn m c) (alat m c) := by
  refine (dats m 0 c).arrAt_eq_of_covers 12 _ (by decide +kernel) fun t hf y => ?_
  blk_simp
  rw [after0_12, point12]
  have b0 : (y 0).val < 1 := (y 0).isLt
  have e0 : ((((cfg0.win 12).blk t).view.emb y) 0).val = t.val / 9 := by blk_simp [idxs t]
  have e1 : ((((cfg0.win 12).blk t).view.emb y) 1).val = (y 1).val := by blk_simp [idxs t]
  have e2 : ((((cfg0.win 12).blk t).view.emb y) 2).val = 16 * (t.val % 9) + (y 2).val := by blk_simp [idxs t]; omega
  have e3 : ((((cfg0.win 12).blk t).view.emb y) 3).val = (y 3).val := by blk_simp [idxs t]
  have hy : y = ix4 0 (y 1) (y 2) (y 3) := by
    funext d
    refine Fin.ext ?_
    match d with
    | ⟨0, _⟩ => show (y 0).val = 0; omega
    | ⟨1, _⟩ => rfl
    | ⟨2, _⟩ => rfl
    | ⟨3, _⟩ => rfl
  have hl : (iblk m c 11 t : Vec Ideal S1x16x16x128 .f32) y = alat m c (((cfg0.win 12).blk t).view.emb y) := by
    refine (congrArg (iblk m c 11 t : Vec Ideal S1x16x16x128 .f32) hy).trans ((ib11 m c t (y 1) (y 2) (y 3)).trans (congrArg (alat m c) ?_))
    funext d
    refine Fin.ext ?_
    match d with
    | ⟨0, _⟩ => exact e0.symm
    | ⟨1, _⟩ => exact e1.symm
    | ⟨2, _⟩ => exact e2.symm
    | ⟨3, _⟩ => exact e3.symm
  have eb : bt t = (((cfg0.win 12).blk t).view.emb y) 0 := Fin.ext e0.symm
  have ht : (iblk m c 1 t : Vec Ideal S3 .f32) (ix1 (bt t)) = at0 m c (ix1 ((((cfg0.win 12).blk t).view.emb y) 0)) :=
    (ib1 m c t (bt t)).trans (congrArg (fun b : Fin 3 => at0 m c (ix1 b)) eb)
  have htn : (iblk m c 2 t : Vec Ideal S3 .f32) (ix1 (bt t)) = atn m c (ix1 ((((cfg0.win 12).blk t).view.emb y) 0)) :=
    (ib2 m c t (bt t)).trans (congrArg (fun b : Fin 3 => atn m c (ix1 b)) eb)
  unfold lnG Forms.ln
  exact congrArg₂ _ hl (congrArg₂ _ (congrArg₂ _ htn ht) (vo_blk m c t y _ e0 e1 e2 e3))

/-! ## The kernel's run -/

variable (ρ : Dev nD → PrngReg)

/-- The run, with each result named and every argument as launched. -/
theorem run_value : θ_run defs (onTc (τ := τ) (main (F := Ideal))) ⟨m, fun _ => 0, ρ⟩ fun r => ∀ c : Dev nD,
      r.2.mem ((c : Thread nD τ).loc main_v5_0) = Forms.ln (VEL m c) (at0 m c) (atn m c) (alat m c)
      ∧ r.2.mem ((c : Thread nD τ).loc main_v5_1) = Forms.vo (VEL m c)
      ∧ r.2.mem ((c : Thread nD τ).loc main_v5_2) = Forms.cc (aC m c)
      ∧ r.2.mem ((c : Thread nD τ).loc main_v5_3) = Forms.cs (aC m c)
      ∧ r.2.mem ((c : Thread nD τ).loc main_v5_4) = Forms.xc (RW m c)
      ∧ r.2.mem ((c : Thread nD τ).loc main_v5_5) = Forms.xs (RW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨((h c).1 12).trans (final12 m c),
    ((h c).1 13).trans (final13 m c),
    ((h c).1 14).trans (final14 m c),
    ((h c).1 15).trans (final15 m c),
    ((h c).1 16).trans (final16 m c),
    ((h c).1 17).trans (final17 m c),
    ((h c).2 main_arg0 (Pipeline.mem_restRefs_of main_arg0 (by decide) (by decide))).trans (V_main_arg0 m c),
    ((h c).1 4).trans (((dats m 0 c).arrAt_in 4 rfl _).trans ((A_eq m c 4).trans (V_main_arg1 m c))),
    ((h c).2 main_arg2 (Pipeline.mem_restRefs_of main_arg2 (by decide) (by decide))).trans (V_main_arg2 m c),
    ((h c).1 6).trans (((dats m 0 c).arrAt_in 6 rfl _).trans ((A_eq m c 6).trans (V_main_arg3 m c))),
    ((h c).1 7).trans (((dats m 0 c).arrAt_in 7 rfl _).trans ((A_eq m c 7).trans (V_main_arg4 m c))),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).1 0).trans (((dats m 0 c).arrAt_in 0 rfl _).trans ((A_eq m c 0).trans (V_main_arg8 m c))),
    ((h c).1 1).trans (((dats m 0 c).arrAt_in 1 rfl _).trans ((A_eq m c 1).trans (V_main_arg9 m c))),
    ((h c).1 2).trans (((dats m 0 c).arrAt_in 2 rfl _).trans ((A_eq m c 2).trans (V_main_arg10 m c))),
    ((h c).1 11).trans (((dats m 0 c).arrAt_in 11 rfl _).trans ((A_eq m c 11).trans (V_main_arg11 m c)))⟩)
    (run_main m ρ)

end Cert.KernelIdeal.Gen

end
-- ==== Proof.RPay.lean ====
/- The reference's values over the extended reals, element by element. -/
module

public import proofs.«01_k».proof.Proof.Gen.ReferenceIdeal.Skeleton
public import proofs.«01_k».proof.Proof.Forms

@[expose] public section

set_option maxRecDepth 16384

noncomputable section

namespace Cert.ReferenceIdeal.Gen

open Idealize.ShloMosaic Idealize.ShloMosaic.TcCoe Idealize.ShloMosaic.Tactic

theorem fold_sum {n : Nat} (f : Fin n → BitVec 32) : Finset.fold IntOp.addi 0#32 f Finset.univ = ∑ i, f i := by
  classical
  induction (Finset.univ : Finset (Fin n)) using Finset.induction_on with
  | empty => rfl
  | insert a s ha ih => rw [Finset.fold_insert ha, Finset.sum_insert ha, ih]; rfl

theorem count_fold (v : EReal) :
    Finset.fold IntOp.addi (0#32) (fun x : Fin 254 => BitVec.setWidth 32 (BitVec.ofBool (decide
      (FloatOps.exp2 (F := Ideal) (FloatOps.sitofp (F := Ideal) FTy.f32 (BitVec.ofNat 32 x.val) - Ideal.ofBits FTy.f32 1123811328#32) ≤ v)))) Finset.univ
      = Quant.count v := by
  rw [fold_sum]
  rfl

theorem subi_eq (a b : BitVec 32) : IntOp.subi a b = a - b := rfl

/-! ## The conditioning vector -/

theorem pay4_apply (x : Vec Ideal S6x1536 .bf16) (j : S6x1536.Idx) : k0_pay4 x j = Forms.crow x (j 0) (j 1) := by
  unfold k0_pay4 Forms.crow
  rw [← eq_ix2 j]
  rfl

theorem pay5_apply (x : Vec Ideal S6x1536 .bf16) (j : S6x1.Idx) : k0_pay5 x j = Quant.amax (Forms.crow x (j 0)) := by
  unfold k0_pay5 k0_pay4
  pointwise
  rfl

theorem pay6_apply (x : Vec Ideal S6x1536 .bf16) (j : S6x1.Idx) : k0_pay6 x j = Quant.count (k0_pay5 x j) - 126#32 := by
  unfold k0_pay6
  generalize k0_pay5 x = v
  have hj : (ix2 (j 0) 0 : S6x1.Idx) = j := by
    funext d
    refine Fin.ext ?_
    match d with
    | ⟨0, _⟩ => rfl
    | ⟨1, _⟩ => have : (j 1).val < 1 := (j 1).isLt; show 0 = (j 1).val; omega
  pointwise
  exact congrArg (· - 126#32) ((count_fold _).trans (congrArg (fun i => Quant.count (v i)) hj))

theorem pay7_apply (x : Vec Ideal S6x1536 .bf16) (j : S6x1.Idx) : k0_pay7 x j = Quant.one (k0_pay5 x j) := by
  unfold k0_pay7
  generalize k0_pay5 x = v
  rfl

theorem pay8_apply (x : Vec Ideal S6x1536 .bf16) (j : S6x1.Idx) : k0_pay8 x j = Quant.kScale (Quant.amax (Forms.crow x (j 0))) := by
  rw [Quant.scale_eq, ← pay5_apply]
  unfold k0_pay8 Quant.rScale
  rw [← pay7_apply, ← pay6_apply]
  rfl

theorem pay9_apply (x : Vec Ideal S6x1536 .bf16) (j : S6x1536.Idx) :
    k0_pay9 x j = Forms.crow x (j 0) (j 1) * Quant.kInv (Quant.amax (Forms.crow x (j 0))) := by
  have e := pay5_apply x (ix2 (j 0) 0)
  rw [Quant.inv_eq]
  refine (?_ : _ = _ * Quant.rInv (Quant.amax (Forms.crow x ((ix2 (j 0) 0 : S6x1.Idx) 0))))
  rw [← e]
  unfold k0_pay9 Quant.rInv
  rw [← pay7_apply, ← pay6_apply, ← pay4_apply]
  pointwise
  rfl

theorem pay10_apply (x : Vec Ideal S6x1536 .bf16) (j : S6x1536.Idx) : k0_pay10 (k0_pay9 x) j = Quant.code (Forms.crow x (j 0)) (j 1) := by
  have e := pay9_apply x j
  unfold k0_pay10 Quant.code
  rw [← e]
  rfl

theorem pay11_gen (σ : FVec Ideal S6x1 .f32) (v : FVec Ideal S6x1536 .f32) (w : Vec Ideal S1536x1x1536 .fp8e4m3) (s b : Vec Ideal S1x1536 .f32) (j : S6x1536.Idx) :
    k0_pay11 σ v w s b j = (∑ k : Fin 1536, k0_pay10 v (ix2 (j 0) k) * w (ix3 k 0 (j 1))) * σ (ix2 (j 0) 0) * s (ix2 0 (j 1)) + b (ix2 0 (j 1)) := by
  unfold k0_pay11
  generalize k0_pay10 v = q
  pointwise

theorem pay12_gen (σ : FVec Ideal S6x1 .f32) (v : FVec Ideal S6x1536 .f32) (w : Vec Ideal S1536x1x1536 .fp8e4m3) (s b : Vec Ideal S1x1536 .f32) :
    k0_pay12 σ v w s b = k0_pay11 σ v w s b := rfl

theorem mod_apply (x : Vec Ideal S6x1536 .bf16) (w : Vec Ideal S1536x1x1536 .fp8e4m3) (s b : Vec Ideal S1x1536 .f32) (r : Fin 6) (n : Fin 1536) :
    k0_pay11 (k0_pay8 x) (k0_pay9 x) w s b (ix2 r n)
      = (∑ k : Fin 1536, Quant.code (Forms.crow x r) k * w (ix3 k 0 n)) * Quant.kScale (Quant.amax (Forms.crow x r)) * s (ix2 0 n) + b (ix2 0 n) := by
  rw [pay11_gen, pay8_apply]
  simp only [pay10_apply]
  rfl

/-! ## The tokens -/

theorem pay15_apply (v61 v72 : FVec Ideal S6x1536 .f32) (x : Vec Ideal S6x4608x1536 .bf16) (r : Fin 6) (p : Fin 4608) (k : Fin 1536) :
    k0_pay15 v61 v72 (k0_pay13 x) (k0_pay14 x) (ix3 r p k)
      = Quant.hval (fun k => v61 (ix2 r k)) (fun k => Ideal.ofBits .f32 1065353216#32 + v72 (ix2 r k)) (fun k => x (ix3 r p k)) k := by
  unfold k0_pay15 k0_pay14 k0_pay13
  pointwise
  rfl

/-- A token's row. -/
def hrow (h : FVec Ideal S6x4608x1536 .f32) (r : Fin 6) (p : Fin 4608) (k : Fin 1536) : EReal := h (ix3 r p k)

/-- Every token's largest magnitude times 1/448. -/
def tokAmax (h : FVec Ideal S6x4608x1536 .f32) : FVec Ideal S6x4608x1 .f32 :=
  mulf (shapeCast S6x4608x1 (multiReduction .maximumf [2] S6x4608 (absf h) 0xFF800000#32 reduces_S6x4608x1536_S6x4608 (.inl rfl) rfl) shapeCasts_S6x4608_S6x4608x1)
    (broadcast S6x4608x1 (Scalar.ofBits .f32 0x3B124925#32))

theorem rowMax (z : FVec Ideal S6x4608x1536 .f32) (r : Fin 6) (p : Fin 4608) :
    multiReduction .maximumf [2] S6x4608 z 0xFF800000#32 reduces_S6x4608x1536_S6x4608 (.inl rfl) rfl (ix2 r p)
      = Finset.fold max (Ideal.ofBits .f32 4286578688#32) (fun k : Fin 1536 => z (ix3 r p k)) Finset.univ :=
  (multiReduction_maximumf_eq_fold (F := Ideal) z 0xFF800000#32 reduces_S6x4608x1536_S6x4608 (.inl rfl) rfl (ix2 r p)).trans
    (Shape.Reduces.fold_fiber_r3_a2 (n0 := 6) (n1 := 4608) (n2 := 1536) reduces_S6x4608x1536_S6x4608 (ix2 r p) (max : EReal → EReal → EReal) _ z)

theorem rowScaled (z : FVec Ideal S6x4608 .f32) (j : S6x4608x1.Idx) :
    mulf (shapeCast S6x4608x1 z shapeCasts_S6x4608_S6x4608x1) (broadcast S6x4608x1 (Scalar.ofBits .f32 0x3B124925#32)) j
      = z (ix2 (j 0) (j 1)) * Ideal.ofBits .f32 991054117#32 := by
  pointwise

theorem tokAmax_apply (h : FVec Ideal S6x4608x1536 .f32) (j : S6x4608x1.Idx) : tokAmax h j = Quant.amax (hrow h (j 0) (j 1)) :=
  (rowScaled _ j).trans (congrArg (fun a : EReal => a * Ideal.ofBits .f32 991054117#32) (rowMax (absf h) (j 0) (j 1)))

/-- Every token's count of powers of two, less 126. -/
def tokCount (v : FVec Ideal S6x4608x1 .f32) : IVec S6x4608x1 32 :=
  subi (shapeCast S6x4608x1 (multiReductionI .add [2] S6x4608 (extui 32 (cmpf .ole
    (broadcastTo S6x4608x254 (exp2 (subf (sitofp .f32 (iota .tc S1x1x254 32 [2] iota_S1x1x254_d2_w32)) (broadcast S1x1x254 (Scalar.ofBits .f32 0x42FC0000#32)))) broadcasts_S1x1x254_S6x4608x254)
    (broadcastTo S6x4608x254 v broadcasts_S6x4608x1_S6x4608x254)) natLt_1_32) 0#32 reduces_S6x4608x254_S6x4608 rfl) shapeCasts_S6x4608_S6x4608x1)
    (broadcast S6x4608x1 126#32)

theorem tokCount_apply (v : FVec Ideal S6x4608x1 .f32) (j : S6x4608x1.Idx) : tokCount v j = Quant.count (v j) - 126#32 := by
  unfold tokCount
  have hj : (ix3 (j 0) (j 1) 0 : S6x4608x1.Idx) = j := by
    funext d
    refine Fin.ext ?_
    match d with
    | ⟨0, _⟩ => rfl
    | ⟨1, _⟩ => rfl
    | ⟨2, _⟩ => have : (j 2).val < 1 := (j 2).isLt; show 0 = (j 2).val; omega
  pointwise
  exact congrArg (· - 126#32) ((count_fold _).trans (congrArg (fun i => Quant.count (v i)) hj))

/-- Whether a token is left alone. -/
def tokOne (v : FVec Ideal S6x4608x1 .f32) : IVec S6x4608x1 1 :=
  ori (cmpf .olt v (broadcast S6x4608x1 (Scalar.ofBits .f32 0x00800000#32))) (xori (xori (weird v) (constantI S6x4608x1 1 1#1)) (constantI S6x4608x1 1 1#1))

theorem tokOne_apply (v : FVec Ideal S6x4608x1 .f32) (j : S6x4608x1.Idx) : tokOne v j = Quant.one (v j) := by
  rfl

theorem pay16_eq (v61 v72 : FVec Ideal S6x1536 .f32) (v74 : FVec Ideal S6x4608x1536 .f32) (v75 : FVec Ideal S6x4608 .f32) : k0_pay16 v61 v72 v74 v75 = tokAmax (k0_pay15 v61 v72 v74 v75) := rfl

theorem pay17_eq (v61 v72 : FVec Ideal S6x1536 .f32) (v74 : FVec Ideal S6x4608x1536 .f32) (v75 : FVec Ideal S6x4608 .f32) : k0_pay17 v61 v72 v74 v75 = tokCount (k0_pay16 v61 v72 v74 v75) := rfl

theorem pay18_eq (v61 v72 : FVec Ideal S6x1536 .f32) (v74 : FVec Ideal S6x4608x1536 .f32) (v75 : FVec Ideal S6x4608 .f32) : k0_pay18 v61 v72 v74 v75 = tokOne (k0_pay16 v61 v72 v74 v75) := rfl

theorem pay17_row (v61 v72 : FVec Ideal S6x1536 .f32) (v74 : FVec Ideal S6x4608x1536 .f32) (v75 : FVec Ideal S6x4608 .f32) (r : Fin 6) (p : Fin 4608) :
    k0_pay17 v61 v72 v74 v75 (ix3 r p 0) = Quant.count (Quant.amax (hrow (k0_pay15 v61 v72 v74 v75) r p)) - 126#32 := by
  rw [pay17_eq, pay16_eq, tokCount_apply, tokAmax_apply]
  exact rfl

theorem pay18_row (v61 v72 : FVec Ideal S6x1536 .f32) (v74 : FVec Ideal S6x4608x1536 .f32) (v75 : FVec Ideal S6x4608 .f32) (r : Fin 6) (p : Fin 4608) :
    k0_pay18 v61 v72 v74 v75 (ix3 r p 0) = Quant.one (Quant.amax (hrow (k0_pay15 v61 v72 v74 v75) r p)) := by
  rw [pay18_eq, pay16_eq, tokOne_apply, tokAmax_apply]
  exact rfl

section
variable (h : FVec Ideal S6x4608x1536 .f32) (a : IVec S6x4608x1 32) (b : IVec S6x4608x1 1)
  (ha : ∀ r p, a (ix3 r p 0) = Quant.count (Quant.amax (hrow h r p)) - 126#32) (hb : ∀ r p, b (ix3 r p 0) = Quant.one (Quant.amax (hrow h r p)))
include ha hb

theorem pay19_apply (r : Fin 6) (p : Fin 4608) : k0_pay19 (F := Ideal) a b (ix3 r p 0) = Quant.kScale (Quant.amax (hrow h r p)) := by
  rw [Quant.scale_eq]
  unfold k0_pay19 Quant.rScale
  rw [← ha, ← hb]
  rfl

theorem pay20_apply (r : Fin 6) (p : Fin 4608) (k : Fin 1536) : k0_pay20 h a b (ix3 r p k) = Quant.code (hrow h r p) k := by
  unfold Quant.code
  rw [Quant.inv_eq]
  unfold k0_pay20 Quant.rInv
  rw [← ha, ← hb]
  pointwise
  rfl

theorem pay21_apply (y : S2x3x4608x1536.Idx) : k0_pay21 h a b y = Forms.xc (hrow h) y := by
  refine Eq.trans ?_ (pay20_apply h a b ha hb ⟨3 * (y 0).val + (y 1).val, by have : (y 0).val < 2 := (y 0).isLt; have : (y 1).val < 3 := (y 1).isLt; omega⟩ (y 2) (y 3))
  unfold k0_pay21
  generalize k0_pay20 h a b = q
  pointwise
  exact congrArg (fun r : Fin 6 => q (ix3 r (y 2) (y 3))) (Fin.ext (by show (y 0).val * 3 + (y 1).val = 3 * (y 0).val + (y 1).val; omega))

theorem pay22_apply (y : S2x3x1x4608.Idx) : k0_pay22 (F := Ideal) a b y = Forms.xs (hrow h) y := by
  refine Eq.trans ?_ (pay19_apply h a b ha hb ⟨3 * (y 0).val + (y 1).val, by have : (y 0).val < 2 := (y 0).isLt; have : (y 1).val < 3 := (y 1).isLt; omega⟩ (y 3))
  unfold k0_pay22
  generalize k0_pay19 (F := Ideal) a b = q
  pointwise
  exact congrArg (fun r : Fin 6 => q (ix3 r (y 3) 0)) (Fin.ext (by show (y 0).val * 3 + (y 1).val = 3 * (y 0).val + (y 1).val; omega))

theorem pay23_apply (w : Vec Ideal S1536x64 .fp8e4m3) (s : Vec Ideal S1x64 .f32) (r : Fin 6) (p : Fin 4608) (c : Fin 64) :
    k0_pay23 h a b w s (ix3 r p c) = (∑ k : Fin 1536, w (ix2 k c) * Quant.code (hrow h r p) k) * Quant.kScale (Quant.amax (hrow h r p)) * s (ix2 0 c) := by
  rw [← pay19_apply h a b ha hb]
  simp only [← pay20_apply h a b ha hb]
  unfold k0_pay23
  generalize k0_pay19 (F := Ideal) a b = q
  generalize k0_pay20 h a b = z
  pointwise
  refine congrArg (fun z : EReal => z * q (ix3 r p 0) * s (ix2 0 c)) (Finset.sum_congr rfl fun k _ => mul_comm _ _)

end

/-! ## The velocity image -/

/-- A token's projection with its bias. -/
def plus (L : FVec Ideal S6x4608x64 .f32) (bo : Vec Ideal S1x64 .f32) (r : Fin 6) (c : Fin 64) (p : Fin 4608) : EReal := L (ix3 r p c) + bo (ix2 0 c)

/-- The guided velocity. -/
def guided (L : FVec Ideal S6x4608x64 .f32) (bo : Vec Ideal S1x64 .f32) (g : Vec Ideal S3x1x1 .f32) (b : Fin 3) (c : Fin 64) (p : Fin 4608) : EReal :=
  plus L bo ⟨3 + b.val, by omega⟩ c p + g (ix3 b 0 0) * (plus L bo ⟨b.val, by omega⟩ c p - plus L bo ⟨3 + b.val, by omega⟩ c p)

theorem unpatch (u : FVec Ideal S3x4608x64 .f32) (y : S3x16x144x128.Idx) :
    (shapeCast S3x16x144x128 (transpose S3x16x72x2x64x2 [0, 5, 1, 3, 2, 4] (shapeCast S3x72x64x2x2x16 u shapeCasts_S3x4608x64_S3x72x64x2x2x16) transposes_S3x72x64x2x2x16_p0_5_1_3_2_4_S3x16x72x2x64x2)
      shapeCasts_S3x16x72x2x64x2_S3x16x144x128) y = Forms.vo (fun b c p => u (ix3 b p c)) y := by
  pointwise
  unfold Forms.vo
  refine congrArg₂ (fun (p : Fin 4608) (c : Fin 64) => u (ix3 (y 0) p c)) (Fin.ext ?_) (Fin.ext ?_)
  · show (y 2).val / 2 * 64 + (y 3).val / 2 = 64 * ((y 2).val / 2) + (y 3).val / 2
    omega
  · show (y 2).val % 2 * 32 + (y 3).val % 2 * 16 + (y 1).val = 32 * ((y 2).val % 2) + 16 * ((y 3).val % 2) + (y 1).val
    omega

theorem guide (L : FVec Ideal S6x4608x64 .f32) (bo : Vec Ideal S1x64 .f32) (g : Vec Ideal S3x1x1 .f32) (b : Fin 3) (p : Fin 4608) (c : Fin 64) :
    (addf (extractStridedSlice S3x4608x64 ![3, 0, 0] (addf L (broadcastTo S6x4608x64 (shapeCast S1x1x64 (shapeCast S1x64 bo shapeCasts_S1x64_S1x64) shapeCasts_S1x64_S1x1x64) broadcasts_S1x1x64_S6x4608x64)) slices_S6x4608x64_o3_0_0_S3x4608x64)
      (mulf (broadcastTo S3x4608x64 (shapeCast S3x1x1 g shapeCasts_S3x1x1_S3x1x1) broadcasts_S3x1x1_S3x4608x64)
        (subf (extractStridedSlice S3x4608x64 ![0, 0, 0] (addf L (broadcastTo S6x4608x64 (shapeCast S1x1x64 (shapeCast S1x64 bo shapeCasts_S1x64_S1x64) shapeCasts_S1x64_S1x1x64) broadcasts_S1x1x64_S6x4608x64)) slices_S6x4608x64_o0_0_0_S3x4608x64)
          (extractStridedSlice S3x4608x64 ![3, 0, 0] (addf L (broadcastTo S6x4608x64 (shapeCast S1x1x64 (shapeCast S1x64 bo shapeCasts_S1x64_S1x64) shapeCasts_S1x64_S1x1x64) broadcasts_S1x1x64_S6x4608x64)) slices_S6x4608x64_o3_0_0_S3x4608x64)))
      : FVec Ideal S3x4608x64 .f32) (ix3 b p c) = guided L bo g b c p := by
  unfold guided plus
  pointwise

theorem pay1_apply (L : FVec Ideal S6x4608x64 .f32) (bo : Vec Ideal S1x64 .f32) (g : Vec Ideal S3x1x1 .f32) (y : S3x16x144x128.Idx) :
    k0_pay1 L bo g y = Forms.vo (guided L bo g) y :=
  (unpatch _ y).trans (guide L bo g _ _ _)

theorem pay2_gen (z : FVec Ideal S3x16x144x128 .f32) (lat : Vec Ideal S3x16x144x128 .f32) (tn t : Vec Ideal S3x1x1 .f32) (y : S3x16x144x128.Idx) :
    addf lat (mulf (broadcastTo S3x16x144x128 (shapeCast S3x1x1x1 (subf (shapeCast S3x1x1 tn shapeCasts_S3x1x1_S3x1x1) (shapeCast S3x1x1 t shapeCasts_S3x1x1_S3x1x1)) shapeCasts_S3x1x1_S3x1x1x1) broadcasts_S3x1x1x1_S3x16x144x128) z) y
      = lat y + (tn (ix3 (y 0) 0 0) - t (ix3 (y 0) 0 0)) * z y := by
  pointwise

theorem pay2_apply (L : FVec Ideal S6x4608x64 .f32) (bo : Vec Ideal S1x64 .f32) (g : Vec Ideal S3x1x1 .f32) (lat : Vec Ideal S3x16x144x128 .f32) (tn t : Vec Ideal S3x1x1 .f32) (y : S3x16x144x128.Idx) :
    k0_pay2 L bo g lat tn t y = lat y + (tn (ix3 (y 0) 0 0) - t (ix3 (y 0) 0 0)) * Forms.vo (guided L bo g) y :=
  (pay2_gen (k0_pay1 L bo g) lat tn t y).trans
    (congrArg (fun z : EReal => lat y + (tn (ix3 (y 0) 0 0) - t (ix3 (y 0) 0 0)) * z) (pay1_apply L bo g y))

theorem pay3_apply (L : FVec Ideal S6x4608x64 .f32) (bo : Vec Ideal S1x64 .f32) (g : Vec Ideal S3x1x1 .f32) (y : S3x16x144x128.Idx) :
    k0_pay3 L bo g y = Forms.vo (guided L bo g) y := pay1_apply L bo g y

end Cert.ReferenceIdeal.Gen

end
-- ==== Proof.RVal.lean ====
/- The reference's arrays are the common forms over the argument arrays. -/
module

public import proofs.«01_k».proof.Proof.Gen.ReferenceIdeal.Frame
public import proofs.«01_k».proof.Proof.RPay
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic Idealize.SL.Sem

/-! ## What the body leaves in each buffer -/

theorem ldW0 (x : Vec Ideal S1536x2x1536 .fp8e4m3) (k n : Fin 1536) : View.ld x r0_2 (ix3 k 0 n) = x (ix3 k 0 n) := by
  refine congrArg x (funext fun d => Fin.ext ?_)
  match d with
  | ⟨0, _⟩ => show 0 + 1 * k.val = k.val; omega
  | ⟨1, _⟩ => rfl
  | ⟨2, _⟩ => show 0 + 1 * n.val = n.val; omega

theorem ldW1 (x : Vec Ideal S1536x2x1536 .fp8e4m3) (k n : Fin 1536) : View.ld x r0_4 (ix3 k 0 n) = x (ix3 k 1 n) := by
  refine congrArg x (funext fun d => Fin.ext ?_)
  match d with
  | ⟨0, _⟩ => show 0 + 1 * k.val = k.val; omega
  | ⟨1, _⟩ => rfl
  | ⟨2, _⟩ => show 0 + 1 * n.val = n.val; omega

theorem ldR0 (x : Vec Ideal S2x1536 .f32) (n : Fin 1536) : View.ld x r0_3 (ix2 0 n) = x (ix2 0 n) := by
  refine congrArg x (funext fun d => Fin.ext ?_)
  match d with
  | ⟨0, _⟩ => rfl
  | ⟨1, _⟩ => show 0 + 1 * n.val = n.val; omega

theorem ldR1 (x : Vec Ideal S2x1536 .f32) (n : Fin 1536) : View.ld x r0_5 (ix2 0 n) = x (ix2 1 n) := by
  refine congrArg x (funext fun d => Fin.ext ?_)
  match d with
  | ⟨0, _⟩ => rfl
  | ⟨1, _⟩ => show 0 + 1 * n.val = n.val; omega

section
variable (x0 : Vec Ideal S6x4608x1536 .bf16) (x1 : Vec Ideal S6x1536 .bf16) (x2 : Vec Ideal S1536x2x1536 .fp8e4m3) (x3 : Vec Ideal S2x1536 .f32) (x4 : Vec Ideal S2x1536 .f32) (x5 : Vec Ideal S1536x64 .fp8e4m3) (x6 : Vec Ideal S1x64 .f32) (x7 : Vec Ideal S1x64 .f32) (x8 : Vec Ideal S3x1x1 .f32) (x9 : Vec Ideal S3x1x1 .f32) (x10 : Vec Ideal S3x1x1 .f32) (x11 : Vec Ideal S3x16x144x128 .f32)

theorem v34_eq : k0_pay24 x0 x1 x2 x3 x4 x5 x6 x7 x8 x9 x10 x11 = k0_pay8 x1 := by
  unfold k0_pay24
  rw [View.ld_unit_zero (S := S6x1536) (by decide) inb_S6x1536_S6x1536_0_0]

theorem v43_eq : k0_pay25 x0 x1 x2 x3 x4 x5 x6 x7 x8 x9 x10 x11 = k0_pay9 x1 := by
  unfold k0_pay25
  rw [View.ld_unit_zero (S := S6x1536) (by decide) inb_S6x1536_S6x1536_0_0]

theorem v61_apply (r : Fin 6) (n : Fin 1536) : k0_pay26 x0 x1 x2 x3 x4 x5 x6 x7 x8 x9 x10 x11 (ix2 r n) = Forms.pre x1 x2 x3 x4 0 r n := by
  unfold k0_pay26
  rw [v34_eq, v43_eq, mod_apply, ldR0, ldR0]
  exact congrArg (fun z : EReal => z * Quant.kScale (Quant.amax (Forms.crow x1 r)) * x3 (ix2 0 n) + x4 (ix2 0 n))
    (Finset.sum_congr rfl fun k _ => congrArg (fun w : EReal => Quant.code (Forms.crow x1 r) k * w) (ldW0 x2 k n))

theorem v72_apply (r : Fin 6) (n : Fin 1536) : k0_pay27 x0 x1 x2 x3 x4 x5 x6 x7 x8 x9 x10 x11 (ix2 r n) = Forms.pre x1 x2 x3 x4 1 r n := by
  unfold k0_pay27
  rw [pay12_gen, v34_eq, v43_eq, mod_apply, ldR1, ldR1]
  exact congrArg (fun z : EReal => z * Quant.kScale (Quant.amax (Forms.crow x1 r)) * x3 (ix2 1 n) + x4 (ix2 1 n))
    (Finset.sum_congr rfl fun k _ => congrArg (fun w : EReal => Quant.code (Forms.crow x1 r) k * w) (ldW1 x2 k n))

theorem v98_apply (r : Fin 6) (p : Fin 4608) : hrow (k0_pay30 x0 x1 x2 x3 x4 x5 x6 x7 x8 x9 x10 x11) r p = Forms.row x0 x1 x2 x3 x4 r p := by
  funext k
  unfold hrow k0_pay30 k0_pay28 k0_pay29
  rw [View.ld_unit_zero (S := S6x4608x1536) (by decide) inb_S6x4608x1536_S6x4608x1536_0_0_0, pay15_apply]
  simp only [v61_apply, v72_apply]
  rfl

theorem v98_eq : hrow (k0_pay30 x0 x1 x2 x3 x4 x5 x6 x7 x8 x9 x10 x11) = Forms.row x0 x1 x2 x3 x4 :=
  funext fun r => funext fun p => v98_apply x0 x1 x2 x3 x4 x5 x6 x7 x8 x9 x10 x11 r p

theorem v116_row (r : Fin 6) (p : Fin 4608) : k0_pay31 x0 x1 x2 x3 x4 x5 x6 x7 x8 x9 x10 x11 (ix3 r p 0) = Quant.count (Quant.amax (hrow (k0_pay30 x0 x1 x2 x3 x4 x5 x6 x7 x8 x9 x10 x11) r p)) - 126#32 :=
  pay17_row _ _ _ _ r p

theorem v122_row (r : Fin 6) (p : Fin 4608) : k0_pay32 x0 x1 x2 x3 x4 x5 x6 x7 x8 x9 x10 x11 (ix3 r p 0) = Quant.one (Quant.amax (hrow (k0_pay30 x0 x1 x2 x3 x4 x5 x6 x7 x8 x9 x10 x11) r p)) :=
  pay18_row _ _ _ _ r p

theorem out14_eq (y : S6x1536.Idx) : out0_14 x0 x1 x2 x3 x4 x5 x6 x7 x8 x9 x10 x11 y = Forms.cc x1 y := by
  unfold out0_14
  rw [View.canon_unit_zero (S := S6x1536) (by decide) inb_S6x1536_S6x1536_0_0, v43_eq]
  exact pay10_apply x1 y

theorem out15_eq (y : S6x1.Idx) : out0_15 x0 x1 x2 x3 x4 x5 x6 x7 x8 x9 x10 x11 y = Forms.cs x1 y := by
  unfold out0_15
  rw [View.canon_unit_zero (S := S6x1) (by decide) inb_S6x1_S6x1_0_0, v34_eq]
  exact pay8_apply x1 y

theorem out16_eq (y : S2x3x4608x1536.Idx) : out0_16 x0 x1 x2 x3 x4 x5 x6 x7 x8 x9 x10 x11 y = Forms.xc (Forms.row x0 x1 x2 x3 x4) y := by
  unfold out0_16
  rw [View.canon_unit_zero (S := S2x3x4608x1536) (by decide) inb_S2x3x4608x1536_S2x3x4608x1536_0_0_0_0, ← v98_eq x0 x1 x2 x3 x4 x5 x6 x7 x8 x9 x10 x11]
  exact pay21_apply _ _ _ (v116_row x0 x1 x2 x3 x4 x5 x6 x7 x8 x9 x10 x11) (v122_row x0 x1 x2 x3 x4 x5 x6 x7 x8 x9 x10 x11) y

theorem out17_eq (y : S2x3x1x4608.Idx) : out0_17 x0 x1 x2 x3 x4 x5 x6 x7 x8 x9 x10 x11 y = Forms.xs (Forms.row x0 x1 x2 x3 x4) y := by
  unfold out0_17
  rw [View.canon_unit_zero (S := S2x3x1x4608) (by decide) inb_S2x3x1x4608_S2x3x1x4608_0_0_0_0, ← v98_eq x0 x1 x2 x3 x4 x5 x6 x7 x8 x9 x10 x11]
  exact pay22_apply (k0_pay30 x0 x1 x2 x3 x4 x5 x6 x7 x8 x9 x10 x11) _ _ (v116_row x0 x1 x2 x3 x4 x5 x6 x7 x8 x9 x10 x11) (v122_row x0 x1 x2 x3 x4 x5 x6 x7 x8 x9 x10 x11) y

/-- The velocity image, with the channels' scales and biases and the guidances as the body holds them. -/
def velR : Fin 3 → Fin 64 → Fin 4608 → EReal :=
  Forms.vel (Forms.row x0 x1 x2 x3 x4) x5 (fun i => x6 (ix2 0 (i 0))) (fun i => x7 (ix2 0 (i 0))) (fun i => x8 (ix3 (i 0) 0 0))

theorem v158_apply (r : Fin 6) (c : Fin 64) (p : Fin 4608) : plus (k0_pay33 x0 x1 x2 x3 x4 x5 x6 x7 x8 x9 x10 x11) x7 r c p
    = Forms.lin (Forms.row x0 x1 x2 x3 x4) x5 (fun i => x6 (ix2 0 (i 0))) (fun i => x7 (ix2 0 (i 0))) r c p := by
  unfold plus k0_pay33
  rw [← v98_eq x0 x1 x2 x3 x4 x5 x6 x7 x8 x9 x10 x11, View.ld_unit_zero (S := S1536x64) (by decide) inb_S1536x64_S1536x64_0_0, View.ld_unit_zero (S := S1x64) (by decide) inb_S1x64_S1x64_0_0,
    pay23_apply (k0_pay30 x0 x1 x2 x3 x4 x5 x6 x7 x8 x9 x10 x11) _ _ (v116_row x0 x1 x2 x3 x4 x5 x6 x7 x8 x9 x10 x11) (v122_row x0 x1 x2 x3 x4 x5 x6 x7 x8 x9 x10 x11)]
  rfl

theorem guided_eq : guided (k0_pay33 x0 x1 x2 x3 x4 x5 x6 x7 x8 x9 x10 x11) x7 x8 = velR x0 x1 x2 x3 x4 x5 x6 x7 x8 := by
  funext b c p
  unfold guided velR Forms.vel
  simp only [v158_apply]
  rfl

theorem out13_eq (y : S3x16x144x128.Idx) : out0_13 x0 x1 x2 x3 x4 x5 x6 x7 x8 x9 x10 x11 y = Forms.vo (velR x0 x1 x2 x3 x4 x5 x6 x7 x8) y := by
  unfold out0_13
  rw [View.canon_unit_zero (S := S3x16x144x128) (by decide) inb_S3x16x144x128_S3x16x144x128_0_0_0_0, View.ld_unit_zero (S := S1x64) (by decide) inb_S1x64_S1x64_0_0, View.ld_unit_zero (S := S3x1x1) (by decide) inb_S3x1x1_S3x1x1_0_0_0, ← guided_eq x0 x1 x2 x3 x4 x5 x6 x7 x8 x9 x10 x11]
  exact pay3_apply _ _ _ y

theorem out12_eq (y : S3x16x144x128.Idx) : out0_12 x0 x1 x2 x3 x4 x5 x6 x7 x8 x9 x10 x11 y
    = Forms.ln (velR x0 x1 x2 x3 x4 x5 x6 x7 x8) (fun i => x9 (ix3 (i 0) 0 0)) (fun i => x10 (ix3 (i 0) 0 0)) x11 y := by
  unfold out0_12
  rw [View.canon_unit_zero (S := S3x16x144x128) (by decide) inb_S3x16x144x128_S3x16x144x128_0_0_0_0, View.ld_unit_zero (S := S1x64) (by decide) inb_S1x64_S1x64_0_0, View.ld_unit_zero (S := S3x1x1) (by decide) inb_S3x1x1_S3x1x1_0_0_0, View.ld_unit_zero (S := S3x1x1) (by decide) inb_S3x1x1_S3x1x1_0_0_0, View.ld_unit_zero (S := S3x1x1) (by decide) inb_S3x1x1_S3x1x1_0_0_0, View.ld_unit_zero (S := S3x16x144x128) (by decide) inb_S3x16x144x128_S3x16x144x128_0_0_0_0, ← guided_eq x0 x1 x2 x3 x4 x5 x6 x7 x8 x9 x10 x11]
  exact pay2_apply _ _ _ _ _ _ y

end

variable (m : (ℓ : Loc nD τ sig) → Buf (Elt Ideal) ℓ) (ρ : Dev nD → PrngReg) (c : Dev nD)

/-! ## The blocks are the argument arrays' -/

abbrev aX : Forms.Arr ![6, 4608, 1536] := m ((c : Thread nD τ).loc main_arg0)
abbrev aC : Forms.Arr ![6, 1536] := m ((c : Thread nD τ).loc main_arg1)
abbrev aW : Forms.Arr ![1536, 2, 1536] := m ((c : Thread nD τ).loc main_arg2)
abbrev aS : Forms.Arr ![2, 1536] := m ((c : Thread nD τ).loc main_arg3)
abbrev aB : Forms.Arr ![2, 1536] := m ((c : Thread nD τ).loc main_arg4)
abbrev aP : Forms.Arr ![1536, 64] := m ((c : Thread nD τ).loc main_arg5)
abbrev aws : Forms.Arr ![64] := m ((c : Thread nD τ).loc main_arg6)
abbrev abo : Forms.Arr ![64] := m ((c : Thread nD τ).loc main_arg7)
abbrev ag : Forms.Arr ![3] := m ((c : Thread nD τ).loc main_arg8)
abbrev at0 : Forms.Arr ![3] := m ((c : Thread nD τ).loc main_arg9)
abbrev atn : Forms.Arr ![3] := m ((c : Thread nD τ).loc main_arg10)
abbrev alat : Forms.Arr ![3, 16, 144, 128] := m ((c : Thread nD τ).loc main_arg11)

theorem idxs : ∀ t : Fin cfg0.N, win0_0.index t = ![0, 0, 0] ∧ win0_1.index t = ![0, 0] ∧ win0_2.index t = ![0, 0, 0] ∧ win0_3.index t = ![0, 0] ∧ win0_4.index t = ![0, 0] ∧ win0_5.index t = ![0, 0] ∧ win0_6.index t = ![0, 0] ∧ win0_7.index t = ![0, 0] ∧ win0_8.index t = ![0, 0, 0] ∧ win0_9.index t = ![0, 0, 0] ∧ win0_10.index t = ![0, 0, 0] ∧ win0_11.index t = ![0, 0, 0, 0] ∧ win0_12.index t = ![0, 0, 0, 0] ∧ win0_13.index t = ![0, 0, 0, 0] ∧ win0_14.index t = ![0, 0] ∧ win0_15.index t = ![0, 0] ∧ win0_16.index t = ![0, 0, 0, 0] ∧ win0_17.index t = ![0, 0, 0, 0] :=
  (by decide +kernel : ∀ t : Fin grid0.N, _)

theorem ib0 (t : Fin cfg0.N) : (iblk m c 0 t : Vec Ideal S6x4608x1536 .bf16) = aX m c := by
  funext y
  rw [eq_ix3 y]
  blk_ext! [iblk, V, idxs t]
theorem ib1 (t : Fin cfg0.N) : (iblk m c 1 t : Vec Ideal S6x1536 .bf16) = aC m c := by
  funext y
  rw [eq_ix2 y]
  blk_ext! [iblk, V, idxs t]
theorem ib2 (t : Fin cfg0.N) : (iblk m c 2 t : Vec Ideal S1536x2x1536 .fp8e4m3) = aW m c := by
  funext y
  rw [eq_ix3 y]
  blk_ext! [iblk, V, idxs t]
theorem ib3 (t : Fin cfg0.N) : (iblk m c 3 t : Vec Ideal S2x1536 .f32) = aS m c := by
  funext y
  rw [eq_ix2 y]
  blk_ext! [iblk, V, idxs t]
theorem ib4 (t : Fin cfg0.N) : (iblk m c 4 t : Vec Ideal S2x1536 .f32) = aB m c := by
  funext y
  rw [eq_ix2 y]
  blk_ext! [iblk, V, idxs t]
theorem ib5 (t : Fin cfg0.N) : (iblk m c 5 t : Vec Ideal S1536x64 .fp8e4m3) = aP m c := by
  funext y
  rw [eq_ix2 y]
  blk_ext! [iblk, V, idxs t]
theorem ib11 (t : Fin cfg0.N) : (iblk m c 11 t : Vec Ideal S3x16x144x128 .f32) = alat m c := by
  funext y
  rw [eq_ix4 y]
  blk_ext! [iblk, V, idxs t]
theorem ib6 (t : Fin cfg0.N) : (fun i : (⟨1, ![64]⟩ : Shape).Idx => (iblk m c 6 t : Vec Ideal S1x64 .f32) (ix2 0 (i 0))) = aws m c := by
  funext i
  rw [eq_ix1 i]
  blk_ext! [iblk, V, idxs t]
theorem ib7 (t : Fin cfg0.N) : (fun i : (⟨1, ![64]⟩ : Shape).Idx => (iblk m c 7 t : Vec Ideal S1x64 .f32) (ix2 0 (i 0))) = abo m c := by
  funext i
  rw [eq_ix1 i]
  blk_ext! [iblk, V, idxs t]
theorem ib8 (t : Fin cfg0.N) : (fun i : (⟨1, ![3]⟩ : Shape).Idx => (iblk m c 8 t : Vec Ideal S3x1x1 .f32) (ix3 (i 0) 0 0)) = ag m c := by
  funext i
  rw [eq_ix1 i]
  blk_ext! [iblk, V, idxs t]
theorem ib9 (t : Fin cfg0.N) : (fun i : (⟨1, ![3]⟩ : Shape).Idx => (iblk m c 9 t : Vec Ideal S3x1x1 .f32) (ix3 (i 0) 0 0)) = at0 m c := by
  funext i
  rw [eq_ix1 i]
  blk_ext! [iblk, V, idxs t]
theorem ib10 (t : Fin cfg0.N) : (fun i : (⟨1, ![3]⟩ : Shape).Idx => (iblk m c 10 t : Vec Ideal S3x1x1 .f32) (ix3 (i 0) 0 0)) = atn m c := by
  funext i
  rw [eq_ix1 i]
  blk_ext! [iblk, V, idxs t]

/-! ## The arrays after the run -/

/-- Every token's row over the argument arrays. -/
abbrev RW := Forms.row (aX m c) (aC m c) (aW m c) (aS m c) (aB m c)

/-- The velocity image over the argument arrays. -/
abbrev VEL := Forms.vel (RW m c) (aP m c) (aws m c) (abo m c) (ag m c)

theorem velR_eq (t : Fin cfg0.N) : velR (iblk m c 0 t) (iblk m c 1 t) (iblk m c 2 t) (iblk m c 3 t) (iblk m c 4 t) (iblk m c 5 t) (iblk m c 6 t) (iblk m c 7 t) (iblk m c 8 t) = VEL m c := by
  unfold velR
  rw [ib0, ib1, ib2, ib3, ib4, ib5, ib6, ib7, ib8]

theorem final12 : (dats m 0 c).arrAt 12 cfg0.N = Forms.ln (VEL m c) (at0 m c) (atn m c) (alat m c) := by
  refine (dats m 0 c).arrAt_eq_of_covers 12 _ (by decide +kernel) fun t hf y => ?_
  blk_simp
  rw [after0_12, out12_eq, velR_eq, ib9, ib10, ib11]
  refine congrArg (Forms.ln (VEL m c) (at0 m c) (atn m c) (alat m c)) (funext fun d => Fin.ext ?_)
  match d with
  | ⟨0, _⟩ => blk_simp [idxs t]
  | ⟨1, _⟩ => blk_simp [idxs t]
  | ⟨2, _⟩ => blk_simp [idxs t]
  | ⟨3, _⟩ => blk_simp [idxs t]

theorem final13 : (dats m 0 c).arrAt 13 cfg0.N = Forms.vo (VEL m c) := by
  refine (dats m 0 c).arrAt_eq_of_covers 13 _ (by decide +kernel) fun t hf y => ?_
  blk_simp
  rw [after0_13, out13_eq, velR_eq]
  refine congrArg (Forms.vo (VEL m c)) (funext fun d => Fin.ext ?_)
  match d with
  | ⟨0, _⟩ => blk_simp [idxs t]
  | ⟨1, _⟩ => blk_simp [idxs t]
  | ⟨2, _⟩ => blk_simp [idxs t]
  | ⟨3, _⟩ => blk_simp [idxs t]

theorem final14 : (dats m 0 c).arrAt 14 cfg0.N = Forms.cc (aC m c) := by
  refine (dats m 0 c).arrAt_eq_of_covers 14 _ (by decide +kernel) fun t hf y => ?_
  blk_simp
  rw [after0_14, out14_eq, ib1]
  refine congrArg (Forms.cc (aC m c)) (funext fun d => Fin.ext ?_)
  match d with
  | ⟨0, _⟩ => blk_simp [idxs t]
  | ⟨1, _⟩ => blk_simp [idxs t]

theorem final15 : (dats m 0 c).arrAt 15 cfg0.N = Forms.cs (aC m c) := by
  refine (dats m 0 c).arrAt_eq_of_covers 15 _ (by decide +kernel) fun t hf y => ?_
  blk_simp
  rw [after0_15, out15_eq, ib1]
  refine congrArg (Forms.cs (aC m c)) (funext fun d => Fin.ext ?_)
  match d with
  | ⟨0, _⟩ => blk_simp [idxs t]
  | ⟨1, _⟩ => blk_simp [idxs t]

theorem final16 : (dats m 0 c).arrAt 16 cfg0.N = Forms.xc (RW m c) := by
  refine (dats m 0 c).arrAt_eq_of_covers 16 _ (by decide +kernel) fun t hf y => ?_
  blk_simp
  rw [after0_16, out16_eq, ib0, ib1, ib2, ib3, ib4]
  refine congrArg (Forms.xc (RW m c)) (funext fun d => Fin.ext ?_)
  match d with
  | ⟨0, _⟩ => blk_simp [idxs t]
  | ⟨1, _⟩ => blk_simp [idxs t]
  | ⟨2, _⟩ => blk_simp [idxs t]
  | ⟨3, _⟩ => blk_simp [idxs t]

theorem final17 : (dats m 0 c).arrAt 17 cfg0.N = Forms.xs (RW m c) := by
  refine (dats m 0 c).arrAt_eq_of_covers 17 _ (by decide +kernel) fun t hf y => ?_
  blk_simp
  rw [after0_17, out17_eq, ib0, ib1, ib2, ib3, ib4]
  refine congrArg (Forms.xs (RW m c)) (funext fun d => Fin.ext ?_)
  match d with
  | ⟨0, _⟩ => blk_simp [idxs t]
  | ⟨1, _⟩ => blk_simp [idxs t]
  | ⟨2, _⟩ => blk_simp [idxs t]
  | ⟨3, _⟩ => blk_simp [idxs t]

/-- The run, with each result named and every argument as launched. -/
theorem run_value : θ_run defs (onTc (τ := τ) (main (F := Ideal))) ⟨m, fun _ => 0, ρ⟩ fun r => ∀ c : Dev nD,
      r.2.mem ((c : Thread nD τ).loc main_v5_0) = Forms.ln (VEL m c) (at0 m c) (atn m c) (alat m c)
      ∧ r.2.mem ((c : Thread nD τ).loc main_v5_1) = Forms.vo (VEL m c)
      ∧ r.2.mem ((c : Thread nD τ).loc main_v5_2) = Forms.cc (aC m c)
      ∧ r.2.mem ((c : Thread nD τ).loc main_v5_3) = Forms.cs (aC m c)
      ∧ r.2.mem ((c : Thread nD τ).loc main_v5_4) = Forms.xc (RW m c)
      ∧ r.2.mem ((c : Thread nD τ).loc main_v5_5) = Forms.xs (RW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨((h c).1 12).trans (final12 m c),
    ((h c).1 13).trans (final13 m c),
    ((h c).1 14).trans (final14 m c),
    ((h c).1 15).trans (final15 m c),
    ((h c).1 16).trans (final16 m c),
    ((h c).1 17).trans (final17 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).1 11).trans (((dats m 0 c).arrAt_in 11 rfl _).trans ((A_eq m c 11).trans (V_main_arg11 m c)))⟩)
    (run_main m ρ)

end Cert.ReferenceIdeal.Gen

end
-- ==== Proof.lean ====
/- The claims: the three programs' frames, that the idealized kernel keeps the kernel's meaning, and that over the extended reals
   the kernel's six results are the reference's.
   - The frames: the kernel's is `Proof/PFrame.lean`, the idealized kernel's `Proof/KFrame.lean`, the reference's is generated.
   - `preserves`: the idealized kernel's ledger has no site.
   - `algebraic`: `Proof/KVal.lean` and `Proof/RVal.lean` name each program's results as the same functions (`Proof/Forms.lean`)
     of its argument arrays, and the argument arrays agree. -/
module

public import proofs.«01_k».proof.Defs
public import proofs.«01_k».proof.Proof.Gen.Kernel
public import proofs.«01_k».proof.Proof.PFrame
public import proofs.«01_k».proof.Proof.Gen.KernelIdeal
public import proofs.«01_k».proof.Proof.Gen.ReferenceIdeal
public import proofs.«01_k».proof.Proof.Gen.ReferenceIdeal.Frame
public import proofs.«01_k».proof.Proof.KVal
public import proofs.«01_k».proof.Proof.RVal

@[expose] public section

set_option maxRecDepth 16384

noncomputable section

namespace Cert.Proof

open Idealize.ShloMosaic Idealize.SL.Sem

theorem frame_p : Cert.quiescent_Kernel := fun m g _ => Cert.Kernel.Gen.frame m g

theorem frame_pi : Cert.quiescent_KernelIdeal := fun m g _ => Cert.KernelIdeal.Gen.frame m g

theorem frame_ri : Cert.quiescent_ReferenceIdeal := fun m g _ => Cert.ReferenceIdeal.Gen.frame m g

theorem preserves : Cert.preserves_Kernel_KernelIdeal := trivial

theorem algebraic : Cert.algebraic_KernelIdeal_ReferenceIdeal := by
  intro m g m' g' _ hagree
  refine ⟨_, _, _, _, _, _, Cert.KernelIdeal.Gen.run_value m g, ?_⟩
  refine (θ_run _ _ _).mono (fun r h c => ?_) (Cert.ReferenceIdeal.Gen.run_value m' g')
  obtain ⟨a0, a1, a2, a3, a4, a5, a6, a7, a8, a9, a10, a11⟩ := hagree c
  have hR : Cert.ReferenceIdeal.Gen.RW m' c = Cert.KernelIdeal.Gen.RW m c := by
    unfold Cert.ReferenceIdeal.Gen.RW Cert.KernelIdeal.Gen.RW Cert.ReferenceIdeal.Gen.aX Cert.ReferenceIdeal.Gen.aC Cert.ReferenceIdeal.Gen.aW Cert.ReferenceIdeal.Gen.aS Cert.ReferenceIdeal.Gen.aB
    rw [a0, a1, a2, a3, a4]
  have hV : Cert.ReferenceIdeal.Gen.VEL m' c = Cert.KernelIdeal.Gen.VEL m c := by
    unfold Cert.ReferenceIdeal.Gen.VEL Cert.KernelIdeal.Gen.VEL
    rw [hR]
    unfold Cert.ReferenceIdeal.Gen.aP Cert.ReferenceIdeal.Gen.aws Cert.ReferenceIdeal.Gen.abo Cert.ReferenceIdeal.Gen.ag
    rw [a5, a6, a7, a8]
  obtain ⟨h0, h1, h2, h3, h4, h5, hargs⟩ := h c
  refine ⟨h0.trans ?_, h1.trans ?_, h2.trans ?_, h3.trans ?_, h4.trans ?_, h5.trans ?_, hargs⟩
  · rw [hV]
    unfold Cert.ReferenceIdeal.Gen.at0 Cert.ReferenceIdeal.Gen.atn Cert.ReferenceIdeal.Gen.alat
    rw [a9, a10, a11]
  · rw [hV]
  · exact congrArg Forms.cc a1
  · exact congrArg Forms.cs a1
  · rw [hR]
  · rw [hR]

theorem claim : Cert.Claim :=
  ⟨Cert.Kernel.Gen.facts, Cert.KernelIdeal.Gen.facts, Cert.ReferenceIdeal.Gen.facts, frame_p, frame_pi, frame_ri, preserves, algebraic⟩

end Cert.Proof

end
